-- ==== Defs.lean ====
def Pre_Kernel [hPre_lists_in_range : Cert.Pre_lists_in_range.Facts] (m : (ℓ : Loc Cert.Kernel.nD Cert.Kernel.τ Cert.Kernel.sig) → Buf (Elt Bits) ℓ) : Prop :=
  ∀ c : Dev Cert.Kernel.nD,
    (Cert.Pre_lists_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lists_in_range : Cert.Pre_lists_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lists_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lists_in_range [hPre_lists_in_range : Cert.Pre_lists_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lists_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lists_in_range : Cert.Pre_lists_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lists_in_range : Cert.Pre_lists_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lists_in_range [hReferenceIdeal : Cert.ReferenceIdeal.Facts] [hPre_lists_in_range : Cert.Pre_lists_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lists_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_rows_used [hKernelIdeal : Cert.KernelIdeal.Facts] [hReferenceIdeal : Cert.ReferenceIdeal.Facts] [hPre_lists_in_range : Cert.Pre_lists_in_range.Facts] [hOn_rows_used : Cert.On_rows_used.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![983040, 128]⟩ : Shape).Idx, (Cert.On_rows_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![983040, 128]⟩ : Shape).Idx, (Cert.On_rows_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v84) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lists_in_range : Cert.Pre_lists_in_range.Facts) (hOn_rows_used : Cert.On_rows_used.Facts),
    quiescent_Kernel (hKernel := hKernel) (hPre_lists_in_range := hPre_lists_in_range)
    ∧ quiescent_KernelIdeal (hKernelIdeal := hKernelIdeal) (hPre_lists_in_range := hPre_lists_in_range)
    ∧ quiescent_ReferenceIdeal (hReferenceIdeal := hReferenceIdeal)
    ∧ quiescent_ReferenceIdeal_pre_lists_in_range (hReferenceIdeal := hReferenceIdeal) (hPre_lists_in_range := hPre_lists_in_range)
    ∧ preserves_Kernel_KernelIdeal
    ∧ algebraic_KernelIdeal_ReferenceIdeal_on_rows_used (hKernelIdeal := hKernelIdeal) (hReferenceIdeal := hReferenceIdeal) (hPre_lists_in_range := hPre_lists_in_range) (hOn_rows_used := hOn_rows_used)
-- ==== On_rows_used.lean ====
abbrev S1x256 : Shape := ⟨2, ![1, 256]⟩
abbrev S160x2x128 : Shape := ⟨3, ![160, 2, 128]⟩
abbrev S65536x128 : Shape := ⟨2, ![65536, 128]⟩
abbrev S32x1024x2048 : Shape := ⟨3, ![32, 1024, 2048]⟩
abbrev S32x16x2048 : Shape := ⟨3, ![32, 16, 2048]⟩
abbrev S32x512x2048 : Shape := ⟨3, ![32, 512, 2048]⟩
abbrev S32x8x2048 : Shape := ⟨3, ![32, 8, 2048]⟩
abbrev S160x256x24x128 : Shape := ⟨4, ![160, 256, 24, 128]⟩
abbrev S1x160 : Shape := ⟨2, ![1, 160]⟩
abbrev S160 : Shape := ⟨1, ![160]⟩
abbrev S160x1x1x1 : Shape := ⟨4, ![160, 1, 1, 1]⟩
abbrev S_ : Shape := ⟨0, ![]⟩
abbrev S1x1 : Shape := ⟨2, ![1, 1]⟩
abbrev S983040x128 : Shape := ⟨2, ![983040, 128]⟩

class Facts : Prop where
  slices_S1x256_S1x160_0_0 : S1x256.Slices ![0, 0] S1x160
  shapeCasts_S1x160_S160 : S1x160.ShapeCasts S160
  shapeCasts_S160_S160x1x1x1 : S160.ShapeCasts S160x1x1x1
  bcast_S160x1x1x1_S160x256x24x128_0_1_2_3 : S160x1x1x1.BroadcastsInDim S160x256x24x128 (![0, 1, 2, 3] : Fin 4 → Fin S160x256x24x128.rank)
  bcast_S_S160x256x24x128 : S_.BroadcastsInDim S160x256x24x128 (![] : Fin 0 → Fin S160x256x24x128.rank)
  slices_S1x256_S1x1_0_255 : S1x256.Slices ![0, 255] S1x1
  shapeCasts_S1x1_S_ : S1x1.ShapeCasts S_
  shapeCasts_S160x256x24x128_S983040x128 : S160x256x24x128.ShapeCasts S983040x128

variable [Facts]

def fn_part1 {F : FTy → Type} [FloatOps F] (main_v20 : IVec S160x256x24x128 1) : IVec S983040x128 1 :=
  let main_v21 : IVec S983040x128 1 := shapeCast S983040x128 main_v20 shapeCasts_S160x256x24x128_S983040x128
  main_v21

def fn {F : FTy → Type} [FloatOps F] (main_arg0 : IVec S1x256 32) (main_arg1 : IVec S160x2x128 32) (main_arg2 : FVec F S160x2x128 .f32) (main_arg3 : IVec S65536x128 32) (main_arg4 : IVec S32x1024x2048 8) (main_arg5 : FVec F S32x16x2048 .bf16) (main_arg6 : IVec S32x512x2048 8) (main_arg7 : FVec F S32x8x2048 .bf16) : IVec S983040x128 1 :=
  let main_v0 : IVec S160x256x24x128 32 := iotaInDim S160x256x24x128 32 2
  let main_v1 : IVec S160x256x24x128 32 := iotaInDim S160x256x24x128 32 1
  let main_v2 : IVec S160x256x24x128 32 := iotaInDim S160x256x24x128 32 0
  let main_v3 : IVec S1x160 32 := (extractStridedSlice S1x160 ![0, 0] · slices_S1x256_S1x160_0_0) main_arg0
  let main_v4 : IVec S160 32 := shapeCast S160 main_v3 shapeCasts_S1x160_S160
  let main_v5 : IVec S160x1x1x1 32 := shapeCast S160x1x1x1 main_v4 shapeCasts_S160_S160x1x1x1
  let main_v6 : IVec S160x256x24x128 32 := broadcastInDim S160x256x24x128 ![0, 1, 2, 3] bcast_S160x1x1x1_S160x256x24x128_0_1_2_3 main_v5
  let main_c : IVec S_ 32 := constantI S_ 32 256#32
  let main_v7 : IVec S160x256x24x128 32 := broadcastInDim S160x256x24x128 ![] bcast_S_S160x256x24x128 main_c
  let main_v8 : IVec S160x256x24x128 1 := cmpi .sge main_v6 main_v7
  let main_v9 : IVec S1x1 32 := (extractStridedSlice S1x1 ![0, 255] · slices_S1x256_S1x1_0_255) main_arg0
  let main_v10 : IVec S_ 32 := shapeCast S_ main_v9 shapeCasts_S1x1_S_
  let main_v11 : IVec S160x256x24x128 32 := broadcastInDim S160x256x24x128 ![] bcast_S_S160x256x24x128 main_v10
  let main_v12 : IVec S160x256x24x128 1 := cmpi .slt main_v2 main_v11
  let main_c_0 : IVec S_ 32 := constantI S_ 32 16#32
  let main_v13 : IVec S160x256x24x128 32 := broadcastInDim S160x256x24x128 ![] bcast_S_S160x256x24x128 main_c_0
  let main_v14 : IVec S160x256x24x128 1 := cmpi .slt main_v0 main_v13
  let main_v15 : IVec S160x256x24x128 1 := andi main_v12 main_v14
  let main_c_1 : IVec S_ 32 := constantI S_ 32 128#32
  let main_v16 : IVec S160x256x24x128 32 := broadcastInDim S160x256x24x128 ![] bcast_S_S160x256x24x128 main_c_1
  let main_v17 : IVec S160x256x24x128 1 := cmpi .slt main_v1 main_v16
  let main_v18 : IVec S160x256x24x128 1 := noti main_v8
  let main_v19 : IVec S160x256x24x128 1 := ori main_v17 main_v18
  let main_v20 : IVec S160x256x24x128 1 := andi main_v15 main_v19
  fn_part1 (F := F) main_v20
-- ==== Pre_lists_in_range.lean ====
abbrev S1x256 : Shape := ⟨2, ![1, 256]⟩
abbrev S160x2x128 : Shape := ⟨3, ![160, 2, 128]⟩
abbrev S65536x128 : Shape := ⟨2, ![65536, 128]⟩
abbrev S32x1024x2048 : Shape := ⟨3, ![32, 1024, 2048]⟩
abbrev S32x16x2048 : Shape := ⟨3, ![32, 16, 2048]⟩
abbrev S32x512x2048 : Shape := ⟨3, ![32, 512, 2048]⟩
abbrev S32x8x2048 : Shape := ⟨3, ![32, 8, 2048]⟩
abbrev S1x160 : Shape := ⟨2, ![1, 160]⟩
abbrev S1x1 : Shape := ⟨2, ![1, 1]⟩
abbrev S_ : Shape := ⟨0, ![]⟩

class Facts : Prop where
  slices_S1x256_S1x160_0_0 : S1x256.Slices ![0, 0] S1x160
  slices_S1x256_S1x1_0_255 : S1x256.Slices ![0, 255] S1x1
  shapeCasts_S1x1_S_ : S1x1.ShapeCasts S_
  bcast_S_S1x160 : S_.BroadcastsInDim S1x160 (![] : Fin 0 → Fin S1x160.rank)
  reducesTo_S1x160_S_d0_1 : S1x160.ReducesTo [0, 1] S_
  h_S_ : 0 < S_.numel
  bcast_S_S160x2x128 : S_.BroadcastsInDim S160x2x128 (![] : Fin 0 → Fin S160x2x128.rank)
  reducesTo_S160x2x128_S_d0_1_2 : S160x2x128.ReducesTo [0, 1, 2] S_

variable [Facts]

def fn_part1 {F : FTy → Type} [FloatOps F] (main_arg1 : IVec S160x2x128 32) (main_v11 : IVec S_ 1) (main_v16 : IVec S_ 1) : IVec S_ 1 :=
  let main_v17 : IVec S_ 1 := andi main_v11 main_v16
  let main_c_6 : IVec S_ 32 := constantI S_ 32 0#32
  let main_v18 : IVec S160x2x128 32 := broadcastInDim S160x2x128 ![] bcast_S_S160x2x128 main_c_6
  let main_v19 : IVec S160x2x128 1 := cmpi .sge main_arg1 main_v18
  let main_c_7 : IVec S_ 1 := constantI S_ 1 1#1
  let main_v20 : IVec S_ 1 := (fun x v => Host.reduce IntOp.andi x v reducesTo_S160x2x128_S_d0_1_2 h_S_) main_v19 main_c_7
  let main_v21 : IVec S_ 1 := andi main_v17 main_v20
  let main_c_8 : IVec S_ 32 := constantI S_ 32 8192#32
  let main_v22 : IVec S160x2x128 32 := broadcastInDim S160x2x128 ![] bcast_S_S160x2x128 main_c_8
  let main_v23 : IVec S160x2x128 1 := cmpi .slt main_arg1 main_v22
  let main_c_9 : IVec S_ 1 := constantI S_ 1 1#1
  let main_v24 : IVec S_ 1 := (fun x v => Host.reduce IntOp.andi x v reducesTo_S160x2x128_S_d0_1_2 h_S_) main_v23 main_c_9
  let main_v25 : IVec S_ 1 := andi main_v21 main_v24
  main_v25

def fn {F : FTy → Type} [FloatOps F] (main_arg0 : IVec S1x256 32) (main_arg1 : IVec S160x2x128 32) (main_arg2 : FVec F S160x2x128 .f32) (main_arg3 : IVec S65536x128 32) (main_arg4 : IVec S32x1024x2048 8) (main_arg5 : FVec F S32x16x2048 .bf16) (main_arg6 : IVec S32x512x2048 8) (main_arg7 : FVec F S32x8x2048 .bf16) : IVec S_ 1 :=
  let main_v0 : IVec S1x160 32 := (extractStridedSlice S1x160 ![0, 0] · slices_S1x256_S1x160_0_0) main_arg0
  let main_v1 : IVec S1x1 32 := (extractStridedSlice S1x1 ![0, 255] · slices_S1x256_S1x1_0_255) main_arg0
  let main_v2 : IVec S_ 32 := shapeCast S_ main_v1 shapeCasts_S1x1_S_
  let main_c : IVec S_ 32 := constantI S_ 32 1#32
  let main_v3 : IVec S_ 1 := cmpi .sge main_v2 main_c
  let main_v4 : IVec S1x1 32 := (extractStridedSlice S1x1 ![0, 255] · slices_S1x256_S1x1_0_255) main_arg0
  let main_v5 : IVec S_ 32 := shapeCast S_ main_v4 shapeCasts_S1x1_S_
  let main_c_0 : IVec S_ 32 := constantI S_ 32 160#32
  let main_v6 : IVec S_ 1 := cmpi .sle main_v5 main_c_0
  let main_v7 : IVec S_ 1 := andi main_v3 main_v6
  let main_c_1 : IVec S_ 32 := constantI S_ 32 0#32
  let main_v8 : IVec S1x160 32 := broadcastInDim S1x160 ![] bcast_S_S1x160 main_c_1
  let main_v9 : IVec S1x160 1 := cmpi .sge main_v0 main_v8
  let main_c_2 : IVec S_ 1 := constantI S_ 1 1#1
  let main_v10 : IVec S_ 1 := (fun x v => Host.reduce IntOp.andi x v reducesTo_S1x160_S_d0_1 h_S_) main_v9 main_c_2
  let main_v11 : IVec S_ 1 := andi main_v7 main_v10
  let main_c_3 : IVec S_ 32 := constantI S_ 32 256#32
  let main_v12 : IVec S1x160 32 := broadcastInDim S1x160 ![] bcast_S_S1x160 main_c_3
  let main_v13 : IVec S1x160 32 := Host.remsi main_v0 main_v12
  let main_c_4 : IVec S_ 32 := constantI S_ 32 32#32
  let main_v14 : IVec S1x160 32 := broadcastInDim S1x160 ![] bcast_S_S1x160 main_c_4
  let main_v15 : IVec S1x160 1 := cmpi .slt main_v13 main_v14
  let main_c_5 : IVec S_ 1 := constantI S_ 1 1#1
  let main_v16 : IVec S_ 1 := (fun x v => Host.reduce IntOp.andi x v reducesTo_S1x160_S_d0_1 h_S_) main_v15 main_c_5
  fn_part1 (F := F) main_arg1 main_v11 main_v16
-- ==== Kernel.lean ====
abbrev S1x256 : Shape := ⟨2, ![1, 256]⟩
abbrev S160x2x128 : Shape := ⟨3, ![160, 2, 128]⟩
abbrev S65536x128 : Shape := ⟨2, ![65536, 128]⟩
abbrev S32x1024x2048 : Shape := ⟨3, ![32, 1024, 2048]⟩
abbrev S32x16x2048 : Shape := ⟨3, ![32, 16, 2048]⟩
abbrev S32x512x2048 : Shape := ⟨3, ![32, 512, 2048]⟩
abbrev S32x8x2048 : Shape := ⟨3, ![32, 8, 2048]⟩
abbrev S983040x128 : Shape := ⟨2, ![983040, 128]⟩
abbrev S1x2x128 : Shape := ⟨3, ![1, 2, 128]⟩
abbrev S1x1 : Shape := ⟨2, ![1, 1]⟩
abbrev S1x1024x2048 : Shape := ⟨3, ![1, 1024, 2048]⟩
abbrev S1x16x2048 : Shape := ⟨3, ![1, 16, 2048]⟩
abbrev S1x512x2048 : Shape := ⟨3, ![1, 512, 2048]⟩
abbrev S1x8x2048 : Shape := ⟨3, ![1, 8, 2048]⟩
abbrev S6144x128 : Shape := ⟨2, ![6144, 128]⟩
abbrev S2x2048x128 : Shape := ⟨3, ![2, 2048, 128]⟩
abbrev S256x1024 : Shape := ⟨2, ![256, 1024]⟩
abbrev S_ : Shape := ⟨0, ![]⟩
abbrev S1x1x1 : Shape := ⟨3, ![1, 1, 1]⟩
abbrev S8x128 : Shape := ⟨2, ![8, 128]⟩
abbrev S1x8x128 : Shape := ⟨3, ![1, 8, 128]⟩
abbrev S1x256x128 : Shape := ⟨3, ![1, 256, 128]⟩
abbrev S256x128 : Shape := ⟨2, ![256, 128]⟩
abbrev S256x2048 : Shape := ⟨2, ![256, 2048]⟩
abbrev S1x64x512 : Shape := ⟨3, ![1, 64, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x1x512 : Shape := ⟨3, ![1, 1, 512]⟩
abbrev S1x512 : Shape := ⟨2, ![1, 512]⟩
abbrev S2048x512 : Shape := ⟨2, ![2048, 512]⟩
abbrev S256x512 : Shape := ⟨2, ![256, 512]⟩
abbrev S2x128 : Shape := ⟨2, ![2, 128]⟩
abbrev S6x128 : Shape := ⟨2, ![6, 128]⟩
abbrev S128x8 : Shape := ⟨2, ![128, 8]⟩
abbrev S128x1 : Shape := ⟨2, ![128, 1]⟩
abbrev S256x1 : Shape := ⟨2, ![256, 1]⟩
abbrev S1024x512 : Shape := ⟨2, ![1024, 512]⟩
abbrev S1x128x128 : Shape := ⟨3, ![1, 128, 128]⟩
abbrev S128x128 : Shape := ⟨2, ![128, 128]⟩
abbrev S128x2048 : Shape := ⟨2, ![128, 2048]⟩
abbrev S128x1024 : Shape := ⟨2, ![128, 1024]⟩

abbrev nBuf : Space → Nat
  | .hbm => 8
  | .vmem => 15
  | .smem => 4
  | _ => 0

abbrev bufTy : (tb : Table) → Fin (tcTables nBuf tb) → BufTy
  | .hbm, ⟨0, _⟩ => ⟨S160x2x128, .i32⟩
  | .hbm, ⟨1, _⟩ => ⟨S160x2x128, .f32⟩
  | .hbm, ⟨2, _⟩ => ⟨S65536x128, .i32⟩
  | .hbm, ⟨3, _⟩ => ⟨S32x1024x2048, .i8⟩
  | .hbm, ⟨4, _⟩ => ⟨S32x16x2048, .bf16⟩
  | .hbm, ⟨5, _⟩ => ⟨S32x512x2048, .i8⟩
  | .hbm, ⟨6, _⟩ => ⟨S32x8x2048, .bf16⟩
  | .hbm, ⟨7, _⟩ => ⟨S983040x128, .f32⟩
  | .local _ .vmem, ⟨0, _⟩ => ⟨S1x2x128, .f32⟩
  | .local _ .vmem, ⟨1, _⟩ => ⟨S1x2x128, .f32⟩
  | .local _ .vmem, ⟨2, _⟩ => ⟨S1x1024x2048, .i8⟩
  | .local _ .vmem, ⟨3, _⟩ => ⟨S1x1024x2048, .i8⟩
  | .local _ .vmem, ⟨4, _⟩ => ⟨S1x16x2048, .bf16⟩
  | .local _ .vmem, ⟨5, _⟩ => ⟨S1x16x2048, .bf16⟩
  | .local _ .vmem, ⟨6, _⟩ => ⟨S1x512x2048, .i8⟩
  | .local _ .vmem, ⟨7, _⟩ => ⟨S1x512x2048, .i8⟩
  | .local _ .vmem, ⟨8, _⟩ => ⟨S1x8x2048, .bf16⟩
  | .local _ .vmem, ⟨9, _⟩ => ⟨S1x8x2048, .bf16⟩
  | .local _ .vmem, ⟨10, _⟩ => ⟨S6144x128, .f32⟩
  | .local _ .vmem, ⟨11, _⟩ => ⟨S6144x128, .f32⟩
  | .local _ .vmem, ⟨12, _⟩ => ⟨S65536x128, .i32⟩
  | .local _ .vmem, ⟨13, _⟩ => ⟨S2x2048x128, .i32⟩
  | .local _ .vmem, ⟨14, _⟩ => ⟨S256x1024, .bf16⟩
  | .local _ .smem, ⟨0, _⟩ => ⟨S1x256, .i32⟩
  | .local _ .smem, ⟨1, _⟩ => ⟨S1x2x128, .i32⟩
  | .local _ .smem, ⟨2, _⟩ => ⟨S1x2x128, .i32⟩
  | .local _ .smem, ⟨3, _⟩ => ⟨S1x2x128, .i32⟩
  | _, _ => ⟨S160x2x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg0 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![160], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_4 : BitVec 32 := 0#32
  let c256_i32_5 : BitVec 32 := 256#32
  let v18 : BitVec 32 := Scalar.addi c0_i32_4 c256_i32_5
  let c1_i32_6 : BitVec 32 := 1#32
  ⟨c0_i32_4, v18, c1_i32_6⟩
def k0_off2 (k0_t1 : Fin k0_t1_loop.trips) : Fin 3 → Nat :=
  let c0_11 : Index := 0#32
  let c0_i32_9 : BitVec 32 := 0#32
  let c0_i32_4 : BitVec 32 := 0#32
  let c1_i32_6 : BitVec 32 := 1#32
  let arg15 : BitVec 32 := Scf.iv c0_i32_4 c1_i32_6 k0_t1
  let c1_i32_8 : BitVec 32 := 1#32
  let v19 : BitVec 32 := Scalar.muli arg15 c1_i32_8
  let v20 : BitVec 32 := Scalar.addi c0_i32_9 v19
  let c128_i32 : BitVec 32 := 128#32
  let v21 : BitVec 32 := Scalar.divsi v20 c128_i32
  let v23 : Index := Scalar.indexCast v21
  let c128_i32_10 : BitVec 32 := 128#32
  let v22 : BitVec 32 := Scalar.remsi v20 c128_i32_10
  let v24 : Index := Scalar.indexCast v22
  ![0, v23.toNat, v24.toNat]
def k0_mult1 (v25 : BitVec 32) : BitVec 32 :=
  let c8_i32 : BitVec 32 := 8#32
  let v26 : BitVec 32 := Scalar.muli v25 c8_i32
  v26

def k0_off3 (v25 : BitVec 32) : Fin 2 → Nat :=
  let c8_i32 : BitVec 32 := 8#32
  let v26 : BitVec 32 := Scalar.muli v25 c8_i32
  let v27 : BitVec 32 := v26
  let v28 : Index := Scalar.indexCast v27
  let c0_12 : Index := 0#32
  ![v28.toNat, 0]

def k0_chk1 (i : grid0.Coords) (v25 : BitVec 32) : Prop :=
  (∀ (k0_h1 : k0_cond1 i = 1#1), 8 ∣ (k0_mult1 v25).toNat) ∧
  (∀ (k0_h1 : k0_cond1 i = 1#1), ∀ a, (k0_off3 v25) a + S8x128.size a ≤ S65536x128.size a)
theorem k0_mult1_dvd : ∀ (i : grid0.Coords) (v25 : BitVec 32) (k0_hw1 : k0_chk1 i v25), ∀ (k0_h1 : k0_cond1 i = 1#1), 8 ∣ (k0_mult1 v25).toNat := fun i v25 k0_hw1 k0_h1 => k0_hw1.1 k0_h1
theorem k0_off3_inb : ∀ (i : grid0.Coords) (v25 : BitVec 32) (k0_hw1 : k0_chk1 i v25), ∀ (k0_h1 : k0_cond1 i = 1#1), ∀ a, (k0_off3 v25) a + S8x128.size a ≤ S65536x128.size a := fun i v25 k0_hw1 k0_h1 => k0_hw1.2 k0_h1

def k0_mult2 (k0_t1 : Fin k0_t1_loop.trips) : BitVec 32 :=
  let c0_i32_9 : BitVec 32 := 0#32
  let c0_i32_4 : BitVec 32 := 0#32
  let c1_i32_6 : BitVec 32 := 1#32
  let arg15 : BitVec 32 := Scf.iv c0_i32_4 c1_i32_6 k0_t1
  let c1_i32_8 : BitVec 32 := 1#32
  let v19 : BitVec 32 := Scalar.muli arg15 c1_i32_8
  let v20 : BitVec 32 := Scalar.addi c0_i32_9 v19
  let c8_i32_13 : BitVec 32 := 8#32
  let v30 : BitVec 32 := Scalar.muli v20 c8_i32_13
  v30
def k0_off4 (k0_t1 : Fin k0_t1_loop.trips) : Fin 3 → Nat :=
  let c0_14 : Index := 0#32
  let c0_i32_9 : BitVec 32 := 0#32
  let c0_i32_4 : BitVec 32 := 0#32
  let c1_i32_6 : BitVec 32 := 1#32
  let arg15 : BitVec 32 := Scf.iv c0_i32_4 c1_i32_6 k0_t1
  let c1_i32_8 : BitVec 32 := 1#32
  let v19 : BitVec 32 := Scalar.muli arg15 c1_i32_8
  let v20 : BitVec 32 := Scalar.addi c0_i32_9 v19
  let c8_i32_13 : BitVec 32 := 8#32
  let v30 : BitVec 32 := Scalar.muli v20 c8_i32_13
  let v31 : BitVec 32 := v30
  let v32 : Index := Scalar.indexCast v31
  let c0_15 : Index := 0#32
  ![0, v32.toNat, 0]
def k0_off5 (i : grid0.Coords) : Fin 3 → Nat :=
  let arg0 : BitVec 32 := BitVec.ofNat 32 (i 0).val
  let c2_i32 : BitVec 32 := 2#32
  let v1 : BitVec 32 := Scalar.remsi arg0 c2_i32
  let v18 : Index := Scalar.indexCast v1
  let c0_4 : Index := 0#32
  let c0_5 : Index := 0#32
  ![v18.toNat, 0, 0]
def k0_off6 (i : grid0.Coords) : Fin 3 → Nat :=
  let arg0 : BitVec 32 := BitVec.ofNat 32 (i 0).val
  let c2_i32 : BitVec 32 := 2#32
  let v1 : BitVec 32 := Scalar.remsi arg0 c2_i32
  let v29 : Index := Scalar.indexCast v1
  let c1 : Index := 1#32
  let c0_6 : Index := 0#32
  ![v29.toNat, 1, 0]
def k0_off7 (i : grid0.Coords) : Fin 3 → Nat :=
  let arg0 : BitVec 32 := BitVec.ofNat 32 (i 0).val
  let c2_i32 : BitVec 32 := 2#32
  let v1 : BitVec 32 := Scalar.remsi arg0 c2_i32
  let v40 : Index := Scalar.indexCast v1
  let c2 : Index := 2#32
  let c0_9 : Index := 0#32
  ![v40.toNat, 2, 0]
def k0_off8 (i : grid0.Coords) : Fin 3 → Nat :=
  let arg0 : BitVec 32 := BitVec.ofNat 32 (i 0).val
  let c2_i32 : BitVec 32 := 2#32
  let v1 : BitVec 32 := Scalar.remsi arg0 c2_i32
  let v51 : Index := Scalar.indexCast v1
  let c3 : Index := 3#32
  let c0_12 : Index := 0#32
  ![v51.toNat, 3, 0]
def k0_off9 (i : grid0.Coords) : Fin 3 → Nat :=
  let arg0 : BitVec 32 := BitVec.ofNat 32 (i 0).val
  let c2_i32 : BitVec 32 := 2#32
  let v1 : BitVec 32 := Scalar.remsi arg0 c2_i32
  let v62 : Index := Scalar.indexCast v1
  let c4 : Index := 4#32
  let c0_15 : Index := 0#32
  ![v62.toNat, 4, 0]
def k0_off10 (i : grid0.Coords) : Fin 3 → Nat :=
  let arg0 : BitVec 32 := BitVec.ofNat 32 (i 0).val
  let c2_i32 : BitVec 32 := 2#32
  let v1 : BitVec 32 := Scalar.remsi arg0 c2_i32
  let v73 : Index := Scalar.indexCast v1
  let c5 : Index := 5#32
  let c0_18 : Index := 0#32
  ![v73.toNat, 5, 0]
def k0_off11 (i : grid0.Coords) : Fin 3 → Nat :=
  let arg0 : BitVec 32 := BitVec.ofNat 32 (i 0).val
  let c2_i32 : BitVec 32 := 2#32
  let v1 : BitVec 32 := Scalar.remsi arg0 c2_i32
  let v84 : Index := Scalar.indexCast v1
  let c6 : Index := 6#32
  let c0_21 : Index := 0#32
  ![v84.toNat, 6, 0]
def k0_off12 (i : grid0.Coords) : Fin 3 → Nat :=
  let arg0 : BitVec 32 := BitVec.ofNat 32 (i 0).val
  let c2_i32 : BitVec 32 := 2#32
  let v1 : BitVec 32 := Scalar.remsi arg0 c2_i32
  let v95 : Index := Scalar.indexCast v1
  let c7 : Index := 7#32
  let c0_24 : Index := 0#32
  ![v95.toNat, 7, 0]
@[reducible] def k0_t2_loop : Scf.Loop 32 :=
  let c0_i32_27 : BitVec 32 := 0#32
  let c256_i32_28 : BitVec 32 := 256#32
  let v107 : BitVec 32 := Scalar.addi c0_i32_27 c256_i32_28
  let c1_i32_29 : BitVec 32 := 1#32
  ⟨c0_i32_27, v107, c1_i32_29⟩
def k0_off13 (k0_t2 : Fin k0_t2_loop.trips) : Fin 3 → Nat :=
  let c0_920 : Index := 0#32
  let c0_i32_918 : BitVec 32 := 0#32
  let c0_i32_27 : BitVec 32 := 0#32
  let c1_i32_29 : BitVec 32 := 1#32
  let arg15 : BitVec 32 := Scf.iv c0_i32_27 c1_i32_29 k0_t2
  let c1_i32_917 : BitVec 32 := 1#32
  let v1915 : BitVec 32 := Scalar.muli arg15 c1_i32_917
  let v1916 : BitVec 32 := Scalar.addi c0_i32_918 v1915
  let c128_i32 : BitVec 32 := 128#32
  let v1917 : BitVec 32 := Scalar.divsi v1916 c128_i32
  let v1919 : Index := Scalar.indexCast v1917
  let c128_i32_919 : BitVec 32 := 128#32
  let v1918 : BitVec 32 := Scalar.remsi v1916 c128_i32_919
  let v1920 : Index := Scalar.indexCast v1918
  ![0, v1919.toNat, v1920.toNat]
def k0_mult3 (v1921 : BitVec 32) : BitVec 32 :=
  let c8_i32 : BitVec 32 := 8#32
  let v1922 : BitVec 32 := Scalar.muli v1921 c8_i32
  v1922
def k0_cond2 (i : grid0.Coords) (v0 : BitVec 32) (v7 : BitVec 32) : BitVec 1 :=
  let arg0 : BitVec 32 := BitVec.ofNat 32 (i 0).val
  let v9 : BitVec 1 := Scalar.cmpi .slt arg0 v0
  let c256_i32 : BitVec 32 := 256#32
  let v8 : BitVec 1 := Scalar.cmpi .sge v7 c256_i32
  let v_true : BitVec 1 := 1#1
  let v10 : BitVec 1 := Scalar.xori v8 v_true
  let v11 : BitVec 1 := Scalar.andi v9 v10
  let v12 : BitVec 32 := Scalar.extui v11
  let c0_i32_2 : BitVec 32 := 0#32
  let v13 : BitVec 1 := Scalar.cmpi .ne v12 c0_i32_2
  v13

def k0_off14 (v1921 : BitVec 32) : Fin 2 → Nat :=
  let c8_i32 : BitVec 32 := 8#32
  let v1922 : BitVec 32 := Scalar.muli v1921 c8_i32
  let v1923 : BitVec 32 := v1922
  let v1924 : Index := Scalar.indexCast v1923
  let c0_921 : Index := 0#32
  ![v1924.toNat, 0]

def k0_chk2 (i : grid0.Coords) (v0 : BitVec 32) (v7 : BitVec 32) (v1921 : BitVec 32) : Prop :=
  (∀ (k0_h2 : k0_cond2 i v0 v7 = 1#1), 8 ∣ (k0_mult3 v1921).toNat) ∧
  (∀ (k0_h2 : k0_cond2 i v0 v7 = 1#1), ∀ a, (k0_off14 v1921) a + S8x128.size a ≤ S65536x128.size a)
theorem k0_mult3_dvd : ∀ (i : grid0.Coords) (v0 : BitVec 32) (v7 : BitVec 32) (v1921 : BitVec 32) (k0_hw2 : k0_chk2 i v0 v7 v1921), ∀ (k0_h2 : k0_cond2 i v0 v7 = 1#1), 8 ∣ (k0_mult3 v1921).toNat := fun i v0 v7 v1921 k0_hw2 k0_h2 => k0_hw2.1 k0_h2
theorem k0_off14_inb : ∀ (i : grid0.Coords) (v0 : BitVec 32) (v7 : BitVec 32) (v1921 : BitVec 32) (k0_hw2 : k0_chk2 i v0 v7 v1921), ∀ (k0_h2 : k0_cond2 i v0 v7 = 1#1), ∀ a, (k0_off14 v1921) a + S8x128.size a ≤ S65536x128.size a := fun i v0 v7 v1921 k0_hw2 k0_h2 => k0_hw2.2 k0_h2

def k0_mult4 (k0_t2 : Fin k0_t2_loop.trips) : BitVec 32 :=
  let c0_i32_918 : BitVec 32 := 0#32
  let c0_i32_27 : BitVec 32 := 0#32
  let c1_i32_29 : BitVec 32 := 1#32
  let arg15 : BitVec 32 := Scf.iv c0_i32_27 c1_i32_29 k0_t2
  let c1_i32_917 : BitVec 32 := 1#32
  let v1915 : BitVec 32 := Scalar.muli arg15 c1_i32_917
  let v1916 : BitVec 32 := Scalar.addi c0_i32_918 v1915
  let c8_i32_922 : BitVec 32 := 8#32
  let v1926 : BitVec 32 := Scalar.muli v1916 c8_i32_922
  v1926
def k0_off15 (i : grid0.Coords) (k0_t2 : Fin k0_t2_loop.trips) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v1928 : Index := Scalar.indexCast v2
  let c0_i32_918 : BitVec 32 := 0#32
  let c0_i32_27 : BitVec 32 := 0#32
  let c1_i32_29 : BitVec 32 := 1#32
  let arg15 : BitVec 32 := Scf.iv c0_i32_27 c1_i32_29 k0_t2
  let c1_i32_917 : BitVec 32 := 1#32
  let v1915 : BitVec 32 := Scalar.muli arg15 c1_i32_917
  let v1916 : BitVec 32 := Scalar.addi c0_i32_918 v1915
  let c8_i32_922 : BitVec 32 := 8#32
  let v1926 : BitVec 32 := Scalar.muli v1916 c8_i32_922
  let v1927 : BitVec 32 := v1926
  let v1929 : Index := Scalar.indexCast v1927
  let c0_923 : Index := 0#32
  ![v1928.toNat, v1929.toNat, 0]
def k0_off16 (i : grid0.Coords) : Fin 3 → Nat :=
  let arg0 : BitVec 32 := BitVec.ofNat 32 (i 0).val
  let c2_i32 : BitVec 32 := 2#32
  let v1 : BitVec 32 := Scalar.remsi arg0 c2_i32
  let v18 : Index := Scalar.indexCast v1
  let c0_4 : Index := 0#32
  let c0_5 : Index := 0#32
  ![v18.toNat, 0, 0]
def k0_off17 (i : grid0.Coords) : Fin 3 → Nat :=
  let arg0 : BitVec 32 := BitVec.ofNat 32 (i 0).val
  let c2_i32 : BitVec 32 := 2#32
  let v1 : BitVec 32 := Scalar.remsi arg0 c2_i32
  let v29 : Index := Scalar.indexCast v1
  let c1 : Index := 1#32
  let c0_6 : Index := 0#32
  ![v29.toNat, 1, 0]
def k0_off18 (i : grid0.Coords) : Fin 3 → Nat :=
  let arg0 : BitVec 32 := BitVec.ofNat 32 (i 0).val
  let c2_i32 : BitVec 32 := 2#32
  let v1 : BitVec 32 := Scalar.remsi arg0 c2_i32
  let v40 : Index := Scalar.indexCast v1
  let c2 : Index := 2#32
  let c0_9 : Index := 0#32
  ![v40.toNat, 2, 0]
def k0_off19 (i : grid0.Coords) : Fin 3 → Nat :=
  let arg0 : BitVec 32 := BitVec.ofNat 32 (i 0).val
  let c2_i32 : BitVec 32 := 2#32
  let v1 : BitVec 32 := Scalar.remsi arg0 c2_i32
  let v51 : Index := Scalar.indexCast v1
  let c3 : Index := 3#32
  let c0_12 : Index := 0#32
  ![v51.toNat, 3, 0]
def k0_off20 (i : grid0.Coords) : Fin 3 → Nat :=
  let arg0 : BitVec 32 := BitVec.ofNat 32 (i 0).val
  let c2_i32 : BitVec 32 := 2#32
  let v1 : BitVec 32 := Scalar.remsi arg0 c2_i32
  let v62 : Index := Scalar.indexCast v1
  let c4 : Index := 4#32
  let c0_15 : Index := 0#32
  ![v62.toNat, 4, 0]
def k0_off21 (i : grid0.Coords) : Fin 3 → Nat :=
  let arg0 : BitVec 32 := BitVec.ofNat 32 (i 0).val
  let c2_i32 : BitVec 32 := 2#32
  let v1 : BitVec 32 := Scalar.remsi arg0 c2_i32
  let v73 : Index := Scalar.indexCast v1
  let c5 : Index := 5#32
  let c0_18 : Index := 0#32
  ![v73.toNat, 5, 0]
def k0_off22 (i : grid0.Coords) : Fin 3 → Nat :=
  let arg0 : BitVec 32 := BitVec.ofNat 32 (i 0).val
  let c2_i32 : BitVec 32 := 2#32
  let v1 : BitVec 32 := Scalar.remsi arg0 c2_i32
  let v84 : Index := Scalar.indexCast v1
  let c6 : Index := 6#32
  let c0_21 : Index := 0#32
  ![v84.toNat, 6, 0]
def k0_off23 (i : grid0.Coords) : Fin 3 → Nat :=
  let arg0 : BitVec 32 := BitVec.ofNat 32 (i 0).val
  let c2_i32 : BitVec 32 := 2#32
  let v1 : BitVec 32 := Scalar.remsi arg0 c2_i32
  let v95 : Index := Scalar.indexCast v1
  let c7 : Index := 7#32
  let c0_24 : Index := 0#32
  ![v95.toNat, 7, 0]
@[reducible] def k0_t3_loop : Scf.Loop 32 :=
  let c0_i32_27 : BitVec 32 := 0#32
  let c256_i32_28 : BitVec 32 := 256#32
  let v107 : BitVec 32 := Scalar.addi c0_i32_27 c256_i32_28
  let c1_i32_29 : BitVec 32 := 1#32
  ⟨c0_i32_27, v107, c1_i32_29⟩
def k0_off24 (k0_t3 : Fin k0_t3_loop.trips) : Fin 3 → Nat :=
  let c0_920 : Index := 0#32
  let c0_i32_918 : BitVec 32 := 0#32
  let c0_i32_27 : BitVec 32 := 0#32
  let c1_i32_29 : BitVec 32 := 1#32
  let arg15 : BitVec 32 := Scf.iv c0_i32_27 c1_i32_29 k0_t3
  let c1_i32_917 : BitVec 32 := 1#32
  let v1913 : BitVec 32 := Scalar.muli arg15 c1_i32_917
  let v1914 : BitVec 32 := Scalar.addi c0_i32_918 v1913
  let c128_i32 : BitVec 32 := 128#32
  let v1915 : BitVec 32 := Scalar.divsi v1914 c128_i32
  let v1917 : Index := Scalar.indexCast v1915
  let c128_i32_919 : BitVec 32 := 128#32
  let v1916 : BitVec 32 := Scalar.remsi v1914 c128_i32_919
  let v1918 : Index := Scalar.indexCast v1916
  ![0, v1917.toNat, v1918.toNat]
def k0_mult5 (v1919 : BitVec 32) : BitVec 32 :=
  let c8_i32 : BitVec 32 := 8#32
  let v1920 : BitVec 32 := Scalar.muli v1919 c8_i32
  v1920
def k0_cond3 (i : grid0.Coords) (v0 : BitVec 32) (v7 : BitVec 32) : BitVec 1 :=
  let arg0 : BitVec 32 := BitVec.ofNat 32 (i 0).val
  let v14 : BitVec 1 := Scalar.cmpi .slt arg0 v0
  let c256_i32 : BitVec 32 := 256#32
  let v8 : BitVec 1 := Scalar.cmpi .sge v7 c256_i32
  let v15 : BitVec 1 := Scalar.andi v14 v8
  let v16 : BitVec 32 := Scalar.extui v15
  let c0_i32_3 : BitVec 32 := 0#32
  let v17 : BitVec 1 := Scalar.cmpi .ne v16 c0_i32_3
  v17

def k0_off25 (v1919 : BitVec 32) : Fin 2 → Nat :=
  let c8_i32 : BitVec 32 := 8#32
  let v1920 : BitVec 32 := Scalar.muli v1919 c8_i32
  let v1921 : BitVec 32 := v1920
  let v1922 : Index := Scalar.indexCast v1921
  let c0_921 : Index := 0#32
  ![v1922.toNat, 0]

def k0_chk3 (i : grid0.Coords) (v0 : BitVec 32) (v7 : BitVec 32) (v1919 : BitVec 32) : Prop :=
  (∀ (k0_h3 : k0_cond3 i v0 v7 = 1#1), 8 ∣ (k0_mult5 v1919).toNat) ∧
  (∀ (k0_h3 : k0_cond3 i v0 v7 = 1#1), ∀ a, (k0_off25 v1919) a + S8x128.size a ≤ S65536x128.size a)
theorem k0_mult5_dvd : ∀ (i : grid0.Coords) (v0 : BitVec 32) (v7 : BitVec 32) (v1919 : BitVec 32) (k0_hw3 : k0_chk3 i v0 v7 v1919), ∀ (k0_h3 : k0_cond3 i v0 v7 = 1#1), 8 ∣ (k0_mult5 v1919).toNat := fun i v0 v7 v1919 k0_hw3 k0_h3 => k0_hw3.1 k0_h3
theorem k0_off25_inb : ∀ (i : grid0.Coords) (v0 : BitVec 32) (v7 : BitVec 32) (v1919 : BitVec 32) (k0_hw3 : k0_chk3 i v0 v7 v1919), ∀ (k0_h3 : k0_cond3 i v0 v7 = 1#1), ∀ a, (k0_off25 v1919) a + S8x128.size a ≤ S65536x128.size a := fun i v0 v7 v1919 k0_hw3 k0_h3 => k0_hw3.2 k0_h3

def k0_mult6 (k0_t3 : Fin k0_t3_loop.trips) : BitVec 32 :=
  let c0_i32_918 : BitVec 32 := 0#32
  let c0_i32_27 : BitVec 32 := 0#32
  let c1_i32_29 : BitVec 32 := 1#32
  let arg15 : BitVec 32 := Scf.iv c0_i32_27 c1_i32_29 k0_t3
  let c1_i32_917 : BitVec 32 := 1#32
  let v1913 : BitVec 32 := Scalar.muli arg15 c1_i32_917
  let v1914 : BitVec 32 := Scalar.addi c0_i32_918 v1913
  let c8_i32_922 : BitVec 32 := 8#32
  let v1924 : BitVec 32 := Scalar.muli v1914 c8_i32_922
  v1924
def k0_off26 (i : grid0.Coords) (k0_t3 : Fin k0_t3_loop.trips) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v1926 : Index := Scalar.indexCast v2
  let c0_i32_918 : BitVec 32 := 0#32
  let c0_i32_27 : BitVec 32 := 0#32
  let c1_i32_29 : BitVec 32 := 1#32
  let arg15 : BitVec 32 := Scf.iv c0_i32_27 c1_i32_29 k0_t3
  let c1_i32_917 : BitVec 32 := 1#32
  let v1913 : BitVec 32 := Scalar.muli arg15 c1_i32_917
  let v1914 : BitVec 32 := Scalar.addi c0_i32_918 v1913
  let c8_i32_922 : BitVec 32 := 8#32
  let v1924 : BitVec 32 := Scalar.muli v1914 c8_i32_922
  let v1925 : BitVec 32 := v1924
  let v1927 : Index := Scalar.indexCast v1925
  let c0_923 : Index := 0#32
  ![v1926.toNat, v1927.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1x256_S1x1_0_255 : ∀ a, (![0, 255] : Fin 2 → Nat) a + S1x1.size a ≤ S1x256.size a) (numel1_S1x1 : S1x1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.addi arg0 c1_i32
  let c0 : Index := 0#32
  let c255 : Index := 255#32
  let v1 : BitVec 32 := pf.at 0 (Rect.unit (s := S1x256) ![0, 255] S1x1.size inb_S1x256_S1x1_0_255) numel1_S1x1
  let c1_i32_0 : BitVec 32 := 1#32
  let v2 : BitVec 32 := Scalar.subi v1 c1_i32_0
  let v3 : BitVec 32 := Scalar.minsi v0 v2
  let c0_i32 : BitVec 32 := 0#32
  let c0_i32_1 : BitVec 32 := 0#32
  let c0_i32_2 : BitVec 32 := 0#32
  ![v3.toNat, c0_i32.toNat, c0_i32_1.toNat]

def cc0_transform_2 (inb_S1x256_S1x1_0_255 : ∀ a, (![0, 255] : Fin 2 → Nat) a + S1x1.size a ≤ S1x256.size a) (numel1_S1x1 : S1x1.numel = 1) (pf : pre0.Contents (Elt F)) (i : grid0.Coords) : Fin 3 → Nat :=
  let arg0 : BitVec 32 := BitVec.ofNat 32 (i 0).val
  let c0 : Index := 0#32
  let c255 : Index := 255#32
  let v0 : BitVec 32 := pf.at 0 (Rect.unit (s := S1x256) ![0, 255] S1x1.size inb_S1x256_S1x1_0_255) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1x1.size a ≤ S1x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S1x256) ![0, v0.toNat] S1x1.size (k0_off1_inb i)) numel1_S1x1
  let c256_i32 : BitVec 32 := 256#32
  let v2 : BitVec 32 := Scalar.remsi v1 c256_i32
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ a, (k0_off1 i) a + S1x1.size a ≤ S1x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S1x256) ![0, v0.toNat] S1x1.size (k0_off1_inb i)) numel1_S1x1
  let c256_i32 : BitVec 32 := 256#32
  let v2 : BitVec 32 := Scalar.remsi v1 c256_i32
  let c0_i32 : BitVec 32 := 0#32
  let c0_i32_0 : BitVec 32 := 0#32
  let c0_i32_1 : BitVec 32 := 0#32
  ![v2.toNat, c0_i32.toNat, c0_i32_0.toNat]

def cc0_transform_6 (k0_off1_inb : ∀ i : grid0.Coords, ∀ a, (k0_off1 i) a + S1x1.size a ≤ S1x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S1x256) ![0, v0.toNat] S1x1.size (k0_off1_inb i)) numel1_S1x1
  let c256_i32 : BitVec 32 := 256#32
  let v2 : BitVec 32 := Scalar.remsi v1 c256_i32
  let c0_i32 : BitVec 32 := 0#32
  let c0_i32_0 : BitVec 32 := 0#32
  let c0_i32_1 : BitVec 32 := 0#32
  ![v2.toNat, c0_i32.toNat, c0_i32_0.toNat]

def cc0_transform_7 (k0_off1_inb : ∀ i : grid0.Coords, ∀ a, (k0_off1 i) a + S1x1.size a ≤ S1x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S1x256) ![0, v0.toNat] S1x1.size (k0_off1_inb i)) numel1_S1x1
  let c256_i32 : BitVec 32 := 256#32
  let v2 : BitVec 32 := Scalar.remsi v1 c256_i32
  let c0_i32 : BitVec 32 := 0#32
  let c0_i32_0 : BitVec 32 := 0#32
  let c0_i32_1 : BitVec 32 := 0#32
  ![v2.toNat, c0_i32.toNat, c0_i32_0.toNat]

def cc0_transform_8 (inb_S1x256_S1x1_0_255 : ∀ a, (![0, 255] : Fin 2 → Nat) a + S1x1.size a ≤ S1x256.size a) (numel1_S1x1 : S1x1.numel = 1) (pf : pre0.Contents (Elt F)) (i : grid0.Coords) : Fin 2 → Nat :=
  let arg0 : BitVec 32 := BitVec.ofNat 32 (i 0).val
  let c0 : Index := 0#32
  let c255 : Index := 255#32
  let v0 : BitVec 32 := pf.at 0 (Rect.unit (s := S1x256) ![0, 255] S1x1.size inb_S1x256_S1x1_0_255) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 1 → Memref sig .tc .smem S1x2x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .smem S1x2x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6144x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x256 : Shape := ⟨2, ![1, 256]⟩
abbrev S160x2x128 : Shape := ⟨3, ![160, 2, 128]⟩
abbrev S65536x128 : Shape := ⟨2, ![65536, 128]⟩
abbrev S32x1024x2048 : Shape := ⟨3, ![32, 1024, 2048]⟩
abbrev S32x16x2048 : Shape := ⟨3, ![32, 16, 2048]⟩
abbrev S32x512x2048 : Shape := ⟨3, ![32, 512, 2048]⟩
abbrev S32x8x2048 : Shape := ⟨3, ![32, 8, 2048]⟩
abbrev S_ : Shape := ⟨0, ![]⟩
abbrev S8192x8x128 : Shape := ⟨3, ![8192, 8, 128]⟩
abbrev S8192x8x1x128 : Shape := ⟨4, ![8192, 8, 1, 128]⟩
abbrev S8192x8x2x128 : Shape := ⟨4, ![8192, 8, 2, 128]⟩
abbrev S8192x2048 : Shape := ⟨2, ![8192, 2048]⟩
abbrev S1x160 : Shape := ⟨2, ![1, 160]⟩
abbrev S160 : Shape := ⟨1, ![160]⟩
abbrev S160x256 : Shape := ⟨2, ![160, 256]⟩
abbrev S160x256x1 : Shape := ⟨3, ![160, 256, 1]⟩
abbrev S160x256x2048 : Shape := ⟨3, ![160, 256, 2048]⟩
abbrev S32x1024x1x2048 : Shape := ⟨4, ![32, 1024, 1, 2048]⟩
abbrev S32x1024x2x2048 : Shape := ⟨4, ![32, 1024, 2, 2048]⟩
abbrev S32x16x128x2048 : Shape := ⟨4, ![32, 16, 128, 2048]⟩
abbrev S32x16x1x2048 : Shape := ⟨4, ![32, 16, 1, 2048]⟩
abbrev S32x2048x2048 : Shape := ⟨3, ![32, 2048, 2048]⟩
abbrev S160x1 : Shape := ⟨2, ![160, 1]⟩
abbrev S160x2048x2048 : Shape := ⟨3, ![160, 2048, 2048]⟩
abbrev S32x512x1x2048 : Shape := ⟨4, ![32, 512, 1, 2048]⟩
abbrev S32x512x2x2048 : Shape := ⟨4, ![32, 512, 2, 2048]⟩
abbrev S32x8x128x2048 : Shape := ⟨4, ![32, 8, 128, 2048]⟩
abbrev S32x8x1x2048 : Shape := ⟨4, ![32, 8, 1, 2048]⟩
abbrev S160x1024x2048 : Shape := ⟨3, ![160, 1024, 2048]⟩
abbrev S160x256x1024 : Shape := ⟨3, ![160, 256, 1024]⟩
abbrev S160x256x16x128 : Shape := ⟨4, ![160, 256, 16, 128]⟩
abbrev S160x256x24x128 : Shape := ⟨4, ![160, 256, 24, 128]⟩
abbrev S983040x128 : Shape := ⟨2, ![983040, 128]⟩

abbrev nBuf : Space → Nat
  | .hbm => 118
  | .vmem => 0
  | .smem => 0
  | _ => 0

abbrev bufTy : (tb : Table) → Fin (tcTables nBuf tb) → BufTy
  | .hbm, ⟨0, _⟩ => ⟨S1x256, .i32⟩
  | .hbm, ⟨1, _⟩ => ⟨S160x2x128, .i32⟩
  | .hbm, ⟨2, _⟩ => ⟨S160x2x128, .f32⟩
  | .hbm, ⟨3, _⟩ => ⟨S65536x128, .i32⟩
  | .hbm, ⟨4, _⟩ => ⟨S32x1024x2048, .i8⟩
  | .hbm, ⟨5, _⟩ => ⟨S32x16x2048, .bf16⟩
  | .hbm, ⟨6, _⟩ => ⟨S32x512x2048, .i8⟩
  | .hbm, ⟨7, _⟩ => ⟨S32x8x2048, .bf16⟩
  | .hbm, ⟨8, _⟩ => ⟨S_, .i32⟩
  | .hbm, ⟨9, _⟩ => ⟨S65536x128, .i32⟩
  | .hbm, ⟨10, _⟩ => ⟨S65536x128, .i32⟩
  | .hbm, ⟨11, _⟩ => ⟨S65536x128, .f32⟩
  | .hbm, ⟨12, _⟩ => ⟨S65536x128, .bf16⟩
  | .hbm, ⟨13, _⟩ => ⟨S_, .i32⟩
  | .hbm, ⟨14, _⟩ => ⟨S65536x128, .i32⟩
  | .hbm, ⟨15, _⟩ => ⟨S65536x128, .i32⟩
  | .hbm, ⟨16, _⟩ => ⟨S65536x128, .f32⟩
  | .hbm, ⟨17, _⟩ => ⟨S65536x128, .bf16⟩
  | .hbm, ⟨18, _⟩ => ⟨S8192x8x128, .bf16⟩
  | .hbm, ⟨19, _⟩ => ⟨S8192x8x128, .bf16⟩
  | .hbm, ⟨20, _⟩ => ⟨S8192x8x1x128, .bf16⟩
  | .hbm, ⟨21, _⟩ => ⟨S8192x8x1x128, .bf16⟩
  | .hbm, ⟨22, _⟩ => ⟨S8192x8x2x128, .bf16⟩
  | .hbm, ⟨23, _⟩ => ⟨S8192x2048, .bf16⟩
  | .hbm, ⟨24, _⟩ => ⟨S1x160, .i32⟩
  | .hbm, ⟨25, _⟩ => ⟨S160, .i32⟩
  | .hbm, ⟨26, _⟩ => ⟨S_, .i32⟩
  | .hbm, ⟨27, _⟩ => ⟨S160, .i32⟩
  | .hbm, ⟨28, _⟩ => ⟨S160, .i32⟩
  | .hbm, ⟨29, _⟩ => ⟨S160x256, .i32⟩
  | .hbm, ⟨30, _⟩ => ⟨S_, .i32⟩
  | .hbm, ⟨31, _⟩ => ⟨S160x256, .i32⟩
  | .hbm, ⟨32, _⟩ => ⟨S160x256, .i1⟩
  | .hbm, ⟨33, _⟩ => ⟨S_, .i32⟩
  | .hbm, ⟨34, _⟩ => ⟨S160x256, .i32⟩
  | .hbm, ⟨35, _⟩ => ⟨S160x256, .i32⟩
  | .hbm, ⟨36, _⟩ => ⟨S160x256, .i32⟩
  | .hbm, ⟨37, _⟩ => ⟨S160x256x1, .i32⟩
  | .hbm, ⟨38, _⟩ => ⟨S160x256x2048, .bf16⟩
  | .hbm, ⟨39, _⟩ => ⟨S32x1024x2048, .i32⟩
  | .hbm, ⟨40, _⟩ => ⟨S_, .i32⟩
  | .hbm, ⟨41, _⟩ => ⟨S32x1024x2048, .i32⟩
  | .hbm, ⟨42, _⟩ => ⟨S32x1024x2048, .i32⟩
  | .hbm, ⟨43, _⟩ => ⟨S_, .i32⟩
  | .hbm, ⟨44, _⟩ => ⟨S32x1024x2048, .i32⟩
  | .hbm, ⟨45, _⟩ => ⟨S32x1024x2048, .i32⟩
  | .hbm, ⟨46, _⟩ => ⟨S_, .i32⟩
  | .hbm, ⟨47, _⟩ => ⟨S32x1024x2048, .i32⟩
  | .hbm, ⟨48, _⟩ => ⟨S32x1024x2048, .i32⟩
  | .hbm, ⟨49, _⟩ => ⟨S32x1024x1x2048, .i32⟩
  | .hbm, ⟨50, _⟩ => ⟨S32x1024x1x2048, .i32⟩
  | .hbm, ⟨51, _⟩ => ⟨S32x1024x2x2048, .i32⟩
  | .hbm, ⟨52, _⟩ => ⟨S32x1024x2x2048, .bf16⟩
  | .hbm, ⟨53, _⟩ => ⟨S32x16x128x2048, .bf16⟩
  | .hbm, ⟨54, _⟩ => ⟨S32x16x1x2048, .bf16⟩
  | .hbm, ⟨55, _⟩ => ⟨S32x16x128x2048, .bf16⟩
  | .hbm, ⟨56, _⟩ => ⟨S32x16x128x2048, .bf16⟩
  | .hbm, ⟨57, _⟩ => ⟨S32x2048x2048, .bf16⟩
  | .hbm, ⟨58, _⟩ => ⟨S_, .i32⟩
  | .hbm, ⟨59, _⟩ => ⟨S160, .i32⟩
  | .hbm, ⟨60, _⟩ => ⟨S160, .i1⟩
  | .hbm, ⟨61, _⟩ => ⟨S_, .i32⟩
  | .hbm, ⟨62, _⟩ => ⟨S160, .i32⟩
  | .hbm, ⟨63, _⟩ => ⟨S160, .i32⟩
  | .hbm, ⟨64, _⟩ => ⟨S160, .i32⟩
  | .hbm, ⟨65, _⟩ => ⟨S160x1, .i32⟩
  | .hbm, ⟨66, _⟩ => ⟨S160x2048x2048, .bf16⟩
  | .hbm, ⟨67, _⟩ => ⟨S32x512x2048, .i32⟩
  | .hbm, ⟨68, _⟩ => ⟨S_, .i32⟩
  | .hbm, ⟨69, _⟩ => ⟨S32x512x2048, .i32⟩
  | .hbm, ⟨70, _⟩ => ⟨S32x512x2048, .i32⟩
  | .hbm, ⟨71, _⟩ => ⟨S_, .i32⟩
  | .hbm, ⟨72, _⟩ => ⟨S32x512x2048, .i32⟩
  | .hbm, ⟨73, _⟩ => ⟨S32x512x2048, .i32⟩
  | .hbm, ⟨74, _⟩ => ⟨S_, .i32⟩
  | .hbm, ⟨75, _⟩ => ⟨S32x512x2048, .i32⟩
  | .hbm, ⟨76, _⟩ => ⟨S32x512x2048, .i32⟩
  | .hbm, ⟨77, _⟩ => ⟨S32x512x1x2048, .i32⟩
  | .hbm, ⟨78, _⟩ => ⟨S32x512x1x2048, .i32⟩
  | .hbm, ⟨79, _⟩ => ⟨S32x512x2x2048, .i32⟩
  | .hbm, ⟨80, _⟩ => ⟨S32x512x2x2048, .bf16⟩
  | .hbm, ⟨81, _⟩ => ⟨S32x8x128x2048, .bf16⟩
  | .hbm, ⟨82, _⟩ => ⟨S32x8x1x2048, .bf16⟩
  | .hbm, ⟨83, _⟩ => ⟨S32x8x128x2048, .bf16⟩
  | .hbm, ⟨84, _⟩ => ⟨S32x8x128x2048, .bf16⟩
  | .hbm, ⟨85, _⟩ => ⟨S32x1024x2048, .bf16⟩
  | .hbm, ⟨86, _⟩ => ⟨S_, .i32⟩
  | .hbm, ⟨87, _⟩ => ⟨S160, .i32⟩
  | .hbm, ⟨88, _⟩ => ⟨S160, .i1⟩
  | .hbm, ⟨89, _⟩ => ⟨S_, .i32⟩
  | .hbm, ⟨90, _⟩ => ⟨S160, .i32⟩
  | .hbm, ⟨91, _⟩ => ⟨S160, .i32⟩
  | .hbm, ⟨92, _⟩ => ⟨S160, .i32⟩
  | .hbm, ⟨93, _⟩ => ⟨S160x1, .i32⟩
  | .hbm, ⟨94, _⟩ => ⟨S160x1024x2048, .bf16⟩
  | .hbm, ⟨95, _⟩ => ⟨S160x256x2048, .f32⟩
  | .hbm, ⟨96, _⟩ => ⟨S160x256x1024, .f32⟩
  | .hbm, ⟨97, _⟩ => ⟨S160x256x1024, .f32⟩
  | .hbm, ⟨98, _⟩ => ⟨S160x256x1024, .f32⟩
  | .hbm, ⟨99, _⟩ => ⟨S_, .f32⟩
  | .hbm, ⟨100, _⟩ => ⟨S160x256x1024, .f32⟩
  | .hbm, ⟨101, _⟩ => ⟨S160x256x1024, .f32⟩
  | .hbm, ⟨102, _⟩ => ⟨S_, .f32⟩
  | .hbm, ⟨103, _⟩ => ⟨S160x256x1024, .f32⟩
  | .hbm, ⟨104, _⟩ => ⟨S160x256x1024, .f32⟩
  | .hbm, ⟨105, _⟩ => ⟨S160x256x1024, .f32⟩
  | .hbm, ⟨106, _⟩ => ⟨S160x256x1024, .f32⟩
  | .hbm, ⟨107, _⟩ => ⟨S160x256x1024, .f32⟩
  | .hbm, ⟨108, _⟩ => ⟨S160x256x1024, .bf16⟩
  | .hbm, ⟨109, _⟩ => ⟨S160x256x2048, .f32⟩
  | .hbm, ⟨110, _⟩ => ⟨S160x256x1, .f32⟩
  | .hbm, ⟨111, _⟩ => ⟨S160x256x2048, .f32⟩
  | .hbm, ⟨112, _⟩ => ⟨S160x256x2048, .f32⟩
  | .hbm, ⟨113, _⟩ => ⟨S160x256x16x128, .f32⟩
  | .hbm, ⟨114, _⟩ => ⟨S_, .i32⟩
  | .hbm, ⟨115, _⟩ => ⟨S_, .f32⟩
  | .hbm, ⟨116, _⟩ => ⟨S160x256x24x128, .f32⟩
  | .hbm, ⟨117, _⟩ => ⟨S983040x128, .f32⟩
  | _, _ => ⟨S1x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_12 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_call0_v5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_14 : Ref sig .tc := ⟨.hbm, 114, rfl⟩
abbrev main_call1_v0 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Proof.Ranges.lean ====
/-
  What the precondition says of the launch's two tables, in whole numbers: the tile table holds a count between 1 and 160 and,
  below 160, entries that are not negative and name one of 32 experts modulo 256; the row table names rows below 8192.
-/
module

public import Idealize.ShloMosaic.Lib.ReduceAll
public import Idealize.ShloMosaic.Lib.Pointwise
public import Idealize.ShloMosaic.Lib.StableHlo.Predicate
public import proofs.«01_k».proof.Pre_lists_in_range
public import proofs.«01_k».proof.Proof.Gen.Pre_lists_in_range

@[expose] public section

set_option maxRecDepth 16384

noncomputable section

namespace Cert.Ranges

open Idealize.ShloMosaic Idealize.ShloMosaic.StableHlo.Predicate

abbrev TileS : Shape := ⟨2, ![1, 256]⟩
abbrev RowS : Shape := ⟨3, ![160, 2, 128]⟩

/-- The launch's tables in range. -/
structure InRange (tile : TileS.Idx → BitVec 32) (rows : RowS.Idx → BitVec 32) : Prop where
  count_pos : 1 ≤ (tile (ix2 (0 : Fin 1) (255 : Fin 256))).toNat
  count_le : (tile (ix2 (0 : Fin 1) (255 : Fin 256))).toNat ≤ 160
  entry_lt : ∀ k : Fin 160, (tile (ix2 (0 : Fin 1) (⟨k.val, by omega⟩ : Fin 256))).toNat < 2 ^ 31
  expert_lt : ∀ k : Fin 160, (tile (ix2 (0 : Fin 1) (⟨k.val, by omega⟩ : Fin 256))).toNat % 256 < 32
  row_lt : ∀ j, (rows j).toNat < 8192

/-- A word that is at least a small one, read as signed numbers, is below `2 ^ 31`. -/
theorem lt_of_sge {a : BitVec 32} {k : Nat} (hk : k < 2 ^ 31) (h : IntOp.cmpi .sge a (BitVec.ofNat 32 k) = 1#1) :
    k ≤ a.toNat ∧ a.toNat < 2 ^ 31 := by
  simp only [IntOp.cmpi, ofBool_eq_one_iff, BitVec.sle, toInt_ofNat_small k hk, decide_eq_true_eq] at h
  rw [BitVec.toInt_eq_msb_cond] at h
  have := a.isLt
  split at h
  · omega
  · rename_i hm
    have := BitVec.msb_eq_false_iff_two_mul_lt.mp (Bool.eq_false_iff.mpr hm)
    omega

theorem inRange {F : FTy → Type} [FloatOps F] (x0 : IVec TileS 32) (x1 : IVec RowS 32) (x2 x3 x4 x5 x6 x7)
    (h : Cert.Pre_lists_in_range.fn (F := F) x0 x1 x2 x3 x4 x5 x6 x7 = fun _ => 1#1) : InRange x0 x1 := by
  have e := congrFun h (Shape.Idx.first Cert.Pre_lists_in_range.Facts.h_S_)
  simp only [Cert.Pre_lists_in_range.fn, Cert.Pre_lists_in_range.fn_part1, andi, IntOp.andi_eq_one] at e
  obtain ⟨⟨⟨⟨⟨hc1, hc2⟩, he1⟩, he2⟩, hr1⟩, hr2⟩ := e
  haveI : Subsingleton Cert.Pre_lists_in_range.S_.Idx := ⟨fun a b => funext fun x => x.elim0⟩
  have he1' := Host.reduce_andi_all _ _ _ _ _ he1
  have he2' := Host.reduce_andi_all _ _ _ _ _ he2
  have hr1' := Host.reduce_andi_all _ _ _ _ _ hr1
  have hr2' := Host.reduce_andi_all _ _ _ _ _ hr2
  clear he1 he2 hr1 hr2
  have hcount : ∀ i, shapeCast Cert.Pre_lists_in_range.S_ (extractStridedSlice Cert.Pre_lists_in_range.S1x1 ![0, 255] x0 Cert.Pre_lists_in_range.Facts.slices_S1x256_S1x1_0_255) Cert.Pre_lists_in_range.Facts.shapeCasts_S1x1_S_ i = x0 (ix2 (0 : Fin 1) (255 : Fin 256)) := by
    intro i
    simp only [shapeCast, extractStridedSlice]
    congr 1
    funext a
    fin_cases a
    · exact Subsingleton.elim (α := Fin 1) _ _
    · apply Fin.ext
      have hz : ∀ j : Cert.Pre_lists_in_range.S1x1.Idx, (j 1).val = 0 := fun j => by
        have := (j 1).isLt; simp at this; omega
      simp [hz]
  have hk : ∀ k : Fin 160, extractStridedSlice Cert.Pre_lists_in_range.S1x160 ![0, 0] x0 Cert.Pre_lists_in_range.Facts.slices_S1x256_S1x160_0_0 (ix2 (0 : Fin 1) k) = x0 (ix2 (0 : Fin 1) (⟨k.val, by omega⟩ : Fin 256)) := by
    intro k
    simp only [extractStridedSlice]
    congr 1
    funext a
    fin_cases a
    · exact Subsingleton.elim (α := Fin 1) _ _
    · apply Fin.ext; simp
  have c1 := lt_of_sge (k := 1) (by norm_num) (by simpa only [cmpi, constantI, hcount] using hc1)
  have c2 : IntOp.cmpi .sle (x0 (ix2 (0 : Fin 1) (255 : Fin 256))) 160#32 = 1#1 := by simpa only [cmpi, constantI, hcount] using hc2
  rw [sle_iff_toNat c1.2 (by decide)] at c2
  have hent : ∀ k : Fin 160, (x0 (ix2 (0 : Fin 1) (⟨k.val, by omega⟩ : Fin 256))).toNat < 2 ^ 31 := by
    intro k
    have h1 := he1' (ix2 (0 : Fin 1) k)
    simp only [cmpi] at h1
    rw [hk k] at h1
    exact (lt_of_sge (k := 0) (by norm_num) h1).2
  refine ⟨c1.1, c2, hent, fun k => ?_, fun j => ?_⟩
  · have h1 := he2' (ix2 (0 : Fin 1) k)
    simp only [cmpi, Host.remsi] at h1
    rw [hk k] at h1
    have hr := IntOp.toNat_remsi .host (x := x0 (ix2 (0 : Fin 1) (⟨k.val, by omega⟩ : Fin 256))) (by have := hent k; omega) 256 (by norm_num) (by norm_num)
    have h2 := (slt_iff_toNat (a := IntOp.remsi .host (x0 (ix2 (0 : Fin 1) (⟨k.val, by omega⟩ : Fin 256))) (BitVec.ofNat 32 256)) (b := 32#32) (by rw [hr]; omega) (by decide)).1 h1
    rw [hr] at h2
    exact h2
  · have h1 := lt_of_sge (k := 0) (by norm_num) (hr1' j)
    exact (slt_iff_toNat (b := 8192#32) h1.2 (by decide)).1 (hr2' j)

/-- The smaller of two small words. -/
theorem toNat_minsi {a b : BitVec 32} (ha : a.toNat < 2 ^ 31) (hb : b.toNat < 2 ^ 31) :
    (IntOp.minsi a b).toNat = min a.toNat b.toNat := by
  unfold IntOp.minsi
  have := slt_bool_iff_toNat ha hb
  rw [ofBool_eq_one_iff] at this
  rcases Nat.lt_or_ge a.toNat b.toNat with h | h
  · rw [if_pos (this.2 h), Nat.min_eq_left h.le]
  · rw [if_neg (fun e => by have := this.1 e; omega), Nat.min_eq_right h]

end Cert.Ranges

end
-- ==== Proof.Rows.lean ====
/-
  Gathering rows: what a loop leaves that copies, one row of eight lines a trip, row tok k of an array of 8192 rows to row k of a
  buffer's slot. The buffer's shape, the tables and the array are those of the feed-forward call; nothing here mentions the program.
-/
module

public import Idealize.ShloMosaic.Lib.WritesUnit
public import Idealize.ShloMosaic.Lib.Pointwise

@[expose] public section

noncomputable section

namespace Cert.Rows

open Idealize.ShloMosaic

/-- The buffer of gathered rows: two slots of 256 rows of eight lines. -/
abbrev BufS : Shape := ⟨3, ![2, 2048, 128]⟩
/-- The array gathered from: 8192 rows of eight lines. -/
abbrev ArrS : Shape := ⟨2, ![65536, 128]⟩
/-- A table of 256 row numbers. -/
abbrev TabS : Shape := ⟨3, ![1, 2, 128]⟩

/-- The word that a tile's gathered rows hold on line `b`, lane `l`: of the row that the table lists at `b / 8`. -/
def word (tab : TabS.Idx → BitVec 32) (x : ArrS.Idx → BitVec 32) (b : Fin 2048) (l : Fin 128) : BitVec 32 :=
  x (ix2 ⟨((tab (ix3 0 ⟨b.val / 8 / 128, by omega⟩ ⟨b.val / 8 % 128, Nat.mod_lt _ (by omega)⟩)).toNat * 8 + b.val % 8) % 65536,
    Nat.mod_lt _ (by omega)⟩ l)

/-- Pieces written one row a trip into slot `s`, each holding the row that `row` names there, leave `row` on the rows of the trips
    run and the earlier contents elsewhere. -/
theorem read_pieces {sig : RefSig} {κ : Kind} {sp : Space} {Val : EltTy → Type} {e : EltTy} (v : View sig κ sp BufS e)
    (G : v.ty.Contents Val) (L : Nat → List (View.Piece Val BufS e)) (s : Nat) (row : Fin 2048 → Fin 128 → Val e) (N : Nat)
    (h0 : L 0 = [])
    (hs : ∀ k, k < N → ∃ (off : Fin 3 → Nat) (inb : ∀ a, off a + (![1, 8, 128] : Fin 3 → Nat) a ≤ BufS.size a)
      (pay : (Rect.unit (s := BufS) off ![1, 8, 128] inb).shape.Idx → Val e),
      off = ![s, 8 * k, 0] ∧ L (k + 1) = ⟨Rect.unit off ![1, 8, 128] inb, pay⟩ :: L k ∧
        ∀ (a : Fin 1) (b : Fin 8) (l : Fin 128) (h : 8 * k + b.val < 2048), pay (ix3 a b l) = row ⟨8 * k + b.val, h⟩ l) :
    ∀ n, n ≤ N → ∀ (a : Fin 2) (b : Fin 2048) (l : Fin 128),
      v.read Val (v.writes Val G (L n)) (ix3 a b l) = if a.val = s ∧ b.val < 8 * n then row b l else v.read Val G (ix3 a b l) := by
  intro n
  induction n with
  | zero => intro _ a b l; rw [h0, View.writes_nil, if_neg (by omega)]
  | succ n ih =>
    intro hn a b l
    obtain ⟨off, inb, pay, ho, hL, hp⟩ := hs n (by omega)
    rw [hL]
    by_cases hm : a.val = s ∧ 8 * n ≤ b.val ∧ b.val < 8 * n + 8
    · rw [View.read_writes_cons_unit_of_mem v G inb pay (L n) (ix3 a b l)
        (ix3 (0 : Fin 1) (⟨b.val - 8 * n, by omega⟩ : Fin 8) l) ho]
      · rw [if_pos (by omega), hp 0 ⟨b.val - 8 * n, by omega⟩ l (by simp only; omega)]
        congr 1; exact Fin.ext (by simp only; omega)
      · intro c
        fin_cases c
        · show a.val = s + 0; omega
        · show b.val = 8 * n + (b.val - 8 * n); omega
        · show l.val = 0 + l.val; omega
    · have key : v.read Val (v.writes Val G (⟨Rect.unit off ![1, 8, 128] inb, pay⟩ :: L n)) (ix3 a b l)
          = v.read Val (v.writes Val G (L n)) (ix3 a b l) := by
        by_cases ha : a.val = s
        · exact View.read_writes_cons_unit_of_not_mem v G inb pay (L n) (ix3 a b l) ho 1 (by
            show b.val < 8 * n ∨ 8 * n + 8 ≤ b.val; omega)
        · exact View.read_writes_cons_unit_of_not_mem v G inb pay (L n) (ix3 a b l) ho 0 (by
            show a.val < s ∨ s + 1 ≤ a.val; omega)
      rw [key, ih (by omega)]
      by_cases h1 : a.val = s ∧ b.val < 8 * n
      · rw [if_pos h1, if_pos (by omega)]
      · rw [if_neg h1, if_neg (by omega)]

end Cert.Rows
-- ==== Proof.Gather.lean ====
/-
  The gather loops of the feed-forward kernel: trip k of each copies the row of eight lines that a table lists at k from the
  resident array to row k of one slot of the buffer of gathered rows.
-/
module

public import proofs.«01_k».proof.Proof.Gen.Kernel.Loops
public import proofs.«01_k».proof.Proof.Rows
public import Idealize.ShloMosaic.Lib.Pipeline.ValueKit.Tiles

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- A row number below 8192 passes the first loop's side condition. -/
theorem chk1_of (i : grid0.Coords) (w : BitVec 32) (h : w.toNat < 8192) : k0_chk1 i w := by
  have e : (w * 8#32).toNat = w.toNat * 8 := by
    rw [BitVec.toNat_mul]; exact Nat.mod_eq_of_lt (by show w.toNat * 8 < 4294967296; omega)
  refine ⟨fun _ => ?_, fun _ a => ?_⟩
  · show 8 ∣ (w * 8#32).toNat
    omega
  · fin_cases a
    · show (w * 8#32).toNat + 8 ≤ 65536
      omega
    · show 0 + 128 ≤ 128
      omega

theorem chk2_of (i : grid0.Coords) (v0 v7 w : BitVec 32) (h : w.toNat < 8192) : k0_chk2 i v0 v7 w :=
  have h1 := chk1_of
  have e : (w * 8#32).toNat = w.toNat * 8 := by
    rw [BitVec.toNat_mul]; exact Nat.mod_eq_of_lt (by show w.toNat * 8 < 4294967296; omega)
  ⟨fun _ => (by show 8 ∣ (w * 8#32).toNat; omega), fun _ a => by
    fin_cases a
    · show (w * 8#32).toNat + 8 ≤ 65536
      omega
    · show 0 + 128 ≤ 128
      omega⟩

theorem chk3_of (i : grid0.Coords) (v0 v7 w : BitVec 32) (h : w.toNat < 8192) : k0_chk3 i v0 v7 w :=
  have e : (w * 8#32).toNat = w.toNat * 8 := by
    rw [BitVec.toNat_mul]; exact Nat.mod_eq_of_lt (by show w.toNat * 8 < 4294967296; omega)
  ⟨fun _ => (by show 8 ∣ (w * 8#32).toNat; omega), fun _ a => by
    fin_cases a
    · show (w * 8#32).toNat + 8 ≤ 65536
      omega
    · show 0 + 128 ≤ 128
      omega⟩

section T1

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_) (h1 : k0_cond1 i = 1#1)
  (X2 : BufTy.Contents (Elt F) arg2.view.ty) (X11 : BufTy.Contents (Elt F) arg11.view.ty) (G : BufTy.Contents (Elt F) arg12.view.ty)

/-- The word trip `k` of the first loop reads. -/
abbrev tok1 (k : Fin k0_t1_loop.trips) : BitVec 32 :=
  arg2.view.readAt (Elt F) (Rect.unit (s := S1x2x128) (k0_off2 k) S1x1x1.size (k0_off2_inb i k h1)).toLoadRect X2 (Shape.Idx.first (numel1_S1x1x1.symm ▸ Nat.one_pos))

/-- ONE TRIP of the first loop. -/
theorem trip1 (E : Set ℕ) (k : Fin k0_t1_loop.trips) (hw : k0_chk1 i (tok1 (F := F) i arg2 h1 X2 k)) (f : BufTy.Contents (Elt F) arg12.view.ty) :
    (iprop((arg2.view.loc (c : Thread nD τ) ↦[arg2.view.set]{fullShare} X2) ∗ (arg11.view.loc (c : Thread nD τ) ↦[arg11.view.set]{fullShare} X11)
        ∗ (arg12.view.loc (c : Thread nD τ) ↦[arg12.view.set]{fullShare} f)) : sProp 𝕄D)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 h1 k PUnit.unit)
        (fun _ => iprop((arg2.view.loc (c : Thread nD τ) ↦[arg2.view.set]{fullShare} X2) ∗ (arg11.view.loc (c : Thread nD τ) ↦[arg11.view.set]{fullShare} X11)
          ∗ (arg12.view.loc (c : Thread nD τ) ↦[arg12.view.set]{fullShare} arg12.view.writes (Elt F) f
              [⟨Rect.unit (s := S2x2048x128) (k0_off4 k) S1x8x128.size (k0_off4_inb i k h1),
                k0_pay1 (arg11.view.readAt (Elt F) (Rect.unit (s := S65536x128) (k0_off3 (tok1 (F := F) i arg2 h1 X2 k)) S8x128.size (k0_off3_inb i _ hw h1)).toLoadRect X11)⟩]))) := by
  have hk : k.val < 256 := Nat.lt_of_lt_of_le k.isLt k0_t1_abs.2.1
  unfold k0_t1_body
  iintro ⟨HR2, HR11, HW12⟩
  sl_exec
  sl_step
  sl_close

variable (hw : ∀ (kq : ℕ) (hkq : kq < k0_t1_loop.trips), k0_chk1 i (tok1 (F := F) i arg2 h1 X2 ⟨kq, hkq⟩))

/-- The pieces the trips before `k` write, last first. -/
def pcs1 : ℕ → List (View.Piece (Elt F) S2x2048x128 .i32)
  | 0 => []
  | k + 1 => if h : k < k0_t1_loop.trips then
      ⟨Rect.unit (s := S2x2048x128) (k0_off4 ⟨k, h⟩) S1x8x128.size (k0_off4_inb i ⟨k, h⟩ h1),
        k0_pay1 (arg11.view.readAt (Elt F) (Rect.unit (s := S65536x128) (k0_off3 (tok1 (F := F) i arg2 h1 X2 ⟨k, h⟩)) S8x128.size (k0_off3_inb i _ (hw k h) h1)).toLoadRect X11)⟩ :: pcs1 k
    else pcs1 k

/-- The invariant of the first loop before trip `k`. -/
abbrev inv1 (k : ℕ) (_u : PUnit) : sProp 𝕄D :=
  iprop((arg2.view.loc (c : Thread nD τ) ↦[arg2.view.set]{fullShare} X2) ∗ (arg11.view.loc (c : Thread nD τ) ↦[arg11.view.set]{fullShare} X11)
    ∗ (∃ f, (arg12.view.loc (c : Thread nD τ) ↦[arg12.view.set]{fullShare} f) ∗ ⌜f = arg12.view.writes (Elt F) G (pcs1 (F := F) i arg2 arg11 h1 X2 X11 hw k)⌝))

set_option warn.classDefReducibility false in
/-- The first loop by its invariant. -/
@[sl_loop] def loopInv_k0_t1 (E : Set ℕ) : Gen.LoopInvTy_k0_t1 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 h1 where
  inv := inv1 (F := F) c i arg2 arg11 arg12 h1 X2 X11 G hw
  step k acc := by
    iintro ⟨HR2, HR11, ⟨%f12, HW12, %h12⟩⟩
    iapply (wp_wand_r Idealize.ShloMosaic.frame (wpE (defs₀ (F := F)) 𝒱 (c : Thread nD τ) bd) E)
    isplitl [HR2 HR11 HW12]
    · iapply (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h1 X2 X11 E k (hw k.val k.isLt) f12)
      isplitl [HR2]; · iexact HR2
      isplitl [HR11]; · iexact HR11
      iexact HW12
    · iintro %_ ⟨HR2, HR11, HW12⟩
      isplitl [HR2]; · iexact HR2
      isplitl [HR11]; · iexact HR11
      iexists _; isplitl [HW12]; · iexact HW12
      ipureintro
      rw [pcs1, dif_pos k.isLt, h12, ← View.writes_append, List.singleton_append]

/-- A listed word read through the table's view. -/
theorem tab_read (v : View sig .tc .smem S1x2x128 .i32) (X : BufTy.Contents (Elt F) v.ty) (k : ℕ) (hk : k < 256) (off : Fin 3 → ℕ) (inb) (x)
    (ho : off = ![0, k / 128, k % 128]) :
    v.readAt (Elt F) (Rect.unit (s := S1x2x128) off S1x1x1.size inb).toLoadRect X x
      = v.read (Elt F) X (ix3 0 ⟨k / 128, by omega⟩ ⟨k % 128, Nat.mod_lt _ (by omega)⟩) := by
  subst ho
  rw [View.readAt_eq_ld]
  refine View.ld_unit_apply_of _ _ _ _ _ _ fun a => ?_
  have h0 : (x a : ℕ) = 0 := by
    have := (x a).isLt
    have e : (Rect.unit (s := S1x2x128) (![0, k / 128, k % 128]) S1x1x1.size inb).shape.size a = 1 := by fin_cases a <;> rfl
    omega
  rw [h0]; fin_cases a <;> rfl

/-- A row of eight lines, reshaped, read from the resident array. -/
theorem row_read (v : View sig .tc .vmem S65536x128 .i32) (X : BufTy.Contents (Elt F) v.ty) (w : BitVec 32) (hw : w.toNat < 8192)
    (off : Fin 2 → ℕ) (inb) (ho : off = ![w.toNat * 8, 0]) (b : Fin 8) (l : Fin 128) :
    v.readAt (Elt F) (Rect.unit (s := S65536x128) off S8x128.size inb).toLoadRect X (ix2 b l)
      = v.read (Elt F) X (ix2 ⟨(w.toNat * 8 + b.val) % 65536, Nat.mod_lt _ (by omega)⟩ l) := by
  subst ho
  rw [View.readAt_eq_ld]
  refine View.ld_unit_apply_of _ _ _ _ _ _ fun a => ?_
  fin_cases a
  · show (w.toNat * 8 + b.val) % 65536 = w.toNat * 8 + b.val
    omega
  · show l.val = 0 + l.val
    omega

theorem off_row (w : BitVec 32) (hw : w.toNat < 8192) : (![(w * 8#32).toNat, 0] : Fin 2 → ℕ) = ![w.toNat * 8, 0] := by
  have e : (w * 8#32).toNat = w.toNat * 8 := by
    rw [BitVec.toNat_mul]; exact Nat.mod_eq_of_lt (by show w.toNat * 8 < 4294967296; omega)
  rw [e]

/-- The reshape of one row, at an index. -/
theorem pay1_apply (y : Vec F S8x128 .i32) (b : Fin 8) (l : Fin 128) : k0_pay1 (F := F) y (ix3 0 b l) = y (ix2 b l) := by
  pointwise [k0_pay1]

/-- What the first loop leaves: the rows that the table lists, in slot 0. -/
theorem read1 (hX : ∀ j, (arg2.view.read (Elt F) X2 j).toNat < 8192) : ∀ n, n ≤ 256 → ∀ (a : Fin 2) (b : Fin 2048) (l : Fin 128),
    arg12.view.read (Elt F) (arg12.view.writes (Elt F) G (pcs1 (F := F) i arg2 arg11 h1 X2 X11 hw n)) (ix3 a b l)
      = if a.val = 0 ∧ b.val < 8 * n then Rows.word (arg2.view.read (Elt F) X2) (arg11.view.read (Elt F) X11) b l
        else arg12.view.read (Elt F) G (ix3 a b l) := by
  refine Rows.read_pieces arg12.view G _ 0 (Rows.word (arg2.view.read (Elt F) X2) (arg11.view.read (Elt F) X11)) 256 rfl fun k hk => ?_
  have hk' : k < k0_t1_loop.trips := lt_of_lt_of_eq hk (by decide)
  refine ⟨_, _, _, k0_off4_eq ⟨k, hk'⟩, by rw [pcs1, dif_pos hk'], fun a b l h => ?_⟩
  obtain rfl : a = 0 := Subsingleton.elim _ _
  have ht : tok1 (F := F) i arg2 h1 X2 ⟨k, hk'⟩ = arg2.view.read (Elt F) X2 (ix3 0 ⟨k / 128, by omega⟩ ⟨k % 128, Nat.mod_lt _ (by omega)⟩) :=
    tab_read arg2.view X2 k hk _ _ _ (k0_off2_eq ⟨k, hk'⟩)
  have hb := b.isLt
  rw [pay1_apply]
  refine (row_read arg11.view X11 _ (by rw [ht]; exact hX _) _ _ (off_row _ (by rw [ht]; exact hX _)) b l).trans ?_
  rw [ht]
  have e1 : (8 * k + b.val) / 8 = k := by omega
  have e2 : (8 * k + b.val) % 8 = b.val := by omega
  simp only [Rows.word, e1, e2]

end T1

theorem pay234_apply (y : Vec F S8x128 .i32) (b : Fin 8) (l : Fin 128) : k0_pay234 (F := F) y (ix3 0 b l) = y (ix2 b l) := by
  pointwise [k0_pay234]

theorem pay37_apply (y : Vec F S8x128 .i32) (b : Fin 8) (l : Fin 128) : k0_pay37 (F := F) y (ix3 0 b l) = y (ix2 b l) := by
  pointwise [k0_pay37]

section T2

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_) (v0 : Elt F .i32) (v2 : BitVec 32) (v7 : Elt F .i32) (h2 : k0_cond2 i v0 v7 = 1#1)
  (a27 a29 : BitVec 32)
  (X3 : BufTy.Contents (Elt F) arg3.view.ty) (X11 : BufTy.Contents (Elt F) arg11.view.ty) (G : BufTy.Contents (Elt F) arg12.view.ty)
  (hw : ∀ (kq : ℕ) (hkq : kq < k0_t2_loop.trips), k0_chk2 i v0 v7 (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))))

/-- What the gather of the next tile's rows leaves: the rows that the table lists, in the other slot. -/
theorem read2 (hX : ∀ j, (arg3.view.read (Elt F) X3 j).toNat < 8192) : ∀ n, n ≤ 256 → ∀ (a : Fin 2) (b : Fin 2048) (l : Fin 128),
    arg12.view.read (Elt F) (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw n)) (ix3 a b l)
      = if a.val = 1 - (i 0).val % 2 ∧ b.val < 8 * n then Rows.word (arg3.view.read (Elt F) X3) (arg11.view.read (Elt F) X11) b l
        else arg12.view.read (Elt F) G (ix3 a b l) := by
  refine Rows.read_pieces arg12.view G _ _ (Rows.word (arg3.view.read (Elt F) X3) (arg11.view.read (Elt F) X11)) 256 rfl fun k hk => ?_
  have hk' : k < k0_t2_loop.trips := lt_of_lt_of_eq hk (by decide)
  refine ⟨_, _, _, k0_off15_eq i ⟨k, hk'⟩, (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw ⟨k, hk'⟩).trans (by
    delta tripL_k0_t2; unfold trip_k0_t2; rw [List.singleton_append]), fun a b l h => ?_⟩
  obtain rfl : a = 0 := Subsingleton.elim _ _
  have ht : trip_k0_t2.sl.r (F := F) arg3 X3 ⟨k, hk'⟩ = arg3.view.read (Elt F) X3 (ix3 0 ⟨k / 128, by omega⟩ ⟨k % 128, Nat.mod_lt _ (by omega)⟩) := by delta trip_k0_t2.sl.r; exact tab_read arg3.view X3 k hk _ (k0_off13_inb ⟨k, hk'⟩) (Shape.Idx.first (numel1_S1x1x1.symm ▸ Nat.one_pos)) (k0_off13_eq ⟨k, hk'⟩)
  have hb := b.isLt
  refine (pay37_apply _ b l).trans ?_
  refine (row_read arg11.view X11 _ (by rw [ht]; exact hX _) _ _ (off_row _ (by rw [ht]; exact hX _)) b l).trans ?_
  rw [ht]
  have e1 : (8 * k + b.val) / 8 = k := by omega
  have e2 : (8 * k + b.val) % 8 = b.val := by omega
  simp only [Rows.word, e1, e2]

end T2

section T3

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_) (v0 : Elt F .i32) (v2 : BitVec 32) (v7 : Elt F .i32) (h2 : k0_cond3 i v0 v7 = 1#1)
  (a27 a29 : BitVec 32)
  (X3 : BufTy.Contents (Elt F) arg3.view.ty) (X11 : BufTy.Contents (Elt F) arg11.view.ty) (G : BufTy.Contents (Elt F) arg12.view.ty)
  (hw : ∀ (kq : ℕ) (hkq : kq < k0_t3_loop.trips), k0_chk3 i v0 v7 (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))))

/-- What the gather of the next tile's rows leaves: the rows that the table lists, in the other slot. -/
theorem read3 (hX : ∀ j, (arg3.view.read (Elt F) X3 j).toNat < 8192) : ∀ n, n ≤ 256 → ∀ (a : Fin 2) (b : Fin 2048) (l : Fin 128),
    arg12.view.read (Elt F) (arg12.view.writes (Elt F) G (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw n)) (ix3 a b l)
      = if a.val = 1 - (i 0).val % 2 ∧ b.val < 8 * n then Rows.word (arg3.view.read (Elt F) X3) (arg11.view.read (Elt F) X11) b l
        else arg12.view.read (Elt F) G (ix3 a b l) := by
  refine Rows.read_pieces arg12.view G _ _ (Rows.word (arg3.view.read (Elt F) X3) (arg11.view.read (Elt F) X11)) 256 rfl fun k hk => ?_
  have hk' : k < k0_t3_loop.trips := lt_of_lt_of_eq hk (by decide)
  refine ⟨_, _, _, k0_off26_eq i ⟨k, hk'⟩, (pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw ⟨k, hk'⟩).trans (by
    delta tripL_k0_t3; unfold trip_k0_t3; rw [List.singleton_append]), fun a b l h => ?_⟩
  obtain rfl : a = 0 := Subsingleton.elim _ _
  have ht : trip_k0_t3.sl.r (F := F) arg3 X3 ⟨k, hk'⟩ = arg3.view.read (Elt F) X3 (ix3 0 ⟨k / 128, by omega⟩ ⟨k % 128, Nat.mod_lt _ (by omega)⟩) := by delta trip_k0_t3.sl.r; exact tab_read arg3.view X3 k hk _ (k0_off24_inb ⟨k, hk'⟩) (Shape.Idx.first (numel1_S1x1x1.symm ▸ Nat.one_pos)) (k0_off24_eq ⟨k, hk'⟩)
  have hb := b.isLt
  refine (pay234_apply _ b l).trans ?_
  refine (row_read arg11.view X11 _ (by rw [ht]; exact hX _) _ _ (off_row _ (by rw [ht]; exact hX _)) b l).trans ?_
  rw [ht]
  have e1 : (8 * k + b.val) / 8 = k := by omega
  have e2 : (8 * k + b.val) % 8 = b.val := by omega
  simp only [Rows.word, e1, e2]

end T3

end Cert.Kernel.Hand
-- ==== Proof.Spec.lean ====
/-
  What one tile of the feed-forward kernel computes, as functions of the contents of its blocks: the
  weights of one column chunk after dequantisation, the gathered rows widened from their words, the
  activations, the outputs of one chunk of columns, and the list of the stores into the output block.
-/
module

public import proofs.«01_k».proof.Proof.Gather
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

/-- A rectangle's bounds on three axes. -/
theorem inb3 {n0 n1 n2 a b c p q r : ℕ} (h0 : a + p ≤ n0) (h1 : b + q ≤ n1) (h2 : c + r ≤ n2) :
    ∀ x : Fin 3, (![a, b, c] : Fin 3 → ℕ) x + (![p, q, r] : Fin 3 → ℕ) x ≤ (![n0, n1, n2] : Fin 3 → ℕ) x := by
  intro x; fin_cases x
  · exact h0
  · exact h1
  · exact h2

/-- The contents of the eight blocks a tile reads. -/
abbrev GateW (F : FTy → Type) := Vec F S1x1024x2048 .i8
abbrev GateS (F : FTy → Type) := Vec F S1x16x2048 .bf16
abbrev DownW (F : FTy → Type) := Vec F S1x512x2048 .i8
abbrev DownS (F : FTy → Type) := Vec F S1x8x2048 .bf16

/-- Group `g` (128 rows) of the dequantised gate-and-up weights, in column chunk `q` (512 columns). -/
def grpGU (x6 : GateW F) (x7 : GateS F) (q g : ℕ) (hq : q < 4) (hg : g < 16) : FVec F S128x512 .bf16 :=
  k0_pay38
    (View.ld x6 (Rect.unit (s := S1x1024x2048) ![0, 64 * g, 512 * q] S1x64x512.size (inb3 (n0 := 1) (n1 := 1024) (n2 := 2048) (p := 1) (q := 64) (r := 512) (by omega) (by omega) (by omega))))
    (View.ld x7 (Rect.unit (s := S1x16x2048) ![0, g, 512 * q] S1x1x512.size (inb3 (n0 := 1) (n1 := 16) (n2 := 2048) (p := 1) (q := 1) (r := 512) (by omega) (by omega) (by omega))))

/-- Group `g` of the dequantised down weights, in column chunk `q`. -/
def grpD (x8 : DownW F) (x9 : DownS F) (q g : ℕ) (hq : q < 4) (hg : g < 8) : FVec F S128x512 .bf16 :=
  k0_pay38
    (View.ld x8 (Rect.unit (s := S1x512x2048) ![0, 64 * g, 512 * q] S1x64x512.size (inb3 (n0 := 1) (n1 := 512) (n2 := 2048) (p := 1) (q := 64) (r := 512) (by omega) (by omega) (by omega))))
    (View.ld x9 (Rect.unit (s := S1x8x2048) ![0, g, 512 * q] S1x1x512.size (inb3 (n0 := 1) (n1 := 8) (n2 := 2048) (p := 1) (q := 1) (r := 512) (by omega) (by omega) (by omega))))

/-- The gate-and-up weights of one column chunk: the sixteen groups over each other. -/
def wGU (x6 : GateW F) (x7 : GateS F) (q : ℕ) (hq : q < 4) : FVec F S2048x512 .bf16 :=
  concatenate S2048x512 0 [⟨S128x512, grpGU x6 x7 q 0 hq (by omega)⟩,
      ⟨S128x512, grpGU x6 x7 q 1 hq (by omega)⟩,
      ⟨S128x512, grpGU x6 x7 q 2 hq (by omega)⟩,
      ⟨S128x512, grpGU x6 x7 q 3 hq (by omega)⟩,
      ⟨S128x512, grpGU x6 x7 q 4 hq (by omega)⟩,
      ⟨S128x512, grpGU x6 x7 q 5 hq (by omega)⟩,
      ⟨S128x512, grpGU x6 x7 q 6 hq (by omega)⟩,
      ⟨S128x512, grpGU x6 x7 q 7 hq (by omega)⟩,
      ⟨S128x512, grpGU x6 x7 q 8 hq (by omega)⟩,
      ⟨S128x512, grpGU x6 x7 q 9 hq (by omega)⟩,
      ⟨S128x512, grpGU x6 x7 q 10 hq (by omega)⟩,
      ⟨S128x512, grpGU x6 x7 q 11 hq (by omega)⟩,
      ⟨S128x512, grpGU x6 x7 q 12 hq (by omega)⟩,
      ⟨S128x512, grpGU x6 x7 q 13 hq (by omega)⟩,
      ⟨S128x512, grpGU x6 x7 q 14 hq (by omega)⟩,
      ⟨S128x512, grpGU x6 x7 q 15 hq (by omega)⟩]
    concatenates_S128x512_S128x512_S128x512_S128x512_S128x512_S128x512_S128x512_S128x512_S128x512_S128x512_S128x512_S128x512_S128x512_S128x512_S128x512_S128x512_S2048x512_d0

/-- The down weights of one column chunk: the eight groups over each other. -/
def wD (x8 : DownW F) (x9 : DownS F) (q : ℕ) (hq : q < 4) : FVec F S1024x512 .bf16 :=
  concatenate S1024x512 0 [⟨S128x512, grpD x8 x9 q 0 hq (by omega)⟩,
      ⟨S128x512, grpD x8 x9 q 1 hq (by omega)⟩,
      ⟨S128x512, grpD x8 x9 q 2 hq (by omega)⟩,
      ⟨S128x512, grpD x8 x9 q 3 hq (by omega)⟩,
      ⟨S128x512, grpD x8 x9 q 4 hq (by omega)⟩,
      ⟨S128x512, grpD x8 x9 q 5 hq (by omega)⟩,
      ⟨S128x512, grpD x8 x9 q 6 hq (by omega)⟩,
      ⟨S128x512, grpD x8 x9 q 7 hq (by omega)⟩]
    concatenates_S128x512_S128x512_S128x512_S128x512_S128x512_S128x512_S128x512_S128x512_S1024x512_d0

/-! ## A tile of 256 rows -/

/-- The gathered rows of a tile, word by word widened to a low and a high half. -/
def xs256 (i : grid0.Coords) (b : Vec F S2x2048x128 .i32) : FVec F S256x2048 .bf16 :=
  concatenate S256x2048 1 [⟨S256x128, k0_pay13 (fun j => b ((⟨k0_off5 i, S1x256x128.size, ![1, 8, 1], k0_off5_inb i⟩ : LoadRect S2x2048x128).idx j))⟩,
      ⟨S256x128, k0_pay14 (fun j => b ((⟨k0_off5 i, S1x256x128.size, ![1, 8, 1], k0_off5_inb i⟩ : LoadRect S2x2048x128).idx j))⟩,
      ⟨S256x128, k0_pay13 (fun j => b ((⟨k0_off6 i, S1x256x128.size, ![1, 8, 1], k0_off6_inb i⟩ : LoadRect S2x2048x128).idx j))⟩,
      ⟨S256x128, k0_pay14 (fun j => b ((⟨k0_off6 i, S1x256x128.size, ![1, 8, 1], k0_off6_inb i⟩ : LoadRect S2x2048x128).idx j))⟩,
      ⟨S256x128, k0_pay13 (fun j => b ((⟨k0_off7 i, S1x256x128.size, ![1, 8, 1], k0_off7_inb i⟩ : LoadRect S2x2048x128).idx j))⟩,
      ⟨S256x128, k0_pay14 (fun j => b ((⟨k0_off7 i, S1x256x128.size, ![1, 8, 1], k0_off7_inb i⟩ : LoadRect S2x2048x128).idx j))⟩,
      ⟨S256x128, k0_pay13 (fun j => b ((⟨k0_off8 i, S1x256x128.size, ![1, 8, 1], k0_off8_inb i⟩ : LoadRect S2x2048x128).idx j))⟩,
      ⟨S256x128, k0_pay14 (fun j => b ((⟨k0_off8 i, S1x256x128.size, ![1, 8, 1], k0_off8_inb i⟩ : LoadRect S2x2048x128).idx j))⟩,
      ⟨S256x128, k0_pay13 (fun j => b ((⟨k0_off9 i, S1x256x128.size, ![1, 8, 1], k0_off9_inb i⟩ : LoadRect S2x2048x128).idx j))⟩,
      ⟨S256x128, k0_pay14 (fun j => b ((⟨k0_off9 i, S1x256x128.size, ![1, 8, 1], k0_off9_inb i⟩ : LoadRect S2x2048x128).idx j))⟩,
      ⟨S256x128, k0_pay13 (fun j => b ((⟨k0_off10 i, S1x256x128.size, ![1, 8, 1], k0_off10_inb i⟩ : LoadRect S2x2048x128).idx j))⟩,
      ⟨S256x128, k0_pay14 (fun j => b ((⟨k0_off10 i, S1x256x128.size, ![1, 8, 1], k0_off10_inb i⟩ : LoadRect S2x2048x128).idx j))⟩,
      ⟨S256x128, k0_pay13 (fun j => b ((⟨k0_off11 i, S1x256x128.size, ![1, 8, 1], k0_off11_inb i⟩ : LoadRect S2x2048x128).idx j))⟩,
      ⟨S256x128, k0_pay14 (fun j => b ((⟨k0_off11 i, S1x256x128.size, ![1, 8, 1], k0_off11_inb i⟩ : LoadRect S2x2048x128).idx j))⟩,
      ⟨S256x128, k0_pay13 (fun j => b ((⟨k0_off12 i, S1x256x128.size, ![1, 8, 1], k0_off12_inb i⟩ : LoadRect S2x2048x128).idx j))⟩,
      ⟨S256x128, k0_pay14 (fun j => b ((⟨k0_off12 i, S1x256x128.size, ![1, 8, 1], k0_off12_inb i⟩ : LoadRect S2x2048x128).idx j))⟩]
    concatenates_S256x128_S256x128_S256x128_S256x128_S256x128_S256x128_S256x128_S256x128_S256x128_S256x128_S256x128_S256x128_S256x128_S256x128_S256x128_S256x128_S256x2048_d1

/-- The product of the rows with one column chunk of the gate-and-up weights. -/
def gu256 (xs : FVec F S256x2048 .bf16) (x6 : GateW F) (x7 : GateS F) (q : ℕ) (hq : q < 4) : FVec F S256x512 .f32 :=
  matmul dot_S256x2048_S2048x512_S256x512_1_0_0_1_n_n none xs (wGU x6 x7 q hq) (constant S256x512 .f32 0x00000000#32)

/-- One chunk of the activations. -/
def actC256 (xs : FVec F S256x2048 .bf16) (x6 : GateW F) (x7 : GateS F) (q : ℕ) (hq : q < 2) : FVec F S256x512 .bf16 :=
  shapeCast S256x512 (truncf .bf16 (mulf (mulf (gu256 xs x6 x7 q (by omega)) (logistic (gu256 xs x6 x7 q (by omega)))) (gu256 xs x6 x7 (q + 2) (by omega))) bitsLt_bf16_f32) shapeCasts_S256x512_S256x512

/-- The stores of the two chunks into the activation scratch. -/
def actL256 (xs : FVec F S256x2048 .bf16) (x6 : GateW F) (x7 : GateS F) : List (View.Piece (Elt F) S256x1024 .bf16) :=
  [⟨Rect.unit ![0, 512] S256x512.size inb_S256x1024_S256x512_0_512, actC256 xs x6 x7 1 (by omega)⟩,
   ⟨Rect.unit ![0, 0] S256x512.size inb_S256x1024_S256x512_0_0, actC256 xs x6 x7 0 (by omega)⟩]

/-- The activations as the tile reads them back. -/
def act256 (xs : FVec F S256x2048 .bf16) (x6 : GateW F) (x7 : GateS F) : FVec F S256x1024 .bf16 :=
  fun j => View.canon (actL256 xs x6 x7) ((Rect.unit (s := S256x1024) ![0, 0] S256x1024.size inb_S256x1024_S256x1024_0_0).toLoadRect.idx j)

/-- One chunk of the outputs: the product with the down weights, each row times its own scale. -/
def dn256 (a : FVec F S256x1024 .bf16) (g : FVec F S256x1 .f32) (x8 : DownW F) (x9 : DownS F) (q : ℕ) (hq : q < 4) : FVec F S256x512 .f32 :=
  mulf (matmul dot_S256x1024_S1024x512_S256x512_1_0_0_1_n_n none a (wD x8 x9 q hq) (constant S256x512 .f32 0x00000000#32)) (broadcastTo S256x512 g broadcasts_S256x1_S256x512)

/-- The stores into the output block, the last one first. -/
def outL256 (a : FVec F S256x1024 .bf16) (g : FVec F S256x1 .f32) (x8 : DownW F) (x9 : DownS F) : List (View.Piece (Elt F) S6144x128 .f32) :=
  [⟨⟨(⟨![15, 0], S256x128.size, ![24, 1], inb_S6144x128_S256x128_15_0_s_24_1⟩ : LoadRect S6144x128), spos_24_1⟩, extractStridedSlice S256x128 ![0, 384] (dn256 a g x8 x9 3 (by omega)) slices_S256x512_o0_384_S256x128⟩,
   ⟨⟨(⟨![14, 0], S256x128.size, ![24, 1], inb_S6144x128_S256x128_14_0_s_24_1⟩ : LoadRect S6144x128), spos_24_1⟩, extractStridedSlice S256x128 ![0, 256] (dn256 a g x8 x9 3 (by omega)) slices_S256x512_o0_256_S256x128⟩,
   ⟨⟨(⟨![13, 0], S256x128.size, ![24, 1], inb_S6144x128_S256x128_13_0_s_24_1⟩ : LoadRect S6144x128), spos_24_1⟩, extractStridedSlice S256x128 ![0, 128] (dn256 a g x8 x9 3 (by omega)) slices_S256x512_o0_128_S256x128⟩,
   ⟨⟨(⟨![12, 0], S256x128.size, ![24, 1], inb_S6144x128_S256x128_12_0_s_24_1⟩ : LoadRect S6144x128), spos_24_1⟩, extractStridedSlice S256x128 ![0, 0] (dn256 a g x8 x9 3 (by omega)) slices_S256x512_o0_0_S256x128⟩,
   ⟨⟨(⟨![11, 0], S256x128.size, ![24, 1], inb_S6144x128_S256x128_11_0_s_24_1⟩ : LoadRect S6144x128), spos_24_1⟩, extractStridedSlice S256x128 ![0, 384] (dn256 a g x8 x9 2 (by omega)) slices_S256x512_o0_384_S256x128⟩,
   ⟨⟨(⟨![10, 0], S256x128.size, ![24, 1], inb_S6144x128_S256x128_10_0_s_24_1⟩ : LoadRect S6144x128), spos_24_1⟩, extractStridedSlice S256x128 ![0, 256] (dn256 a g x8 x9 2 (by omega)) slices_S256x512_o0_256_S256x128⟩,
   ⟨⟨(⟨![9, 0], S256x128.size, ![24, 1], inb_S6144x128_S256x128_9_0_s_24_1⟩ : LoadRect S6144x128), spos_24_1⟩, extractStridedSlice S256x128 ![0, 128] (dn256 a g x8 x9 2 (by omega)) slices_S256x512_o0_128_S256x128⟩,
   ⟨⟨(⟨![8, 0], S256x128.size, ![24, 1], inb_S6144x128_S256x128_8_0_s_24_1⟩ : LoadRect S6144x128), spos_24_1⟩, extractStridedSlice S256x128 ![0, 0] (dn256 a g x8 x9 2 (by omega)) slices_S256x512_o0_0_S256x128⟩,
   ⟨⟨(⟨![7, 0], S256x128.size, ![24, 1], inb_S6144x128_S256x128_7_0_s_24_1⟩ : LoadRect S6144x128), spos_24_1⟩, extractStridedSlice S256x128 ![0, 384] (dn256 a g x8 x9 1 (by omega)) slices_S256x512_o0_384_S256x128⟩,
   ⟨⟨(⟨![6, 0], S256x128.size, ![24, 1], inb_S6144x128_S256x128_6_0_s_24_1⟩ : LoadRect S6144x128), spos_24_1⟩, extractStridedSlice S256x128 ![0, 256] (dn256 a g x8 x9 1 (by omega)) slices_S256x512_o0_256_S256x128⟩,
   ⟨⟨(⟨![5, 0], S256x128.size, ![24, 1], inb_S6144x128_S256x128_5_0_s_24_1⟩ : LoadRect S6144x128), spos_24_1⟩, extractStridedSlice S256x128 ![0, 128] (dn256 a g x8 x9 1 (by omega)) slices_S256x512_o0_128_S256x128⟩,
   ⟨⟨(⟨![4, 0], S256x128.size, ![24, 1], inb_S6144x128_S256x128_4_0_s_24_1⟩ : LoadRect S6144x128), spos_24_1⟩, extractStridedSlice S256x128 ![0, 0] (dn256 a g x8 x9 1 (by omega)) slices_S256x512_o0_0_S256x128⟩,
   ⟨⟨(⟨![3, 0], S256x128.size, ![24, 1], inb_S6144x128_S256x128_3_0_s_24_1⟩ : LoadRect S6144x128), spos_24_1⟩, extractStridedSlice S256x128 ![0, 384] (dn256 a g x8 x9 0 (by omega)) slices_S256x512_o0_384_S256x128⟩,
   ⟨⟨(⟨![2, 0], S256x128.size, ![24, 1], inb_S6144x128_S256x128_2_0_s_24_1⟩ : LoadRect S6144x128), spos_24_1⟩, extractStridedSlice S256x128 ![0, 256] (dn256 a g x8 x9 0 (by omega)) slices_S256x512_o0_256_S256x128⟩,
   ⟨⟨(⟨![1, 0], S256x128.size, ![24, 1], inb_S6144x128_S256x128_1_0_s_24_1⟩ : LoadRect S6144x128), spos_24_1⟩, extractStridedSlice S256x128 ![0, 128] (dn256 a g x8 x9 0 (by omega)) slices_S256x512_o0_128_S256x128⟩,
   ⟨⟨(⟨![0, 0], S256x128.size, ![24, 1], inb_S6144x128_S256x128_0_0_s_24_1⟩ : LoadRect S6144x128), spos_24_1⟩, extractStridedSlice S256x128 ![0, 0] (dn256 a g x8 x9 0 (by omega)) slices_S256x512_o0_0_S256x128⟩]

/-- All the stores of the tile, from the contents of its blocks. -/
def tile256 (i : grid0.Coords) (b : Vec F S2x2048x128 .i32) (x4 : Vec F S1x2x128 .f32) (x6 : GateW F) (x7 : GateS F) (x8 : DownW F) (x9 : DownS F) :
    List (View.Piece (Elt F) S6144x128 .f32) :=
  outL256 (act256 (xs256 i b) x6 x7) (k0_pay144 (View.ld x4 (Rect.unit (s := S1x2x128) ![0, 0, 0] S1x2x128.size inb_S1x2x128_S1x2x128_0_0_0))) x8 x9

/-! ## A tile of 128 rows -/

/-- The gathered rows of a tile, word by word widened to a low and a high half. -/
def xs128 (i : grid0.Coords) (b : Vec F S2x2048x128 .i32) : FVec F S128x2048 .bf16 :=
  concatenate S128x2048 1 [⟨S128x128, k0_pay210 (fun j => b ((⟨k0_off16 i, S1x128x128.size, ![1, 8, 1], k0_off16_inb i⟩ : LoadRect S2x2048x128).idx j))⟩,
      ⟨S128x128, k0_pay211 (fun j => b ((⟨k0_off16 i, S1x128x128.size, ![1, 8, 1], k0_off16_inb i⟩ : LoadRect S2x2048x128).idx j))⟩,
      ⟨S128x128, k0_pay210 (fun j => b ((⟨k0_off17 i, S1x128x128.size, ![1, 8, 1], k0_off17_inb i⟩ : LoadRect S2x2048x128).idx j))⟩,
      ⟨S128x128, k0_pay211 (fun j => b ((⟨k0_off17 i, S1x128x128.size, ![1, 8, 1], k0_off17_inb i⟩ : LoadRect S2x2048x128).idx j))⟩,
      ⟨S128x128, k0_pay210 (fun j => b ((⟨k0_off18 i, S1x128x128.size, ![1, 8, 1], k0_off18_inb i⟩ : LoadRect S2x2048x128).idx j))⟩,
      ⟨S128x128, k0_pay211 (fun j => b ((⟨k0_off18 i, S1x128x128.size, ![1, 8, 1], k0_off18_inb i⟩ : LoadRect S2x2048x128).idx j))⟩,
      ⟨S128x128, k0_pay210 (fun j => b ((⟨k0_off19 i, S1x128x128.size, ![1, 8, 1], k0_off19_inb i⟩ : LoadRect S2x2048x128).idx j))⟩,
      ⟨S128x128, k0_pay211 (fun j => b ((⟨k0_off19 i, S1x128x128.size, ![1, 8, 1], k0_off19_inb i⟩ : LoadRect S2x2048x128).idx j))⟩,
      ⟨S128x128, k0_pay210 (fun j => b ((⟨k0_off20 i, S1x128x128.size, ![1, 8, 1], k0_off20_inb i⟩ : LoadRect S2x2048x128).idx j))⟩,
      ⟨S128x128, k0_pay211 (fun j => b ((⟨k0_off20 i, S1x128x128.size, ![1, 8, 1], k0_off20_inb i⟩ : LoadRect S2x2048x128).idx j))⟩,
      ⟨S128x128, k0_pay210 (fun j => b ((⟨k0_off21 i, S1x128x128.size, ![1, 8, 1], k0_off21_inb i⟩ : LoadRect S2x2048x128).idx j))⟩,
      ⟨S128x128, k0_pay211 (fun j => b ((⟨k0_off21 i, S1x128x128.size, ![1, 8, 1], k0_off21_inb i⟩ : LoadRect S2x2048x128).idx j))⟩,
      ⟨S128x128, k0_pay210 (fun j => b ((⟨k0_off22 i, S1x128x128.size, ![1, 8, 1], k0_off22_inb i⟩ : LoadRect S2x2048x128).idx j))⟩,
      ⟨S128x128, k0_pay211 (fun j => b ((⟨k0_off22 i, S1x128x128.size, ![1, 8, 1], k0_off22_inb i⟩ : LoadRect S2x2048x128).idx j))⟩,
      ⟨S128x128, k0_pay210 (fun j => b ((⟨k0_off23 i, S1x128x128.size, ![1, 8, 1], k0_off23_inb i⟩ : LoadRect S2x2048x128).idx j))⟩,
      ⟨S128x128, k0_pay211 (fun j => b ((⟨k0_off23 i, S1x128x128.size, ![1, 8, 1], k0_off23_inb i⟩ : LoadRect S2x2048x128).idx j))⟩]
    concatenates_S128x128_S128x128_S128x128_S128x128_S128x128_S128x128_S128x128_S128x128_S128x128_S128x128_S128x128_S128x128_S128x128_S128x128_S128x128_S128x128_S128x2048_d1

/-- The product of the rows with one column chunk of the gate-and-up weights. -/
def gu128 (xs : FVec F S128x2048 .bf16) (x6 : GateW F) (x7 : GateS F) (q : ℕ) (hq : q < 4) : FVec F S128x512 .f32 :=
  matmul dot_S128x2048_S2048x512_S128x512_1_0_0_1_n_n none xs (wGU x6 x7 q hq) (constant S128x512 .f32 0x00000000#32)

/-- One chunk of the activations. -/
def actC128 (xs : FVec F S128x2048 .bf16) (x6 : GateW F) (x7 : GateS F) (q : ℕ) (hq : q < 2) : FVec F S128x512 .bf16 :=
  shapeCast S128x512 (truncf .bf16 (mulf (mulf (gu128 xs x6 x7 q (by omega)) (logistic (gu128 xs x6 x7 q (by omega)))) (gu128 xs x6 x7 (q + 2) (by omega))) bitsLt_bf16_f32) shapeCasts_S128x512_S128x512

/-- The stores of the two chunks into the activation scratch. -/
def actL128 (xs : FVec F S128x2048 .bf16) (x6 : GateW F) (x7 : GateS F) : List (View.Piece (Elt F) S256x1024 .bf16) :=
  [⟨Rect.unit ![0, 512] S128x512.size inb_S256x1024_S128x512_0_512, actC128 xs x6 x7 1 (by omega)⟩,
   ⟨Rect.unit ![0, 0] S128x512.size inb_S256x1024_S128x512_0_0, actC128 xs x6 x7 0 (by omega)⟩]

/-- The activations as the tile reads them back. -/
def act128 (xs : FVec F S128x2048 .bf16) (x6 : GateW F) (x7 : GateS F) : FVec F S128x1024 .bf16 :=
  fun j => View.canon (actL128 xs x6 x7) ((Rect.unit (s := S256x1024) ![0, 0] S128x1024.size inb_S256x1024_S128x1024_0_0).toLoadRect.idx j)

/-- One chunk of the outputs: the product with the down weights, each row times its own scale. -/
def dn128 (a : FVec F S128x1024 .bf16) (g : FVec F S128x1 .f32) (x8 : DownW F) (x9 : DownS F) (q : ℕ) (hq : q < 4) : FVec F S128x512 .f32 :=
  mulf (matmul dot_S128x1024_S1024x512_S128x512_1_0_0_1_n_n none a (wD x8 x9 q hq) (constant S128x512 .f32 0x00000000#32)) (broadcastTo S128x512 g broadcasts_S128x1_S128x512)

/-- The stores into the output block, the last one first. -/
def outL128 (a : FVec F S128x1024 .bf16) (g : FVec F S128x1 .f32) (x8 : DownW F) (x9 : DownS F) : List (View.Piece (Elt F) S6144x128 .f32) :=
  [⟨⟨(⟨![15, 0], S128x128.size, ![24, 1], inb_S6144x128_S128x128_15_0_s_24_1⟩ : LoadRect S6144x128), spos_24_1⟩, extractStridedSlice S128x128 ![0, 384] (dn128 a g x8 x9 3 (by omega)) slices_S128x512_o0_384_S128x128⟩,
   ⟨⟨(⟨![14, 0], S128x128.size, ![24, 1], inb_S6144x128_S128x128_14_0_s_24_1⟩ : LoadRect S6144x128), spos_24_1⟩, extractStridedSlice S128x128 ![0, 256] (dn128 a g x8 x9 3 (by omega)) slices_S128x512_o0_256_S128x128⟩,
   ⟨⟨(⟨![13, 0], S128x128.size, ![24, 1], inb_S6144x128_S128x128_13_0_s_24_1⟩ : LoadRect S6144x128), spos_24_1⟩, extractStridedSlice S128x128 ![0, 128] (dn128 a g x8 x9 3 (by omega)) slices_S128x512_o0_128_S128x128⟩,
   ⟨⟨(⟨![12, 0], S128x128.size, ![24, 1], inb_S6144x128_S128x128_12_0_s_24_1⟩ : LoadRect S6144x128), spos_24_1⟩, extractStridedSlice S128x128 ![0, 0] (dn128 a g x8 x9 3 (by omega)) slices_S128x512_o0_0_S128x128⟩,
   ⟨⟨(⟨![11, 0], S128x128.size, ![24, 1], inb_S6144x128_S128x128_11_0_s_24_1⟩ : LoadRect S6144x128), spos_24_1⟩, extractStridedSlice S128x128 ![0, 384] (dn128 a g x8 x9 2 (by omega)) slices_S128x512_o0_384_S128x128⟩,
   ⟨⟨(⟨![10, 0], S128x128.size, ![24, 1], inb_S6144x128_S128x128_10_0_s_24_1⟩ : LoadRect S6144x128), spos_24_1⟩, extractStridedSlice S128x128 ![0, 256] (dn128 a g x8 x9 2 (by omega)) slices_S128x512_o0_256_S128x128⟩,
   ⟨⟨(⟨![9, 0], S128x128.size, ![24, 1], inb_S6144x128_S128x128_9_0_s_24_1⟩ : LoadRect S6144x128), spos_24_1⟩, extractStridedSlice S128x128 ![0, 128] (dn128 a g x8 x9 2 (by omega)) slices_S128x512_o0_128_S128x128⟩,
   ⟨⟨(⟨![8, 0], S128x128.size, ![24, 1], inb_S6144x128_S128x128_8_0_s_24_1⟩ : LoadRect S6144x128), spos_24_1⟩, extractStridedSlice S128x128 ![0, 0] (dn128 a g x8 x9 2 (by omega)) slices_S128x512_o0_0_S128x128⟩,
   ⟨⟨(⟨![7, 0], S128x128.size, ![24, 1], inb_S6144x128_S128x128_7_0_s_24_1⟩ : LoadRect S6144x128), spos_24_1⟩, extractStridedSlice S128x128 ![0, 384] (dn128 a g x8 x9 1 (by omega)) slices_S128x512_o0_384_S128x128⟩,
   ⟨⟨(⟨![6, 0], S128x128.size, ![24, 1], inb_S6144x128_S128x128_6_0_s_24_1⟩ : LoadRect S6144x128), spos_24_1⟩, extractStridedSlice S128x128 ![0, 256] (dn128 a g x8 x9 1 (by omega)) slices_S128x512_o0_256_S128x128⟩,
   ⟨⟨(⟨![5, 0], S128x128.size, ![24, 1], inb_S6144x128_S128x128_5_0_s_24_1⟩ : LoadRect S6144x128), spos_24_1⟩, extractStridedSlice S128x128 ![0, 128] (dn128 a g x8 x9 1 (by omega)) slices_S128x512_o0_128_S128x128⟩,
   ⟨⟨(⟨![4, 0], S128x128.size, ![24, 1], inb_S6144x128_S128x128_4_0_s_24_1⟩ : LoadRect S6144x128), spos_24_1⟩, extractStridedSlice S128x128 ![0, 0] (dn128 a g x8 x9 1 (by omega)) slices_S128x512_o0_0_S128x128⟩,
   ⟨⟨(⟨![3, 0], S128x128.size, ![24, 1], inb_S6144x128_S128x128_3_0_s_24_1⟩ : LoadRect S6144x128), spos_24_1⟩, extractStridedSlice S128x128 ![0, 384] (dn128 a g x8 x9 0 (by omega)) slices_S128x512_o0_384_S128x128⟩,
   ⟨⟨(⟨![2, 0], S128x128.size, ![24, 1], inb_S6144x128_S128x128_2_0_s_24_1⟩ : LoadRect S6144x128), spos_24_1⟩, extractStridedSlice S128x128 ![0, 256] (dn128 a g x8 x9 0 (by omega)) slices_S128x512_o0_256_S128x128⟩,
   ⟨⟨(⟨![1, 0], S128x128.size, ![24, 1], inb_S6144x128_S128x128_1_0_s_24_1⟩ : LoadRect S6144x128), spos_24_1⟩, extractStridedSlice S128x128 ![0, 128] (dn128 a g x8 x9 0 (by omega)) slices_S128x512_o0_128_S128x128⟩,
   ⟨⟨(⟨![0, 0], S128x128.size, ![24, 1], inb_S6144x128_S128x128_0_0_s_24_1⟩ : LoadRect S6144x128), spos_24_1⟩, extractStridedSlice S128x128 ![0, 0] (dn128 a g x8 x9 0 (by omega)) slices_S128x512_o0_0_S128x128⟩]

/-- All the stores of the tile, from the contents of its blocks. -/
def tile128 (i : grid0.Coords) (b : Vec F S2x2048x128 .i32) (x4 : Vec F S1x2x128 .f32) (x6 : GateW F) (x7 : GateS F) (x8 : DownW F) (x9 : DownS F) :
    List (View.Piece (Elt F) S6144x128 .f32) :=
  outL128 (act128 (xs128 i b) x6 x7) (k0_pay341 (View.ld x4 (Rect.unit (s := S1x2x128) ![0, 0, 0] S1x2x128.size inb_S1x2x128_S1x2x128_0_0_0))) x8 x9

end Cert.Kernel.Hand
-- ==== Proof.Run.lean ====
/-
  The feed-forward kernel's body, run from the contents of its blocks and scratches to what it leaves in them: at the first
  point of the grid and at a later one, on a tile of 256 rows, on a tile of 128 rows, and where there is no tile.
-/
module

public import proofs.«01_k».proof.Proof.Spec

@[expose] public section

set_option maxRecDepth 16384
set_option maxHeartbeats 40000000

noncomputable section

namespace Cert.Kernel

open Cert.Kernel.Gen Idealize.ShloMosaic

theorem k0_part3_eq_skeleton {F : FTy → Type} : k0_part3 (F := F) = k0_part3_skel (F := F) := rfl
theorem k0_part4_eq_skeleton {F : FTy → Type} : k0_part4 (F := F) = k0_part4_skel (F := F) := rfl
theorem k0_part53_eq_skeleton {F : FTy → Type} : k0_part53 (F := F) = k0_part53_skel (F := F) := rfl
theorem k0_part54_eq_skeleton {F : FTy → Type} : k0_part54 (F := F) = k0_part54_skel (F := F) := rfl

end Cert.Kernel

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

section

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_)
  (X1 : BufTy.Contents (Elt F) arg1.view.ty) (X2 : BufTy.Contents (Elt F) arg2.view.ty) (X5 : BufTy.Contents (Elt F) arg5.view.ty)
  (X3 : BufTy.Contents (Elt F) arg3.view.ty) (X4 : BufTy.Contents (Elt F) arg4.view.ty)
  (X6 : BufTy.Contents (Elt F) arg6.view.ty) (X7 : BufTy.Contents (Elt F) arg7.view.ty) (X8 : BufTy.Contents (Elt F) arg8.view.ty)
  (X9 : BufTy.Contents (Elt F) arg9.view.ty) (X10 : BufTy.Contents (Elt F) arg10.view.ty)
  (X11 : BufTy.Contents (Elt F) arg11.view.ty) (X12 : BufTy.Contents (Elt F) arg12.view.ty) (X13 : BufTy.Contents (Elt F) arg13.view.ty)

/-- The number of tiles, as the body reads it. -/
abbrev nTiles : BitVec 32 :=
  arg1.view.readAt (Elt F) (Rect.unit (s := S1x256) ![0, 255] S1x1.size inb_S1x256_S1x1_0_255).toLoadRect X1 (Shape.Idx.first (numel1_S1x1.symm ▸ Nat.one_pos))
/-- The tile's entry, as the body reads it. -/
abbrev entry : BitVec 32 :=
  arg1.view.readAt (Elt F) (Rect.unit (s := S1x256) (k0_off1 i) S1x1.size (k0_off1_inb i)).toLoadRect X1 (Shape.Idx.first (numel1_S1x1.symm ▸ Nat.one_pos))

/-- Two lists of stores, one after the other. -/
theorem writes_append {sig : RefSig} {κ : Kind} {sp : Space} {s : Shape} {e : EltTy} {Val : EltTy → Type} (v : View sig κ sp s e) (f : v.ty.Contents Val) (A B : List (View.Piece Val s e)) :
    v.writes Val f (A ++ B) = v.writes Val (v.writes Val f B) A := by
  induction A with
  | nil => rfl
  | cons p A ih => rw [List.cons_append, View.writes_cons, View.writes_cons, ih]

/-- Slot `s` of the row buffer holds the rows of `x` that the table lists. -/
def Slot (s : ℕ) (tab : Vec F S1x2x128 .i32) (x : Vec F S65536x128 .i32) (b : Vec F S2x2048x128 .i32) : Prop :=
  ∀ (a : Fin 2), a.val = s → ∀ (k : Fin 2048) (l : Fin 128), b (ix3 a k l) = Rows.word tab x k l

/-- A later point, a tile of 256 rows. -/
theorem laterFull (h1 : ¬ k0_cond1 i = 1#1) (h2 : k0_cond2 i (nTiles (F := F) arg1 X1) (entry (F := F) i arg1 X1) = 1#1)
    (h3 : ¬ k0_cond3 i (nTiles (F := F) arg1 X1) (entry (F := F) i arg1 X1) = 1#1) (hX3 : ∀ j, (arg3.view.read (Elt F) X3 j).toNat < 8192) :
    (iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ((arg10.view.loc (c : Thread nD τ) ↦[arg10.view.set]{fullShare} (arg10.view.writes (Elt F) X10 (tile256 (F := F) i (arg12.view.read (Elt F) X12) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} X11) ∗ (∃ Y12, ⌜Slot (F := F) (1 - (i 0).val % 2) (arg3.view.read (Elt F) X3) (arg11.view.read (Elt F) X11) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t2_loop.trips), k0_chk2 i (nTiles (F := F) arg1 X1) (entry (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := fun kq hkq =>
    chk2_of i _ _ _ (by
      have hk : kq < 256 := lt_of_lt_of_eq hkq (by decide)
      rw [tab_read arg3.view X3 kq hk _ _ _ (k0_off13_eq ⟨kq, hkq⟩)]; exact hX3 _)
  rw [cc0_expert_ffn_eq_skeleton]
  sl_unfold [cc0_expert_ffn_skel]
  iintro ⟨HR1, HR3, HR4, HR6, HR7, HR8, HR9, HW10, HR11, HW12, HW13⟩
  set_option sl_exec.stopBefore "k0_cond2" in sl_exec
  have h2' : k0_cond2 i (laterFull.sl.r (F := F) arg1 X1) (laterFull.sl.r_1 (F := F) i arg1 X1) = 1#1 := h2
  have h3' : ¬ k0_cond3 i (laterFull.sl.r (F := F) arg1 X1) (laterFull.sl.r_1 (F := F) i arg1 X1) = 1#1 := h3
  have hw' : ∀ (kq : ℕ) (hkq : kq < k0_t2_loop.trips), k0_chk2 i (laterFull.sl.r (F := F) arg1 X1) (laterFull.sl.r_1 (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := hw
  sl_exec_parts
  sl_step
  have ea : laterFull.sl.v1290 (F := F) i arg6 arg7 arg12 arg13 X6 X7 X12 = act256 (xs256 i (arg12.view.read (Elt F) X12)) (arg6.view.read (Elt F) X6) (arg7.view.read (Elt F) X7) :=
    View.readCov_eq_canon' arg13.view (laterFull.sl.HW13_2 (F := F) i arg6 arg7 arg12 X6 X7 X12) _
  isplitl [HR1]; · iexact HR1
  isplitl [HR3]; · iexact HR3
  isplitl [HR4]; · iexact HR4
  isplitl [HR6]; · iexact HR6
  isplitl [HR7]; · iexact HR7
  isplitl [HR8]; · iexact HR8
  isplitl [HR9]; · iexact HR9
  isplitr [HW13]
  · isplitl [HW10]
    · unfold tile256
      rw [← ea]
      iexact HW10
    isplitl [HR11]; · iexact HR11
    iexists _
    isplitr [HW12]
    rotate_left
    · iexact HW12
    · ipureintro
      intro a ha k l
      refine (read2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h2' _ _ X3 X11 X12 hw' hX3 256 (le_refl _) a k l).trans (if_pos ⟨ha, by omega⟩)
  iexists _; iexact HW13

/-- A later point, a tile of 128 rows. -/
theorem laterHalf (h1 : ¬ k0_cond1 i = 1#1) (h2 : ¬ k0_cond2 i (nTiles (F := F) arg1 X1) (entry (F := F) i arg1 X1) = 1#1)
    (h3 : k0_cond3 i (nTiles (F := F) arg1 X1) (entry (F := F) i arg1 X1) = 1#1) (hX3 : ∀ j, (arg3.view.read (Elt F) X3 j).toNat < 8192) :
    (iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ((arg10.view.loc (c : Thread nD τ) ↦[arg10.view.set]{fullShare} (arg10.view.writes (Elt F) X10 (tile128 (F := F) i (arg12.view.read (Elt F) X12) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} X11) ∗ (∃ Y12, ⌜Slot (F := F) (1 - (i 0).val % 2) (arg3.view.read (Elt F) X3) (arg11.view.read (Elt F) X11) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t3_loop.trips), k0_chk3 i (nTiles (F := F) arg1 X1) (entry (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := fun kq hkq =>
    chk3_of i _ _ _ (by
      have hk : kq < 256 := lt_of_lt_of_eq hkq (by decide)
      rw [tab_read arg3.view X3 kq hk _ _ _ (k0_off24_eq ⟨kq, hkq⟩)]; exact hX3 _)
  rw [cc0_expert_ffn_eq_skeleton]
  sl_unfold [cc0_expert_ffn_skel]
  iintro ⟨HR1, HR3, HR4, HR6, HR7, HR8, HR9, HW10, HR11, HW12, HW13⟩
  set_option sl_exec.stopBefore "k0_cond2" in sl_exec
  have h2' : ¬ k0_cond2 i (laterHalf.sl.r (F := F) arg1 X1) (laterHalf.sl.r_1 (F := F) i arg1 X1) = 1#1 := h2
  have h3' : k0_cond3 i (laterHalf.sl.r (F := F) arg1 X1) (laterHalf.sl.r_1 (F := F) i arg1 X1) = 1#1 := h3
  have hw' : ∀ (kq : ℕ) (hkq : kq < k0_t3_loop.trips), k0_chk3 i (laterHalf.sl.r (F := F) arg1 X1) (laterHalf.sl.r_1 (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := hw
  sl_exec_parts
  sl_step
  have ea : laterHalf.sl.v1288 (F := F) i arg6 arg7 arg12 arg13 X6 X7 X12 = act128 (xs128 i (arg12.view.read (Elt F) X12)) (arg6.view.read (Elt F) X6) (arg7.view.read (Elt F) X7) :=
    View.readCov_eq_canon' arg13.view (laterHalf.sl.HW13_2 (F := F) i arg6 arg7 arg12 X6 X7 X12) _
  isplitl [HR1]; · iexact HR1
  isplitl [HR3]; · iexact HR3
  isplitl [HR4]; · iexact HR4
  isplitl [HR6]; · iexact HR6
  isplitl [HR7]; · iexact HR7
  isplitl [HR8]; · iexact HR8
  isplitl [HR9]; · iexact HR9
  isplitr [HW13]
  · isplitl [HW10]
    · unfold tile128
      rw [← ea]
      iexact HW10
    isplitl [HR11]; · iexact HR11
    iexists _
    isplitr [HW12]
    rotate_left
    · iexact HW12
    · ipureintro
      intro a ha k l
      refine (read3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h3' _ _ X3 X11 X12 hw' hX3 256 (le_refl _) a k l).trans (if_pos ⟨ha, by omega⟩)
  iexists _; iexact HW13

/-- A later point, no tile. -/
theorem laterSkip (h1 : ¬ k0_cond1 i = 1#1) (h2 : ¬ k0_cond2 i (nTiles (F := F) arg1 X1) (entry (F := F) i arg1 X1) = 1#1)
    (h3 : ¬ k0_cond3 i (nTiles (F := F) arg1 X1) (entry (F := F) i arg1 X1) = 1#1) :
    (iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ((arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)) ∗ ∃ Y13, (arg13.view.loc (c : Thread nD τ) ↦[arg13.view.set]{fullShare} Y13))) := by
  rw [cc0_expert_ffn_eq_skeleton]
  sl_unfold [cc0_expert_ffn_skel]
  iintro ⟨HR1, HR3, HR4, HR6, HR7, HR8, HR9, HW10, HR11, HW12, HW13⟩
  set_option sl_exec.stopBefore "k0_cond2" in sl_exec
  have h2' : ¬ k0_cond2 i (laterSkip.sl.r (F := F) arg1 X1) (laterSkip.sl.r_1 (F := F) i arg1 X1) = 1#1 := h2
  have h3' : ¬ k0_cond3 i (laterSkip.sl.r (F := F) arg1 X1) (laterSkip.sl.r_1 (F := F) i arg1 X1) = 1#1 := h3
  sl_exec
  sl_step
  isplitl [HR1]; · iexact HR1
  isplitl [HR3]; · iexact HR3
  isplitl [HR4]; · iexact HR4
  isplitl [HR6]; · iexact HR6
  isplitl [HR7]; · iexact HR7
  isplitl [HR8]; · iexact HR8
  isplitl [HR9]; · iexact HR9
  isplitr [HW13]
  · isplitl [HW10]; · iexact HW10
    isplitl [HR11]; · iexact HR11
    iexact HW12
  iexists _; iexact HW13

/-- The first point, a tile of 256 rows. -/
theorem firstFull (h1 : k0_cond1 i = 1#1) (h2 : k0_cond2 i (nTiles (F := F) arg1 X1) (entry (F := F) i arg1 X1) = 1#1)
    (h3 : ¬ k0_cond3 i (nTiles (F := F) arg1 X1) (entry (F := F) i arg1 X1) = 1#1) (hX2 : ∀ j, (arg2.view.read (Elt F) X2 j).toNat < 8192) (W : Waits sig Unit) (hX3 : ∀ j, (arg3.view.read (Elt F) X3 j).toNat < 8192) :
    (iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ semVal ((c : Thread nD τ), SemLoc.dma arg14.sem) 0 ∗ (∃ W', owes (c : Thread nD τ) 0 W') ∗ (∃ Y11 Ym, ⌜arg11.view.read (Elt F) Y11 = arg5.view.read (Elt F) X5 ∧ Slot (F := F) 0 (arg2.view.read (Elt F) X2) (arg5.view.read (Elt F) X5) (arg12.view.read (Elt F) Ym)⌝ ∗ (arg10.view.loc (c : Thread nD τ) ↦[arg10.view.set]{fullShare} (arg10.view.writes (Elt F) X10 (tile256 (F := F) i (arg12.view.read (Elt F) Ym) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} Y11) ∗ (∃ Y12, ⌜Slot (F := F) (1 - (i 0).val % 2) (arg3.view.read (Elt F) X3) (arg5.view.read (Elt F) X5) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t2_loop.trips), k0_chk2 i (nTiles (F := F) arg1 X1) (entry (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := fun kq hkq =>
    chk2_of i _ _ _ (by
      have hk : kq < 256 := lt_of_lt_of_eq hkq (by decide)
      rw [tab_read arg3.view X3 kq hk _ _ _ (k0_off13_eq ⟨kq, hkq⟩)]; exact hX3 _)
  have hw1 : ∀ (kq : ℕ) (hkq : kq < k0_t1_loop.trips), k0_chk1 i (tok1 (F := F) i arg2 h1 X2 ⟨kq, hkq⟩) := fun kq hkq =>
    chk1_of i _ (by
      have hk : kq < 256 := lt_of_lt_of_eq hkq (by decide)
      show (arg2.view.readAt (Elt F) _ X2 _).toNat < 8192
      rw [tab_read arg2.view X2 kq hk _ _ _ (k0_off2_eq ⟨kq, hkq⟩)]; exact hX2 _)
  rw [cc0_expert_ffn_eq_skeleton]
  sl_unfold [cc0_expert_ffn_skel]
  iintro ⟨HR1, HR2, HR3, HR4, HR5, HR6, HR7, HR8, HR9, HW10, HW11, HW12, HW13, HS, HO⟩
  set_option sl_exec.stopBefore "k0_cond2" in sl_exec
  have h2' : k0_cond2 i (firstFull.sl.r (F := F) arg1 X1) (firstFull.sl.r_1 (F := F) i arg1 X1) = 1#1 := h2
  have h3' : ¬ k0_cond3 i (firstFull.sl.r (F := F) arg1 X1) (firstFull.sl.r_1 (F := F) i arg1 X1) = 1#1 := h3
  have hw' : ∀ (kq : ℕ) (hkq : kq < k0_t2_loop.trips), k0_chk2 i (firstFull.sl.r (F := F) arg1 X1) (firstFull.sl.r_1 (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := hw
  sl_exec_parts
  sl_step
  have e11 : arg11.view.read (Elt F) (arg11.view.writes (Elt F) arg11.view.junk [⟨Rect.whole S65536x128, firstFull.sl.dma1 (F := F) arg5 X5⟩]) = arg5.view.read (Elt F) X5 := View.read_writes_whole _ _ _
  have em : Slot (F := F) 0 (arg2.view.read (Elt F) X2) (arg5.view.read (Elt F) X5) (arg12.view.read (Elt F) (arg12.view.writes (Elt F) X12 (pcs1 (F := F) i arg2 arg11 h1 X2 (arg11.view.writes (Elt F) arg11.view.junk [⟨Rect.whole S65536x128, firstFull.sl.dma1 (F := F) arg5 X5⟩]) hw1 256))) := by
    intro a ha k l
    rw [← e11]
    exact (read1 (F := F) i arg2 arg11 arg12 h1 X2 (arg11.view.writes (Elt F) arg11.view.junk [⟨Rect.whole S65536x128, firstFull.sl.dma1 (F := F) arg5 X5⟩]) X12 hw1 hX2 256 (le_refl _) a k l).trans (if_pos ⟨ha, by omega⟩)
  have ea : firstFull.sl.v1290 (F := F) i arg2 arg5 arg6 arg7 arg11 arg12 arg13 X2 X5 X6 X7 X12 h1 hw1 = act256 (xs256 i (arg12.view.read (Elt F) (arg12.view.writes (Elt F) X12 (pcs1 (F := F) i arg2 arg11 h1 X2 (arg11.view.writes (Elt F) arg11.view.junk [⟨Rect.whole S65536x128, firstFull.sl.dma1 (F := F) arg5 X5⟩]) hw1 256)))) (arg6.view.read (Elt F) X6) (arg7.view.read (Elt F) X7) :=
    View.readCov_eq_canon' arg13.view (firstFull.sl.HW13_2 (F := F) i arg2 arg5 arg6 arg7 arg11 arg12 X2 X5 X6 X7 X12 h1 hw1) _
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS]; · iexact HS
  isplitl [HO]; · iexists _; iexact HO
  isplitr [HW13]
  · iexists (arg11.view.writes (Elt F) arg11.view.junk [⟨Rect.whole S65536x128, firstFull.sl.dma1 (F := F) arg5 X5⟩]), (arg12.view.writes (Elt F) X12 (pcs1 (F := F) i arg2 arg11 h1 X2 (arg11.view.writes (Elt F) arg11.view.junk [⟨Rect.whole S65536x128, firstFull.sl.dma1 (F := F) arg5 X5⟩]) hw1 256))
    isplitr; · ipureintro; exact ⟨e11, em⟩
    isplitl [HW10]
    · unfold tile256
      rw [← ea]
      iexact HW10
    isplitl [HW11]; · iexact HW11
    iexists _
    isplitr [HW12]
    rotate_left
    · iexact HW12
    · ipureintro
      intro a ha k l
      rw [writes_append, ← e11]
      refine (read2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h2' _ _ X3 (arg11.view.writes (Elt F) arg11.view.junk [⟨Rect.whole S65536x128, firstFull.sl.dma1 (F := F) arg5 X5⟩]) (arg12.view.writes (Elt F) X12 (pcs1 (F := F) i arg2 arg11 h1 X2 (arg11.view.writes (Elt F) arg11.view.junk [⟨Rect.whole S65536x128, firstFull.sl.dma1 (F := F) arg5 X5⟩]) hw1 256)) hw' hX3 256 (le_refl _) a k l).trans (if_pos ⟨ha, by omega⟩)
  iexists _; iexact HW13

/-- The first point, a tile of 128 rows. -/
theorem firstHalf (h1 : k0_cond1 i = 1#1) (h2 : ¬ k0_cond2 i (nTiles (F := F) arg1 X1) (entry (F := F) i arg1 X1) = 1#1)
    (h3 : k0_cond3 i (nTiles (F := F) arg1 X1) (entry (F := F) i arg1 X1) = 1#1) (hX2 : ∀ j, (arg2.view.read (Elt F) X2 j).toNat < 8192) (W : Waits sig Unit) (hX3 : ∀ j, (arg3.view.read (Elt F) X3 j).toNat < 8192) :
    (iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ semVal ((c : Thread nD τ), SemLoc.dma arg14.sem) 0 ∗ (∃ W', owes (c : Thread nD τ) 0 W') ∗ (∃ Y11 Ym, ⌜arg11.view.read (Elt F) Y11 = arg5.view.read (Elt F) X5 ∧ Slot (F := F) 0 (arg2.view.read (Elt F) X2) (arg5.view.read (Elt F) X5) (arg12.view.read (Elt F) Ym)⌝ ∗ (arg10.view.loc (c : Thread nD τ) ↦[arg10.view.set]{fullShare} (arg10.view.writes (Elt F) X10 (tile128 (F := F) i (arg12.view.read (Elt F) Ym) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} Y11) ∗ (∃ Y12, ⌜Slot (F := F) (1 - (i 0).val % 2) (arg3.view.read (Elt F) X3) (arg5.view.read (Elt F) X5) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t3_loop.trips), k0_chk3 i (nTiles (F := F) arg1 X1) (entry (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := fun kq hkq =>
    chk3_of i _ _ _ (by
      have hk : kq < 256 := lt_of_lt_of_eq hkq (by decide)
      rw [tab_read arg3.view X3 kq hk _ _ _ (k0_off24_eq ⟨kq, hkq⟩)]; exact hX3 _)
  have hw1 : ∀ (kq : ℕ) (hkq : kq < k0_t1_loop.trips), k0_chk1 i (tok1 (F := F) i arg2 h1 X2 ⟨kq, hkq⟩) := fun kq hkq =>
    chk1_of i _ (by
      have hk : kq < 256 := lt_of_lt_of_eq hkq (by decide)
      show (arg2.view.readAt (Elt F) _ X2 _).toNat < 8192
      rw [tab_read arg2.view X2 kq hk _ _ _ (k0_off2_eq ⟨kq, hkq⟩)]; exact hX2 _)
  rw [cc0_expert_ffn_eq_skeleton]
  sl_unfold [cc0_expert_ffn_skel]
  iintro ⟨HR1, HR2, HR3, HR4, HR5, HR6, HR7, HR8, HR9, HW10, HW11, HW12, HW13, HS, HO⟩
  set_option sl_exec.stopBefore "k0_cond2" in sl_exec
  have h2' : ¬ k0_cond2 i (firstHalf.sl.r (F := F) arg1 X1) (firstHalf.sl.r_1 (F := F) i arg1 X1) = 1#1 := h2
  have h3' : k0_cond3 i (firstHalf.sl.r (F := F) arg1 X1) (firstHalf.sl.r_1 (F := F) i arg1 X1) = 1#1 := h3
  have hw' : ∀ (kq : ℕ) (hkq : kq < k0_t3_loop.trips), k0_chk3 i (firstHalf.sl.r (F := F) arg1 X1) (firstHalf.sl.r_1 (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := hw
  sl_exec_parts
  sl_step
  have e11 : arg11.view.read (Elt F) (arg11.view.writes (Elt F) arg11.view.junk [⟨Rect.whole S65536x128, firstHalf.sl.dma1 (F := F) arg5 X5⟩]) = arg5.view.read (Elt F) X5 := View.read_writes_whole _ _ _
  have em : Slot (F := F) 0 (arg2.view.read (Elt F) X2) (arg5.view.read (Elt F) X5) (arg12.view.read (Elt F) (arg12.view.writes (Elt F) X12 (pcs1 (F := F) i arg2 arg11 h1 X2 (arg11.view.writes (Elt F) arg11.view.junk [⟨Rect.whole S65536x128, firstHalf.sl.dma1 (F := F) arg5 X5⟩]) hw1 256))) := by
    intro a ha k l
    rw [← e11]
    exact (read1 (F := F) i arg2 arg11 arg12 h1 X2 (arg11.view.writes (Elt F) arg11.view.junk [⟨Rect.whole S65536x128, firstHalf.sl.dma1 (F := F) arg5 X5⟩]) X12 hw1 hX2 256 (le_refl _) a k l).trans (if_pos ⟨ha, by omega⟩)
  have ea : firstHalf.sl.v1288 (F := F) i arg2 arg5 arg6 arg7 arg11 arg12 arg13 X2 X5 X6 X7 X12 h1 hw1 = act128 (xs128 i (arg12.view.read (Elt F) (arg12.view.writes (Elt F) X12 (pcs1 (F := F) i arg2 arg11 h1 X2 (arg11.view.writes (Elt F) arg11.view.junk [⟨Rect.whole S65536x128, firstHalf.sl.dma1 (F := F) arg5 X5⟩]) hw1 256)))) (arg6.view.read (Elt F) X6) (arg7.view.read (Elt F) X7) :=
    View.readCov_eq_canon' arg13.view (firstHalf.sl.HW13_2 (F := F) i arg2 arg5 arg6 arg7 arg11 arg12 X2 X5 X6 X7 X12 h1 hw1) _
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS]; · iexact HS
  isplitl [HO]; · iexists _; iexact HO
  isplitr [HW13]
  · iexists (arg11.view.writes (Elt F) arg11.view.junk [⟨Rect.whole S65536x128, firstHalf.sl.dma1 (F := F) arg5 X5⟩]), (arg12.view.writes (Elt F) X12 (pcs1 (F := F) i arg2 arg11 h1 X2 (arg11.view.writes (Elt F) arg11.view.junk [⟨Rect.whole S65536x128, firstHalf.sl.dma1 (F := F) arg5 X5⟩]) hw1 256))
    isplitr; · ipureintro; exact ⟨e11, em⟩
    isplitl [HW10]
    · unfold tile128
      rw [← ea]
      iexact HW10
    isplitl [HW11]; · iexact HW11
    iexists _
    isplitr [HW12]
    rotate_left
    · iexact HW12
    · ipureintro
      intro a ha k l
      rw [writes_append, ← e11]
      refine (read3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h3' _ _ X3 (arg11.view.writes (Elt F) arg11.view.junk [⟨Rect.whole S65536x128, firstHalf.sl.dma1 (F := F) arg5 X5⟩]) (arg12.view.writes (Elt F) X12 (pcs1 (F := F) i arg2 arg11 h1 X2 (arg11.view.writes (Elt F) arg11.view.junk [⟨Rect.whole S65536x128, firstHalf.sl.dma1 (F := F) arg5 X5⟩]) hw1 256)) hw' hX3 256 (le_refl _) a k l).trans (if_pos ⟨ha, by omega⟩)
  iexists _; iexact HW13

/-- The first point, no tile. -/
theorem firstSkip (h1 : k0_cond1 i = 1#1) (h2 : ¬ k0_cond2 i (nTiles (F := F) arg1 X1) (entry (F := F) i arg1 X1) = 1#1)
    (h3 : ¬ k0_cond3 i (nTiles (F := F) arg1 X1) (entry (F := F) i arg1 X1) = 1#1) (hX2 : ∀ j, (arg2.view.read (Elt F) X2 j).toNat < 8192) (W : Waits sig Unit) :
    (iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ semVal ((c : Thread nD τ), SemLoc.dma arg14.sem) 0 ∗ (∃ W', owes (c : Thread nD τ) 0 W') ∗ (∃ Y11 Ym, ⌜arg11.view.read (Elt F) Y11 = arg5.view.read (Elt F) X5 ∧ Slot (F := F) 0 (arg2.view.read (Elt F) X2) (arg5.view.read (Elt F) X5) (arg12.view.read (Elt F) Ym)⌝ ∗ (arg10.view.loc (c : Thread nD τ) ↦[arg10.view.set]{fullShare} X10) ∗ (arg11.view.loc (c : Thread nD τ) ↦[arg11.view.set]{fullShare} Y11) ∗ (arg12.view.loc (c : Thread nD τ) ↦[arg12.view.set]{fullShare} Ym)) ∗ ∃ Y13, (arg13.view.loc (c : Thread nD τ) ↦[arg13.view.set]{fullShare} Y13))) := by
  have hw1 : ∀ (kq : ℕ) (hkq : kq < k0_t1_loop.trips), k0_chk1 i (tok1 (F := F) i arg2 h1 X2 ⟨kq, hkq⟩) := fun kq hkq =>
    chk1_of i _ (by
      have hk : kq < 256 := lt_of_lt_of_eq hkq (by decide)
      show (arg2.view.readAt (Elt F) _ X2 _).toNat < 8192
      rw [tab_read arg2.view X2 kq hk _ _ _ (k0_off2_eq ⟨kq, hkq⟩)]; exact hX2 _)
  rw [cc0_expert_ffn_eq_skeleton]
  sl_unfold [cc0_expert_ffn_skel]
  iintro ⟨HR1, HR2, HR3, HR4, HR5, HR6, HR7, HR8, HR9, HW10, HW11, HW12, HW13, HS, HO⟩
  set_option sl_exec.stopBefore "k0_cond2" in sl_exec
  have h2' : ¬ k0_cond2 i (firstSkip.sl.r (F := F) arg1 X1) (firstSkip.sl.r_1 (F := F) i arg1 X1) = 1#1 := h2
  have h3' : ¬ k0_cond3 i (firstSkip.sl.r (F := F) arg1 X1) (firstSkip.sl.r_1 (F := F) i arg1 X1) = 1#1 := h3
  sl_exec
  sl_step
  have e11 : arg11.view.read (Elt F) (arg11.view.writes (Elt F) arg11.view.junk [⟨Rect.whole S65536x128, firstSkip.sl.dma1 (F := F) arg5 X5⟩]) = arg5.view.read (Elt F) X5 := View.read_writes_whole _ _ _
  have em : Slot (F := F) 0 (arg2.view.read (Elt F) X2) (arg5.view.read (Elt F) X5) (arg12.view.read (Elt F) (arg12.view.writes (Elt F) X12 (pcs1 (F := F) i arg2 arg11 h1 X2 (arg11.view.writes (Elt F) arg11.view.junk [⟨Rect.whole S65536x128, firstSkip.sl.dma1 (F := F) arg5 X5⟩]) hw1 256))) := by
    intro a ha k l
    rw [← e11]
    exact (read1 (F := F) i arg2 arg11 arg12 h1 X2 (arg11.view.writes (Elt F) arg11.view.junk [⟨Rect.whole S65536x128, firstSkip.sl.dma1 (F := F) arg5 X5⟩]) X12 hw1 hX2 256 (le_refl _) a k l).trans (if_pos ⟨ha, by omega⟩)
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS]; · iexact HS
  isplitl [HO]; · iexists _; iexact HO
  isplitr [HW13]
  · iexists (arg11.view.writes (Elt F) arg11.view.junk [⟨Rect.whole S65536x128, firstSkip.sl.dma1 (F := F) arg5 X5⟩]), (arg12.view.writes (Elt F) X12 (pcs1 (F := F) i arg2 arg11 h1 X2 (arg11.view.writes (Elt F) arg11.view.junk [⟨Rect.whole S65536x128, firstSkip.sl.dma1 (F := F) arg5 X5⟩]) hw1 256))
    isplitr; · ipureintro; exact ⟨e11, em⟩
    isplitl [HW10]
    · iexact HW10
    isplitl [HW11]; · iexact HW11
    iexact HW12
  iexists _; iexact HW13

end

end Cert.Kernel.Hand
-- ==== Proof.Step.lean ====
/-
  One point of the feed-forward kernel's grid, all its cases together: what it is handed and what it leaves, in the contents
  its blocks hold.
-/
module

public import proofs.«01_k».proof.Proof.Run

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- What the body stores of its tile: of 256 rows or, where the entry says so, of 128. -/
def tileAt (i : grid0.Coords) (nT en : BitVec 32) (b : Vec F S2x2048x128 .i32) (x4 : Vec F S1x2x128 .f32) (x6 : GateW F) (x7 : GateS F)
    (x8 : DownW F) (x9 : DownS F) : List (View.Piece (Elt F) S6144x128 .f32) :=
  if k0_cond2 i nT en = 1#1 then tile256 i b x4 x6 x7 x8 x9 else tile128 i b x4 x6 x7 x8 x9

/-- The body at a point. Where the point has a tile (one of the two conditions), the rows of its own tile have been gathered (by
    the point before, or at the first point by itself), it leaves the tile's stores in the result's block and the next table's rows in
    the other slot; elsewhere it leaves the block alone. -/
theorem step (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_)
    (X1 : BufTy.Contents (Elt F) arg1.view.ty) (X5 : BufTy.Contents (Elt F) arg5.view.ty) (X11 : BufTy.Contents (Elt F) arg11.view.ty) (X12 : BufTy.Contents (Elt F) arg12.view.ty) (X13 : BufTy.Contents (Elt F) arg13.view.ty) (Y2 : Vec F S1x2x128 .i32) (Y3 : Vec F S1x2x128 .i32) (Y4 : Vec F S1x2x128 .f32) (Y6 : GateW F) (Y7 : GateS F) (Y8 : DownW F) (Y9 : DownS F) (Y10 : Vec F S6144x128 .f32)
    (tab : Vec F S1x2x128 .i32) (xw : Vec F S65536x128 .i32) (nT en : BitVec 32) (W : Waits sig Unit)
    (hnT : nTiles (F := F) arg1 X1 = nT) (hen : entry (F := F) i arg1 X1 = en)
    (hY2 : ∀ j, (Y2 j).toNat < 8192) (hY3 : ∀ j, (Y3 j).toNat < 8192) (h5 : arg5.view.read (Elt F) X5 = xw)
    (hx : ¬ (k0_cond2 i nT en = 1#1 ∧ k0_cond3 i nT en = 1#1))
    (hs : ¬ k0_cond1 i = 1#1 → arg11.view.read (Elt F) X11 = xw ∧ ((k0_cond2 i nT en = 1#1 ∨ k0_cond3 i nT en = 1#1) → Slot (F := F) ((i 0).val % 2) tab xw (arg12.view.read (Elt F) X12)))
    (hf : k0_cond1 i = 1#1 → Y2 = tab ∧ (i 0).val % 2 = 0) :
    (iprop((arg1.view.loc (c : Thread nD τ) ↦[arg1.view.set]{fullShare.right} X1) ∗ owns (c : Thread nD τ) arg2 fullShare Y2 ∗ owns (c : Thread nD τ) arg3 fullShare Y3 ∗ owns (c : Thread nD τ) arg4 fullShare Y4 ∗ (arg5.view.loc (c : Thread nD τ) ↦[arg5.view.set]{fullShare} X5) ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ owns (c : Thread nD τ) arg2 fullShare Y2 ∗ owns (c : Thread nD τ) arg3 fullShare Y3 ∗ owns (c : Thread nD τ) arg4 fullShare Y4 ∗ (arg5.view.loc (c : Thread nD τ) ↦[arg5.view.set]{fullShare} X5) ∗ owns (c : Thread nD τ) arg6 fullShare Y6 ∗ owns (c : Thread nD τ) arg7 fullShare Y7 ∗ owns (c : Thread nD τ) arg8 fullShare Y8 ∗ owns (c : Thread nD τ) arg9 fullShare Y9 ∗ (∃ Z, ⌜((k0_cond2 i nT en = 1#1 ∨ k0_cond3 i nT en = 1#1) → ∃ f b, Slot (F := F) ((i 0).val % 2) tab xw b ∧ Z = arg10.view.read (Elt F) (arg10.view.writes (Elt F) f (tileAt i nT en b Y4 Y6 Y7 Y8 Y9))) ∧ (¬ (k0_cond2 i nT en = 1#1 ∨ k0_cond3 i nT en = 1#1) → Z = Y10)⌝ ∗ owns (c : Thread nD τ) arg10 fullShare Z) ∗ (∃ Z11 Z12 Z13, ⌜arg11.view.read (Elt F) Z11 = xw ∧ ((k0_cond2 i nT en = 1#1 ∨ k0_cond3 i nT en = 1#1) → Slot (F := F) (1 - (i 0).val % 2) Y3 xw (arg12.view.read (Elt F) Z12))⌝ ∗ (arg11.view.loc (c : Thread nD τ) ↦[arg11.view.set]{fullShare} Z11) ∗ (arg12.view.loc (c : Thread nD τ) ↦[arg12.view.set]{fullShare} Z12) ∗ (arg13.view.loc (c : Thread nD τ) ↦[arg13.view.set]{fullShare} Z13)) ∗ semVal ((c : Thread nD τ), SemLoc.dma arg14.sem) 0 ∗ (∃ W', owes (c : Thread nD τ) 0 W'))) := by
  subst hnT hen
  unfold owns
  iintro ⟨H1, ⟨%f2, %e2, H2⟩, ⟨%f3, %e3, H3⟩, ⟨%f4, %e4, H4⟩, H5, ⟨%f6, %e6, H6⟩, ⟨%f7, %e7, H7⟩, ⟨%f8, %e8, H8⟩, ⟨%f9, %e9, H9⟩, ⟨%f10, %e10, H10⟩, H11, H12, H13, HS, HO⟩
  subst e2; subst e3; subst e4; subst e6; subst e7; subst e8; subst e9; subst e10
  by_cases h1 : k0_cond1 i = 1#1 <;> by_cases h2 : k0_cond2 i (nTiles (F := F) arg1 X1) (entry (F := F) i arg1 X1) = 1#1 <;>
    by_cases h3 : k0_cond3 i (nTiles (F := F) arg1 X1) (entry (F := F) i arg1 X1) = 1#1
  · exact absurd ⟨h2, h3⟩ hx
  · skip
    iapply (wp_wand_r frame (wpE (defs₀ (F := F)) 𝒱 (c : Thread nD τ) bd) Set.univ)
    isplitl [H1 H2 H3 H4 H5 H6 H7 H8 H9 H10 H11 H12 H13 HS HO]
    · iapply (firstFull (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X2 := f2) (X3 := f3) (X4 := f4) (X5 := X5) (X6 := f6) (X7 := f7) (X8 := f8) (X9 := f9) (X10 := f10) (X11 := X11) (X12 := X12) (X13 := X13) (h1 := h1) (h2 := h2) (h3 := h3) (hX2 := hY2) (W := W) (hX3 := hY3))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iexact HO
    iintro %_
    iintro ⟨H1, H2, H3, H4, H5, H6, H7, H8, H9, HS, ⟨%W', HO⟩, ⟨%Z11, %Zm, %hm, H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile256 (F := F) i (arg12.view.read (Elt F) Zm) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) Zm, by have := hm.2; rw [h5] at this; rw [(hf h1).2, ← (hf h1).1]; exact this, ?_⟩, fun h => absurd (.inl h2) h⟩
        rw [tileAt, if_pos h2]
      iexists _; isplitr; swap; · iexact H10
      ipureintro; rfl
    isplitl [H11 H12 H13]
    · iexists Z11, Z12, Z13
      isplitr
      · ipureintro; exact ⟨hm.1.trans h5, fun _ => by have := hz; rw [h5] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H2 H3 H4 H5 H6 H7 H8 H9 H10 H11 H12 H13 HS HO]
    · iapply (firstHalf (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X2 := f2) (X3 := f3) (X4 := f4) (X5 := X5) (X6 := f6) (X7 := f7) (X8 := f8) (X9 := f9) (X10 := f10) (X11 := X11) (X12 := X12) (X13 := X13) (h1 := h1) (h2 := h2) (h3 := h3) (hX2 := hY2) (W := W) (hX3 := hY3))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iexact HO
    iintro %_
    iintro ⟨H1, H2, H3, H4, H5, H6, H7, H8, H9, HS, ⟨%W', HO⟩, ⟨%Z11, %Zm, %hm, H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile128 (F := F) i (arg12.view.read (Elt F) Zm) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) Zm, by have := hm.2; rw [h5] at this; rw [(hf h1).2, ← (hf h1).1]; exact this, ?_⟩, fun h => absurd (.inr h3) h⟩
        rw [tileAt, if_neg h2]
      iexists _; isplitr; swap; · iexact H10
      ipureintro; rfl
    isplitl [H11 H12 H13]
    · iexists Z11, Z12, Z13
      isplitr
      · ipureintro; exact ⟨hm.1.trans h5, fun _ => by have := hz; rw [h5] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H2 H3 H4 H5 H6 H7 H8 H9 H10 H11 H12 H13 HS HO]
    · iapply (firstSkip (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X2 := f2) (X3 := f3) (X4 := f4) (X5 := X5) (X6 := f6) (X7 := f7) (X8 := f8) (X9 := f9) (X10 := f10) (X11 := X11) (X12 := X12) (X13 := X13) (h1 := h1) (h2 := h2) (h3 := h3) (hX2 := hY2) (W := W))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iexact HO
    iintro %_
    iintro ⟨H1, H2, H3, H4, H5, H6, H7, H8, H9, HS, ⟨%W', HO⟩, ⟨%Z11, %Zm, %hm, H10, H11, H12⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) f10); isplitr
      · ipureintro; exact ⟨fun h => absurd h (by rintro (h | h); exacts [h2 h, h3 h]), fun _ => rfl⟩
      iexists _; isplitr; swap; · iexact H10
      ipureintro; rfl
    isplitl [H11 H12 H13]
    · iexists Z11, Zm, Z13
      isplitr
      · ipureintro; exact ⟨hm.1.trans h5, fun h => absurd h (by rintro (h | h); exacts [h2 h, h3 h])⟩
      isplitl [H11]; · iexact H11
      isplitl [H12]; · iexact H12
      iexact H13
    isplitl [HS]; · iexact HS
    iexists _; iexact HO
  · exact absurd ⟨h2, h3⟩ hx
  · skip
    iapply (wp_wand_r frame (wpE (defs₀ (F := F)) 𝒱 (c : Thread nD τ) bd) Set.univ)
    isplitl [H1 H3 H4 H6 H7 H8 H9 H10 H11 H12 H13]
    · iapply (laterFull (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X3 := f3) (X4 := f4) (X6 := f6) (X7 := f7) (X8 := f8) (X9 := f9) (X10 := f10) (X11 := X11) (X12 := X12) (X13 := X13) (h1 := h1) (h2 := h2) (h3 := h3) (hX3 := hY3))
      isplitl [H1]; · iexact H1
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_
    iintro ⟨H1, H3, H4, H6, H7, H8, H9, ⟨H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile256 (F := F) i (arg12.view.read (Elt F) X12) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) X12, ((hs h1).2 (.inl h2)), ?_⟩, fun h => absurd (.inl h2) h⟩
        rw [tileAt, if_pos h2]
      iexists _; isplitr; swap; · iexact H10
      ipureintro; rfl
    isplitl [H11 H12 H13]
    · iexists X11, Z12, Z13
      isplitr
      · ipureintro; exact ⟨(hs h1).1, fun _ => by have := hz; rw [(hs h1).1] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H3 H4 H6 H7 H8 H9 H10 H11 H12 H13]
    · iapply (laterHalf (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X3 := f3) (X4 := f4) (X6 := f6) (X7 := f7) (X8 := f8) (X9 := f9) (X10 := f10) (X11 := X11) (X12 := X12) (X13 := X13) (h1 := h1) (h2 := h2) (h3 := h3) (hX3 := hY3))
      isplitl [H1]; · iexact H1
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_
    iintro ⟨H1, H3, H4, H6, H7, H8, H9, ⟨H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile128 (F := F) i (arg12.view.read (Elt F) X12) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) X12, ((hs h1).2 (.inr h3)), ?_⟩, fun h => absurd (.inr h3) h⟩
        rw [tileAt, if_neg h2]
      iexists _; isplitr; swap; · iexact H10
      ipureintro; rfl
    isplitl [H11 H12 H13]
    · iexists X11, Z12, Z13
      isplitr
      · ipureintro; exact ⟨(hs h1).1, fun _ => by have := hz; rw [(hs h1).1] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H3 H4 H6 H7 H8 H9 H10 H11 H12 H13]
    · iapply (laterSkip (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X3 := f3) (X4 := f4) (X6 := f6) (X7 := f7) (X8 := f8) (X9 := f9) (X10 := f10) (X11 := X11) (X12 := X12) (X13 := X13) (h1 := h1) (h2 := h2) (h3 := h3))
      isplitl [H1]; · iexact H1
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_
    iintro ⟨H1, H3, H4, H6, H7, H8, H9, ⟨H10, H11, H12⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) f10); isplitr
      · ipureintro; exact ⟨fun h => absurd h (by rintro (h | h); exacts [h2 h, h3 h]), fun _ => rfl⟩
      iexists _; isplitr; swap; · iexact H10
      ipureintro; rfl
    isplitl [H11 H12 H13]
    · iexists X11, X12, Z13
      isplitr
      · ipureintro; exact ⟨(hs h1).1, fun h => absurd h (by rintro (h | h); exacts [h2 h, h3 h])⟩
      isplitl [H11]; · iexact H11
      isplitl [H12]; · iexact H12
      iexact H13
    isplitl [HS]; · iexact HS
    iexists _; iexact HO

end Cert.Kernel.Hand

end
-- ==== Proof.Tables.lean ====
/-
  The launch's tables: the block every window is on at each point, in whole numbers, and that it lies inside its array.
-/
module

public import proofs.«01_k».proof.Proof.Ranges
public import proofs.«01_k».proof.Proof.Run
public import proofs.«01_k».proof.Proof.Gen.Kernel.Launch

@[expose] public section

set_option maxRecDepth 16384

noncomputable section

namespace Cert.Kernel.Hand

open Cert.Kernel Cert.Kernel.Gen
open Idealize.ShloMosaic Idealize.ShloMosaic.TcCoe

variable {F : FTy → Type} [FloatOps F] (m : (ℓ : Loc nD τ sig) → Buf (Elt F) ℓ)

/-- The tile table, the row table and the rows at the launch. -/
abbrev tile : S1x256.Idx → BitVec 32 := m (((0 : Dev nD) : Thread nD τ).loc main_arg0)
abbrev rows : S160x2x128.Idx → BitVec 32 := m (((0 : Dev nD) : Thread nD τ).loc main_arg1)
abbrev acts : S65536x128.Idx → BitVec 32 := m (((0 : Dev nD) : Thread nD τ).loc main_arg3)

/-- The number of tiles. -/
def cnt : Nat := (tile m (ix2 (0 : Fin 1) (255 : Fin 256))).toNat
/-- Tile `k`'s entry. -/
def ent (k : Fin 160) : BitVec 32 := tile m (ix2 (0 : Fin 1) (⟨k.val, by omega⟩ : Fin 256))

/-- The prefetched tables as the region reads them. -/
def pf0 : pre0.Contents (Elt F) := fun k => m (((0 : Dev nD) : Thread nD τ).loc (pre0.ref k))

/-- A point of the grid is a number below 160. -/
theorem coord_lt (i : grid0.Coords) : (i 0).val < 160 := (i 0).isLt

theorem at255 : (pf0 m).at 0 (Rect.unit (s := S1x256) ![0, 255] S1x1.size inb_S1x256_S1x1_0_255) numel1_S1x1 = tile m (ix2 (0 : Fin 1) (255 : Fin 256)) := by
  show tile m _ = tile m _
  congr 1
  funext a; fin_cases a <;> rfl

theorem off1_eq (i : grid0.Coords) : k0_off1 i = ![0, (i 0).val] := by
  have := coord_lt i
  unfold k0_off1
  simp only [Scalar.indexCast, BitVec.toNat_ofNat]
  congr 2
  omega

theorem atEntry (i : grid0.Coords) : (pf0 m).at 0 (Rect.unit (s := S1x256) (k0_off1 i) S1x1.size (k0_off1_inb i)) numel1_S1x1 = ent m ⟨(i 0).val, coord_lt i⟩ := by
  show tile m _ = tile m _
  congr 1
  funext a
  apply Fin.ext
  have h := congrFun (off1_eq i) a
  fin_cases a
  · show k0_off1 i 0 + 1 * 0 = 0
    have h : k0_off1 i 0 = 0 := h
    omega
  · show k0_off1 i 1 + 1 * 0 = (i 0).val
    have h : k0_off1 i 1 = (i 0).val := h
    omega

variable (hR : Ranges.InRange (tile m) (rows m))

include hR

theorem cnt_pos : 1 ≤ cnt m := hR.count_pos
theorem cnt_le : cnt m ≤ 160 := hR.count_le
theorem ent_lt (k : Fin 160) : (ent m k).toNat < 2 ^ 31 := hR.entry_lt k
theorem ent_mod (k : Fin 160) : (ent m k).toNat % 256 < 32 := hR.expert_lt k

/-- The word one below the number of tiles. -/
theorem last_toNat : (Scalar.subi (tile m (ix2 (0 : Fin 1) (255 : Fin 256))) 1#32 : BitVec 32).toNat = cnt m - 1 := by
  have h1 := cnt_pos m hR
  have h2 := cnt_le m hR
  have h3 : cnt m = (tile m (ix2 (0 : Fin 1) (255 : Fin 256))).toNat := rfl
  simp only [Scalar.subi, IntOp.subi, BitVec.toNat_sub, BitVec.toNat_ofNat]
  omega

theorem min_toNat (a : BitVec 32) (ha : a.toNat < 2 ^ 31) :
    (Scalar.minsi a (Scalar.subi (tile m (ix2 (0 : Fin 1) (255 : Fin 256))) 1#32) : BitVec 32).toNat = min a.toNat (cnt m - 1) := by
  have h2 := cnt_le m hR
  have h := last_toNat m hR
  rw [Scalar.minsi, Ranges.toNat_minsi ha (by omega), h]

theorem ex_toNat (k : Fin 160) : (Scalar.remsi (ent m k) 256#32 : BitVec 32).toNat = (ent m k).toNat % 256 :=
  IntOp.toNat_remsi .scalar (by have := ent_lt m hR k; omega) 256 (by norm_num) (by norm_num)

/-- The block of the row table that holds the next tile's rows, -/
theorem tr1 (i : grid0.Coords) : cc0_transform_1 inb_S1x256_S1x1_0_255 numel1_S1x1 (pf0 m) i = ![min ((i 0).val + 1) (cnt m - 1), 0, 0] := by
  have hi := coord_lt i
  have h : (Scalar.addi (BitVec.ofNat 32 (i 0).val) 1#32 : BitVec 32).toNat = (i 0).val + 1 := by
    simp only [Scalar.addi, IntOp.addi, BitVec.toNat_add, BitVec.toNat_ofNat]; omega
  refine (congrArg (fun v : BitVec 32 => ![(Scalar.minsi (Scalar.addi (BitVec.ofNat 32 (i 0).val) 1#32) (Scalar.subi v 1#32) : BitVec 32).toNat, 0, 0]) (at255 m)).trans ?_
  rw [min_toNat m hR _ (by omega), h]
/-- the block of the gate scales, -/
theorem tr2 (i : grid0.Coords) : cc0_transform_2 inb_S1x256_S1x1_0_255 numel1_S1x1 (pf0 m) i = ![min (i 0).val (cnt m - 1), 0, 0] := by
  have hi := coord_lt i
  have h : (BitVec.ofNat 32 (i 0).val).toNat = (i 0).val := by rw [BitVec.toNat_ofNat]; omega
  refine (congrArg (fun v : BitVec 32 => ![(Scalar.minsi (BitVec.ofNat 32 (i 0).val) (Scalar.subi v 1#32) : BitVec 32).toNat, 0, 0]) (at255 m)).trans ?_
  rw [min_toNat m hR _ (by omega), h]
/-- of the result, -/
theorem tr8 (i : grid0.Coords) : cc0_transform_8 inb_S1x256_S1x1_0_255 numel1_S1x1 (pf0 m) i = ![min (i 0).val (cnt m - 1), 0] := by
  have hi := coord_lt i
  have h : (BitVec.ofNat 32 (i 0).val).toNat = (i 0).val := by rw [BitVec.toNat_ofNat]; omega
  refine (congrArg (fun v : BitVec 32 => ![(Scalar.minsi (BitVec.ofNat 32 (i 0).val) (Scalar.subi v 1#32) : BitVec 32).toNat, 0]) (at255 m)).trans ?_
  rw [min_toNat m hR _ (by omega), h]
/-- and of the expert's weights and scales. -/
theorem tr4 (i : grid0.Coords) : cc0_transform_4 k0_off1_inb numel1_S1x1 (pf0 m) i = ![(ent m ⟨(i 0).val, coord_lt i⟩).toNat % 256, 0, 0] := by
  refine (congrArg (fun v : BitVec 32 => ![(Scalar.remsi v 256#32 : BitVec 32).toNat, 0, 0]) (atEntry m i)).trans ?_
  rw [ex_toNat m hR]
theorem tr5 (i : grid0.Coords) : cc0_transform_5 k0_off1_inb numel1_S1x1 (pf0 m) i = ![(ent m ⟨(i 0).val, coord_lt i⟩).toNat % 256, 0, 0] := tr4 m hR i
theorem tr6 (i : grid0.Coords) : cc0_transform_6 k0_off1_inb numel1_S1x1 (pf0 m) i = ![(ent m ⟨(i 0).val, coord_lt i⟩).toNat % 256, 0, 0] := tr4 m hR i
theorem tr7 (i : grid0.Coords) : cc0_transform_7 k0_off1_inb numel1_S1x1 (pf0 m) i = ![(ent m ⟨(i 0).val, coord_lt i⟩).toNat % 256, 0, 0] := tr4 m hR i

/-- The side condition the region checks of the tables. -/
theorem ok_pf0 : ok0 (pf0 m) := by
  have h1 := cnt_pos m hR
  have h2 := cnt_le m hR
  have he := ent_mod m hR
  refine ⟨fun i => ⟨?_, .inl rfl⟩, fun i => ⟨?_, .inl rfl⟩, fun i => ⟨?_, .inr (.inr ⟨by decide, rfl, ?_, rfl⟩)⟩,
    fun i => ⟨?_, .inr (.inr ⟨by decide, rfl, ?_, rfl⟩)⟩, fun i => ⟨?_, .inr (.inr ⟨by decide, rfl, ?_, rfl⟩)⟩,
    fun i => ⟨?_, .inr (.inr ⟨by decide, rfl, ?_, rfl⟩)⟩, fun i => ⟨?_, .inl rfl⟩⟩
  · rw [tr1 m hR]; intro a; fin_cases a
    · show (min ((i 0).val + 1) (cnt m - 1) + 1) * 1 ≤ 160; omega
    · show (0 + 1) * 2 ≤ 2; omega
    · show (0 + 1) * 128 ≤ 128; omega
  · rw [tr2 m hR]; intro a; fin_cases a
    · show (min ((i 0).val) (cnt m - 1) + 1) * 1 ≤ 160; omega
    · show (0 + 1) * 2 ≤ 2; omega
    · show (0 + 1) * 128 ≤ 128; omega
  · rw [tr4 m hR]; have := he ⟨(i 0).val, coord_lt i⟩; intro a; fin_cases a
    · show ((ent m ⟨(i 0).val, coord_lt i⟩).toNat % 256 + 1) * 1 ≤ 32; omega
    · show (0 + 1) * 1024 ≤ 1024; omega
    · show (0 + 1) * 2048 ≤ 2048; omega
  · show cc0_transform_4 k0_off1_inb numel1_S1x1 (pf0 m) i 1 * _ = 0; rw [tr4 m hR]; exact Nat.zero_mul _
  · rw [tr5 m hR]; have := he ⟨(i 0).val, coord_lt i⟩; intro a; fin_cases a
    · show ((ent m ⟨(i 0).val, coord_lt i⟩).toNat % 256 + 1) * 1 ≤ 32; omega
    · show (0 + 1) * 16 ≤ 16; omega
    · show (0 + 1) * 2048 ≤ 2048; omega
  · show cc0_transform_5 k0_off1_inb numel1_S1x1 (pf0 m) i 1 * _ = 0; rw [tr5 m hR]; exact Nat.zero_mul _
  · rw [tr6 m hR]; have := he ⟨(i 0).val, coord_lt i⟩; intro a; fin_cases a
    · show ((ent m ⟨(i 0).val, coord_lt i⟩).toNat % 256 + 1) * 1 ≤ 32; omega
    · show (0 + 1) * 512 ≤ 512; omega
    · show (0 + 1) * 2048 ≤ 2048; omega
  · show cc0_transform_6 k0_off1_inb numel1_S1x1 (pf0 m) i 1 * _ = 0; rw [tr6 m hR]; exact Nat.zero_mul _
  · rw [tr7 m hR]; have := he ⟨(i 0).val, coord_lt i⟩; intro a; fin_cases a
    · show ((ent m ⟨(i 0).val, coord_lt i⟩).toNat % 256 + 1) * 1 ≤ 32; omega
    · show (0 + 1) * 8 ≤ 8; omega
    · show (0 + 1) * 2048 ≤ 2048; omega
  · show cc0_transform_7 k0_off1_inb numel1_S1x1 (pf0 m) i 1 * _ = 0; rw [tr7 m hR]; exact Nat.zero_mul _
  · rw [tr8 m hR]; intro a; fin_cases a
    · show (min ((i 0).val) (cnt m - 1) + 1) * 6144 ≤ 983040; omega
    · show (0 + 1) * 128 ≤ 128; omega

omit hR

/-- The body's conditions in whole numbers: the first point, -/
theorem cond1_iff (i : grid0.Coords) : k0_cond1 i = 1#1 ↔ (i 0).val = 0 := by
  have hi := coord_lt i
  unfold k0_cond1
  generalize (i 0).val = k at *
  revert k
  decide

/-- What the body reads of the table. -/
theorem nTiles_eq : nTiles (F := F) (Memref.whole main_arg0) (m (((0 : Dev nD) : Thread nD τ).loc main_arg0)) = tile m (ix2 (0 : Fin 1) (255 : Fin 256)) := by
  exact at255 m
theorem entry_eq (i : grid0.Coords) : entry (F := F) i (Memref.whole main_arg0) (m (((0 : Dev nD) : Thread nD τ).loc main_arg0)) = ent m ⟨(i 0).val, coord_lt i⟩ := by
  exact atEntry m i

theorem bit_ne (b : BitVec 1) : IntOp.cmpi .ne (BitVec.setWidth 32 b) 0#32 = b := by revert b; decide

include hR

theorem lt_iff (i : grid0.Coords) : (Scalar.cmpi .slt (BitVec.ofNat 32 (i 0).val) (tile m (ix2 (0 : Fin 1) (255 : Fin 256))) : BitVec 1) = 1#1 ↔ (i 0).val < cnt m := by
  have hi := coord_lt i
  have h2 := cnt_le m hR
  have h3 : cnt m = (tile m (ix2 (0 : Fin 1) (255 : Fin 256))).toNat := rfl
  have h : (BitVec.ofNat 32 (i 0).val).toNat = (i 0).val := by rw [BitVec.toNat_ofNat]; omega
  unfold Scalar.cmpi
  rw [StableHlo.Predicate.slt_iff_toNat (by omega) (by omega), h, h3]

theorem ge_iff (k : Fin 160) : (Scalar.cmpi .sge (ent m k) 256#32 : BitVec 1) = 1#1 ↔ 256 ≤ (ent m k).toNat := by
  have := ent_lt m hR k
  unfold Scalar.cmpi
  rw [StableHlo.Predicate.sge_iff_toNat (by omega) (by decide)]
  rfl

/-- a tile of 256 rows, -/
theorem cond2_iff (i : grid0.Coords) (k : Fin 160) :
    k0_cond2 i (tile m (ix2 (0 : Fin 1) (255 : Fin 256))) (ent m k) = 1#1 ↔ (i 0).val < cnt m ∧ ¬ 256 ≤ (ent m k).toNat := by
  rw [← lt_iff m hR i, ← ge_iff m hR k]
  refine (Iff.of_eq (congrArg (· = 1#1) (bit_ne _))).trans ?_
  generalize (Scalar.cmpi .slt (BitVec.ofNat 32 (i 0).val) (tile m (ix2 (0 : Fin 1) (255 : Fin 256))) : BitVec 1) = a
  generalize (Scalar.cmpi .sge (ent m k) 256#32 : BitVec 1) = b
  revert a b; decide
/-- a tile of 128 rows. -/
theorem cond3_iff (i : grid0.Coords) (k : Fin 160) :
    k0_cond3 i (tile m (ix2 (0 : Fin 1) (255 : Fin 256))) (ent m k) = 1#1 ↔ (i 0).val < cnt m ∧ 256 ≤ (ent m k).toNat := by
  rw [← lt_iff m hR i, ← ge_iff m hR k]
  refine (Iff.of_eq (congrArg (· = 1#1) (bit_ne _))).trans ?_
  generalize (Scalar.cmpi .slt (BitVec.ofNat 32 (i 0).val) (tile m (ix2 (0 : Fin 1) (255 : Fin 256))) : BitVec 1) = a
  generalize (Scalar.cmpi .sge (ent m k) 256#32 : BitVec 1) = b
  revert a b; decide

end Cert.Kernel.Hand

end
-- ==== Proof.Frame.lean ====
/-
  The feed-forward kernel's run from its launch: what every window's block holds at every point, what the body keeps between two
  points, the body at each of them, and the frame.
-/
module

public import proofs.«01_k».proof.Proof.Step
public import proofs.«01_k».proof.Proof.Tables
public import Idealize.ShloMosaic.Lib.Pipeline.Frame
public import Idealize.ShloMosaic.Lib.Pipeline.FrameBody
public import Idealize.ShloMosaic.Lib.Tactic
public import Idealize.ShloMosaic.Lib.Transfers

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hR : Ranges.InRange (tile m) (rows m))

/-! ## The schedule at the launch's tables -/

/-- The tables, as the schedule takes them. -/
def adm : (pcfg0 (F := F)).Adm := ⟨pf0 m, ok_pf0 m hR⟩
/-- The schedule they fix. -/
abbrev cfgA : Pipeline.Cfg sig Λ₀ := cfg0 (adm m hR)

theorem coords_val (t : Fin (cfgA m hR).N) : ((cfgA m hR).grid.coords t 0).val = t.val := by
  have h : ∀ t : Fin grid0.N, (grid0.coords t 0).val = t.val := by decide
  exact h t

theorem pt_lt (t : Fin (cfgA m hR).N) : t.val < 160 := t.isLt

/-- The point as a tile's number. -/
def pt (t : Fin (cfgA m hR).N) : Fin 160 := ⟨t.val, pt_lt m hR t⟩

/-! ## The blocks -/

/-- The unscoped buffers' contents at launch. -/
abbrev V (c : Dev nD) (b : Ref sig .tc) : Buf (Elt F) ((c : Thread nD τ).loc b) := m ((c : Thread nD τ).loc b)

abbrev gates : S160x2x128.Idx → F .f32 := m (((0 : Dev nD) : Thread nD τ).loc main_arg2)
abbrev wGate : S32x1024x2048.Idx → BitVec 8 := m (((0 : Dev nD) : Thread nD τ).loc main_arg4)
abbrev sGate : S32x16x2048.Idx → F .bf16 := m (((0 : Dev nD) : Thread nD τ).loc main_arg5)
abbrev wDown : S32x512x2048.Idx → BitVec 8 := m (((0 : Dev nD) : Thread nD τ).loc main_arg6)
abbrev sDown : S32x8x2048.Idx → F .bf16 := m (((0 : Dev nD) : Thread nD τ).loc main_arg7)

/-- Tile `k`'s expert. -/
def ex (k : Fin 160) : Fin 32 := ⟨(ent m k).toNat % 256, ent_mod m hR k⟩

/-- Tile `k`'s row numbers and gate scales, and its expert's weights and scales. -/
def tabB (k : Fin 160) : Vec F S1x2x128 .i32 := fun j => rows m (ix3 k (j 1) (j 2))
def gsB (k : Fin 160) : Vec F S1x2x128 .f32 := fun j => gates m (ix3 k (j 1) (j 2))
def wgB (k : Fin 160) : GateW F := fun j => wGate m (ix3 (ex m hR k) (j 1) (j 2))
def sgB (k : Fin 160) : GateS F := fun j => sGate m (ix3 (ex m hR k) (j 1) (j 2))
def wdB (k : Fin 160) : DownW F := fun j => wDown m (ix3 (ex m hR k) (j 1) (j 2))
def sdB (k : Fin 160) : DownS F := fun j => sDown m (ix3 (ex m hR k) (j 1) (j 2))

/-- What tile `k` stores, from a gathered block `b`. -/
def tileB (i : grid0.Coords) (k : Fin 160) (b : Vec F S2x2048x128 .i32) : List (View.Piece (Elt F) S6144x128 .f32) :=
  tileAt i (tile m (ix2 (0 : Fin 1) (255 : Fin 256))) (ent m k) b (gsB m k) (wgB m hR k) (sgB m hR k) (wdB m hR k) (sdB m hR k)

/-- What the body leaves of a result's block it found at `Y`: at a tile's point the tile's stores over anything, from its own gathered
    rows; at the others what it found. -/
def outRel (i : grid0.Coords) (k : Fin 160) (Y X : Vec F S6144x128 .f32) : Prop :=
  (k.val < cnt m → ∃ (M : Memref sig .tc .vmem S6144x128 .f32) (_ : M.IsWhole) (f : BufTy.Contents (Elt F) M.view.ty) (b : Vec F S2x2048x128 .i32),
    Slot (F := F) (k.val % 2) (tabB m k) (acts m) b ∧ X = M.view.read (Elt F) (M.view.writes (Elt F) f (tileB m hR i k b)))
  ∧ (¬ k.val < cnt m → X = Y)

/-! ## The proof data -/

/-- The kernel's own semaphore and the rows it copies itself. -/
abbrev osem0 : Fin 1 → SemLoc sig := fun j => (![SemLoc.dma 15] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl
def H0 : Finset (Ref sig .tc) := {main_arg3}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(((c : Thread nD τ).loc main_arg3) ↦{fullShare} V m c main_arg3) := by
  rw [BI.bigSep_eq_bigSepL_of_eq [main_arg3] (by decide) (by decide)]; rfl

/-- What the body has made before point `t`: past the first point the rows are in their scratch, and the tile's own gathered. -/
def Made (t : ℕ) (d0 : Vec F S65536x128 .i32) (d1 : Vec F S2x2048x128 .i32) : Prop :=
  0 < t → d0 = acts m ∧ ∀ h : t < 160, t < cnt m → Slot (F := F) (t % 2) (tabB m ⟨t, h⟩) (acts m) d1

/-- What the body keeps between two points. -/
def Inv (c : Dev nD) (t : ℕ) : sProp 𝕄 :=
  iprop((∃ (d0 : Buf (Elt F) ((c : Thread nD τ).loc cc0_scratch0)) (d1 : Buf (Elt F) ((c : Thread nD τ).loc cc0_scratch1)) (d2 : Buf (Elt F) ((c : Thread nD τ).loc cc0_scratch2)),
      ⌜Made m t d0 d1⌝ ∗ (((c : Thread nD τ).loc cc0_scratch0) ↦{fullShare} d0) ∗ (((c : Thread nD τ).loc cc0_scratch1) ↦{fullShare} d1)
        ∗ (((c : Thread nD τ).loc cc0_scratch2) ↦{fullShare} d2))
    ∗ (∃ r, prngReg c r) ∗ semVal ((c : Thread nD τ), SemLoc.dma 15) 0
    ∗ (((c : Thread nD τ).loc main_arg3) ↦{fullShare} V m c main_arg3)
    ∗ (((c : Thread nD τ).loc main_arg0) ↦{fullShare.right} V m c main_arg0))

/-- The launch's proof data: the inputs kept, the result's block by `outRel`. -/
def rdat (c : Dev nD) : Pipeline.RDat τ (Elt F) Unit ℕ (Pipeline.UD sig nD τ) ℕ (cfgA m hR) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun t Y X => outRel m hR (grid0.coords t) (pt m hR t) Y X
    | ⟨_ + 8, h⟩ => absurd h (Nat.not_lt.2 (Nat.le_add_left _ _))
  Φ t := Inv m c t.val
  q w := Pipeline.shareOf spec0 w
  owed _ := 0

/-! ## What the body finds in the input windows -/

theorem found (c : Dev nD) (w : Fin (cfgA m hR).W) (hw : ((cfgA m hR).win w).isOut = false)
    (hclip : ∀ t t' : Fin (cfgA m hR).N, ((cfgA m hR).win w).index t = ((cfgA m hR).win w).index t' →
      ((cfgA m hR).win w).clip ((cfgA m hR).grid.coords t) = ((cfgA m hR).win w).clip ((cfgA m hR).grid.coords t'))
    (hk : ∀ t Y X, (rdat m hR c).after w t Y X → X = Y) (t : Fin (cfgA m hR).N) (Y) (h : (rdat m hR c).Finds w t Y) :
    ∃ d, Y = (rdat m hR c).fetched w t d := by
  haveI : ∀ e, Nonempty (Elt F e) := fun e => inferInstance
  exact Pipeline.RDat.finds_in_eq_fetched (rdat m hR c) w hw hclip hk t Y h

/-- Where an element of a block of whole planes, the block one plane, lies in its array. -/
theorem place {A B C : ℕ} (o : Fin 3 → ℕ) (k : Fin A) (e : o = ![k.val, 0, 0]) (j : (⟨3, ![1, B, C]⟩ : Shape).Idx) (i : (⟨3, ![A, B, C]⟩ : Shape).Idx)
    (hi : ∀ a : Fin 3, (i a).val = o a * (![1, B, C] : Fin 3 → ℕ) a + 1 * (j a).val) : i = ix3 k (j 1) (j 2) := by
  subst e
  funext a; apply Fin.ext
  rw [hi a]
  fin_cases a
  · have : (j 0).val < 1 := (j 0).isLt
    show k.val * 1 + 1 * (j 0).val = k.val; omega
  · show 0 * B + 1 * (j 1).val = (j 1).val; omega
  · show 0 * C + 1 * (j 2).val = (j 2).val; omega

theorem found0 (t : Fin (cfgA m hR).N) (Y : Vec F S1x2x128 .i32) (h : (rdat m hR 0).Finds 0 t Y) : Y = tabB m 0 := by
  obtain ⟨d, rfl⟩ := found m hR 0 0 rfl (fun _ _ _ => rfl) (fun _ _ _ h => h) t Y h
  exact funext fun (j : S1x2x128.Idx) => congrArg (rows m) (place _ (0 : Fin 160) rfl j _ fun a => rfl)

/-- The next tile, no further than the last. -/
def nxt (t : Fin (cfgA m hR).N) : Fin 160 := ⟨min (t.val + 1) (cnt m - 1), by have := cnt_pos m hR; have := cnt_le m hR; omega⟩
/-- The tile, no further than the last. -/
def cur (t : Fin (cfgA m hR).N) : Fin 160 := ⟨min t.val (cnt m - 1), by have := cnt_pos m hR; have := cnt_le m hR; omega⟩

theorem found1 (t : Fin (cfgA m hR).N) (Y : Vec F S1x2x128 .i32) (h : (rdat m hR 0).Finds 1 t Y) : Y = tabB m (nxt m hR t) := by
  obtain ⟨d, rfl⟩ := found m hR 0 1 rfl (fun _ _ _ => rfl) (fun _ _ _ h => h) t Y h
  have e := tr1 m hR (grid0.coords t)
  rw [show (grid0.coords t 0).val = t.val from coords_val m hR t] at e
  exact funext fun (j : S1x2x128.Idx) => congrArg (rows m) (place _ (nxt m hR t) e j _ fun a => rfl)

theorem found2 (t : Fin (cfgA m hR).N) (Y : Vec F S1x2x128 .f32) (h : (rdat m hR 0).Finds 2 t Y) : Y = gsB m (cur m hR t) := by
  obtain ⟨d, rfl⟩ := found m hR 0 2 rfl (fun _ _ _ => rfl) (fun _ _ _ h => h) t Y h
  have e := tr2 m hR (grid0.coords t)
  rw [show (grid0.coords t 0).val = t.val from coords_val m hR t] at e
  exact funext fun (j : S1x2x128.Idx) => congrArg (gates m) (place _ (cur m hR t) e j _ fun a => rfl)

/-- The point's tile is the coordinate's. -/
theorem pt_eq (t : Fin (cfgA m hR).N) : (⟨(grid0.coords t 0).val, coord_lt (grid0.coords t)⟩ : Fin 160) = pt m hR t := Fin.ext (coords_val m hR t)

theorem found3 (t : Fin (cfgA m hR).N) (Y : GateW F) (h : (rdat m hR 0).Finds 3 t Y) : Y = wgB m hR (pt m hR t) := by
  obtain ⟨d, rfl⟩ := found m hR 0 3 rfl (fun _ _ _ => rfl) (fun _ _ _ h => h) t Y h
  have e := tr4 m hR (grid0.coords t)
  rw [pt_eq m hR t] at e
  exact funext fun (j : S1x1024x2048.Idx) => congrArg (wGate m) (place _ (ex m hR (pt m hR t)) e j _ fun a => rfl)
theorem found4 (t : Fin (cfgA m hR).N) (Y : GateS F) (h : (rdat m hR 0).Finds 4 t Y) : Y = sgB m hR (pt m hR t) := by
  obtain ⟨d, rfl⟩ := found m hR 0 4 rfl (fun _ _ _ => rfl) (fun _ _ _ h => h) t Y h
  have e := tr5 m hR (grid0.coords t)
  rw [pt_eq m hR t] at e
  exact funext fun (j : S1x16x2048.Idx) => congrArg (sGate m) (place _ (ex m hR (pt m hR t)) e j _ fun a => rfl)
theorem found5 (t : Fin (cfgA m hR).N) (Y : DownW F) (h : (rdat m hR 0).Finds 5 t Y) : Y = wdB m hR (pt m hR t) := by
  obtain ⟨d, rfl⟩ := found m hR 0 5 rfl (fun _ _ _ => rfl) (fun _ _ _ h => h) t Y h
  have e := tr6 m hR (grid0.coords t)
  rw [pt_eq m hR t] at e
  exact funext fun (j : S1x512x2048.Idx) => congrArg (wDown m) (place _ (ex m hR (pt m hR t)) e j _ fun a => rfl)
theorem found6 (t : Fin (cfgA m hR).N) (Y : DownS F) (h : (rdat m hR 0).Finds 6 t Y) : Y = sdB m hR (pt m hR t) := by
  obtain ⟨d, rfl⟩ := found m hR 0 6 rfl (fun _ _ _ => rfl) (fun _ _ _ h => h) t Y h
  have e := tr7 m hR (grid0.coords t)
  rw [pt_eq m hR t] at e
  exact funext fun (j : S1x8x2048.Idx) => congrArg (sDown m) (place _ (ex m hR (pt m hR t)) e j _ fun a => rfl)

/-! ## The body at a point -/

include hR in
/-- The table's words are rows of the array. -/
theorem tabB_lt (k : Fin 160) (j) : (tabB m k j).toNat < 8192 := hR.row_lt _

theorem live_iff (t : Fin (cfgA m hR).N) :
    (k0_cond2 (grid0.coords t) (tile m (ix2 (0 : Fin 1) (255 : Fin 256))) (ent m (pt m hR t)) = 1#1
      ∨ k0_cond3 (grid0.coords t) (tile m (ix2 (0 : Fin 1) (255 : Fin 256))) (ent m (pt m hR t)) = 1#1) ↔ t.val < cnt m := by
  rw [cond2_iff m hR, cond3_iff m hR, show (grid0.coords t 0).val = t.val from coords_val m hR t]
  tauto

theorem body_obligation (c : Dev nD) : (rdat m hR c).BodyObligation (defs₀ (F := F)) Variants.none () Set.univ := by
  obtain rfl : c = 0 := Subsingleton.elim _ _
  intro t Y hY
  have e0 := found0 m hR t (Y 0) (hY 0)
  have e1 := found1 m hR t (Y 1) (hY 1)
  have e2 := found2 m hR t (Y 2) (hY 2)
  have e3 := found3 m hR t (Y 3) (hY 3)
  have e4 := found4 m hR t (Y 4) (hY 4)
  have e5 := found5 m hR t (Y 5) (hY 5)
  have e6 := found6 m hR t (Y 6) (hY 6)
  have ec : (grid0.coords t 0).val = t.val := coords_val m hR t
  have hlive := live_iff m hR t
  have hent : entry (F := F) (grid0.coords t) (Memref.whole main_arg0) (m (((0 : Dev nD) : Thread nD τ).loc main_arg0)) = ent m (pt m hR t) :=
    (entry_eq m _).trans (congrArg (ent m) (pt_eq m hR t))
  rw [bigSep_W0, bigSep_W0]
  unfold defs₀
  rw [Defs.onTc_tc]
  show iprop(Inv m 0 t.val ∗ _ ∗ _) ⊢ _
  unfold Inv Pipeline.RDat.owesAt Pipeline.owesWithin
  iintro ⟨⟨⟨%d0, %d1, %d2, %hmade, G0, G1, G2⟩, Hg, HS, H5, H1⟩, ⟨%W, %hW, HO⟩, W0, W1, W2, W3, W4, W5, W6, W7⟩
  have hst := step (F := F) Variants.none (0 : Dev nD) none (grid0.coords t) (Memref.whole main_arg0) (Memref.isWhole_whole _)
    (spec0_0.stage ((cfgA m hR).slots t 0)) (hstage0_0 (((cfgA m hR).slots t 0).cast nbuf0_0)) (spec0_1.stage ((cfgA m hR).slots t 1)) (hstage0_1 (((cfgA m hR).slots t 1).cast nbuf0_1))
    (spec0_2.stage ((cfgA m hR).slots t 2)) (hstage0_2 (((cfgA m hR).slots t 2).cast nbuf0_2)) (Memref.whole main_arg3) (Memref.isWhole_whole _)
    (spec0_3.stage ((cfgA m hR).slots t 3)) (hstage0_3 (((cfgA m hR).slots t 3).cast nbuf0_3)) (spec0_4.stage ((cfgA m hR).slots t 4)) (hstage0_4 (((cfgA m hR).slots t 4).cast nbuf0_4))
    (spec0_5.stage ((cfgA m hR).slots t 5)) (hstage0_5 (((cfgA m hR).slots t 5).cast nbuf0_5)) (spec0_6.stage ((cfgA m hR).slots t 6)) (hstage0_6 (((cfgA m hR).slots t 6).cast nbuf0_6))
    (spec0_7.stage ((cfgA m hR).slots t 7)) (hstage0_7 (((cfgA m hR).slots t 7).cast nbuf0_7))
    (Memref.whole cc0_scratch0) (Memref.isWhole_whole _) (Memref.whole cc0_scratch1) (Memref.isWhole_whole _) (Memref.whole cc0_scratch2) (Memref.isWhole_whole _) cc0_scratch3
    (V m 0 main_arg0) (V m 0 main_arg3) d0 d1 d2 (Y 0) (Y 1) (Y 2) (Y 3) (Y 4) (Y 5) (Y 6) (Y 7)
    (tabB m (pt m hR t)) (acts m) (tile m (ix2 (0 : Fin 1) (255 : Fin 256))) (ent m (pt m hR t)) W (nTiles_eq m) hent
    (by rw [e0]; exact tabB_lt m hR _) (by rw [e1]; exact tabB_lt m hR _) rfl
    (fun h => ((cond3_iff m hR _ _).mp h.2).2 |> ((cond2_iff m hR _ _).mp h.1).2)
    (fun h1 => by
      have hp : 0 < t.val := Nat.pos_of_ne_zero fun h => h1 ((cond1_iff _).mpr (ec.trans h))
      obtain ⟨ha, hb⟩ := hmade hp
      refine ⟨ha, fun hl => ?_⟩
      rw [ec]; exact hb (pt_lt m hR t) (hlive.mp hl))
    (fun h1 => by
      have hz : t.val = 0 := ec.symm.trans ((cond1_iff _).mp h1)
      refine ⟨e0.trans (congrArg (tabB m) (Fin.ext hz.symm)), ?_⟩
      rw [ec, hz])
  simp only [Memref.view_whole, View.set_whole] at hst
  iapply (wp_wand_r frame (wpE (defs₀ (F := F)) Variants.none ((0 : Dev nD) : Thread nD τ) none) Set.univ)
  isplitl [G0 G1 G2 HS H5 H1 HO W0 W1 W2 W3 W4 W5 W6 W7]
  · iapply hst
    isplitl [H1]; · iexact H1
    isplitl [W0]; · iexact W0
    isplitl [W1]; · iexact W1
    isplitl [W2]; · iexact W2
    isplitl [H5]; · iexact H5
    isplitl [W3]; · iexact W3
    isplitl [W4]; · iexact W4
    isplitl [W5]; · iexact W5
    isplitl [W6]; · iexact W6
    isplitl [W7]; · iexact W7
    isplitl [G0]; · iexact G0
    isplitl [G1]; · iexact G1
    isplitl [G2]; · iexact G2
    isplitl [HS]; · iexact HS
    iexact HO
  iintro %u ⟨H1, W0, W1, W2, H5, W3, W4, W5, W6, ⟨%Z, %hZ, W7⟩, ⟨%Z0, %Z1, %Z2, %hZs, G0, G1, G2⟩, HS, ⟨%W', HO⟩⟩
  isplitl [G0 G1 G2 Hg HS H5 H1]
  · iapply (Entails.of_eq (show (Inv m 0 (t.val + 1) : sProp 𝕄) = (rdat m hR 0).Φ t.succ from rfl))
    unfold Inv
    isplitl [G0 G1 G2]
    · iexists Z0, Z1, Z2
      isplitr
      · ipureintro
        refine fun _ => ⟨hZs.1, fun h hc => ?_⟩
        have hl : t.val < cnt m := by omega
        have hs := hZs.2 (hlive.mpr hl)
        rw [e1, ec, show 1 - t.val % 2 = (t.val + 1) % 2 by omega, show nxt m hR t = ⟨t.val + 1, h⟩ from Fin.ext (by show min (t.val + 1) (cnt m - 1) = t.val + 1; omega)] at hs
        exact hs
      isplitl [G0]; · iexact G0
      isplitl [G1]; · iexact G1
      iexact G2
    isplitl [Hg]; · iexact Hg
    isplitl [HS]; · iexact HS
    isplitl [H5]; · iexact H5
    iexact H1
  isplitl [HO]
  · iexists W'; isplitr; · ipureintro; exact fun _ _ => Or.inl trivial
    iexact HO
  isplitl [W0]
  · iexists (Y 0); isplitr; · ipureintro; rfl
    iexact W0
  isplitl [W1]
  · iexists (Y 1); isplitr; · ipureintro; rfl
    iexact W1
  isplitl [W2]
  · iexists (Y 2); isplitr; · ipureintro; rfl
    iexact W2
  isplitl [W3]
  · iexists (Y 3); isplitr; · ipureintro; rfl
    iexact W3
  isplitl [W4]
  · iexists (Y 4); isplitr; · ipureintro; rfl
    iexact W4
  isplitl [W5]
  · iexists (Y 5); isplitr; · ipureintro; rfl
    iexact W5
  isplitl [W6]
  · iexists (Y 6); isplitr; · ipureintro; rfl
    iexact W6
  iexists Z
  isplitr
  · ipureintro
    refine ⟨fun hl => ?_, fun hl => hZ.2 fun h => hl (hlive.mp h)⟩
    have hl' : t.val < cnt m := hl
    obtain ⟨f, b, hb, hz⟩ := hZ.1 (hlive.mpr hl')
    rw [ec] at hb
    have hcur : cur m hR t = pt m hR t := Fin.ext (by show min t.val (cnt m - 1) = t.val; omega)
    rw [e2, e3, e4, e5, e6, hcur] at hz
    exact ⟨_, hstage0_7 (((cfgA m hR).slots t 7).cast nbuf0_7), f, b, hb, hz⟩
  iexact W7

/-! ## The launch -/

theorem hmainD : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

theorem tables_eq (c : Dev nD) :
    (Pipeline.ΦT pre0 (pf0 m) c : sProp 𝕄) = iprop(((c : Thread nD τ).loc main_arg0) ↦{fullShare.right} V m c main_arg0) := by
  obtain rfl : c = 0 := Subsingleton.elim _ _
  unfold Pipeline.ΦT Pipeline.prefHeld
  rw [BI.bigSep_eq_bigSepL_of_eq [(0 : Fin 1)] (by decide) (by decide)]; rfl

theorem enter (c : Dev nD) : iprop(Pipeline.ΦD osem0 spec0 H0 (V m) c ∗ Pipeline.ΦT pre0 (pf0 m) c) ⊢ (Inv m c 0 : sProp 𝕄) := by
  rw [Pipeline.ΦD_eq, scopedRest0_eq, ownSems00_eq, hbmPts0_eq, tables_eq]
  unfold Inv
  iintro ⟨⟨⟨⟨%d0, G0⟩, ⟨%d1, G1⟩, ⟨%d2, G2⟩⟩, Hg, HS, H5⟩, H1⟩
  isplitl [G0 G1 G2]
  · iexists d0, d1, d2
    isplitr
    · ipureintro; exact fun h => absurd h (Nat.lt_irrefl 0)
    isplitl [G0]; · iexact G0
    isplitl [G1]; · iexact G1
    iexact G2
  isplitl [Hg]; · iexact Hg
  isplitl [HS]; · iexact HS
  isplitl [H5]; · iexact H5
  iexact H1

theorem leave (c : Dev nD) (n : ℕ) : (Inv m c n : sProp 𝕄) ⊢ Pipeline.ΦD osem0 spec0 H0 (V m) c := by
  rw [Pipeline.ΦD_eq, scopedRest0_eq, ownSems00_eq, hbmPts0_eq]
  unfold Inv
  iintro ⟨⟨%d0, %d1, %d2, %hmade, G0, G1, G2⟩, Hg, HS, H5, H1⟩
  isplitl [G0 G1 G2]
  · isplitl [G0]; · iexists d0; iexact G0
    isplitl [G1]; · iexists d1; iexact G1
    iexists d2; iexact G2
  isplitl [Hg]; · iexact Hg
  isplitl [HS]; · iexact HS
  iexact H5

-- the launch theorem's implicit arguments are found by unifying its conclusion with this statement, which unifies only when
-- unification may unfold plain definitions in a metavariable's type
set_option backward.isDefEq.respectTransparency.types false in
/-- From any launch whose tables are in range, every execution ends, the windows' arrays as the proof data say, every other buffer
    as at launch and every semaphore at zero. -/
theorem run_main :
    θ_run defs (onTc (τ := τ) (main (F := F))) ⟨m, fun _ => 0, ρ⟩
      (fun r => Pipeline.RDat.FramePost (cfgA m hR) (rdat m hR) (V m) r ∧ r.2.sem = fun _ => 0) :=
  Pipeline.RDat.θ_run_frameP_dma_shared (Q' := _) pcfgs (fun _ => adm m hR) (0 : Fin 1) launch₀0 osem0 defs₀ Variants.none (rdat m hR)
    ownSemFacts0 H0 H0_sub m ρ main (hbody := body_obligation m hR) (hq := fun _ _ _ => rfl) (howed := fun _ _ => rfl) (V := V m)
    (hmain := hmainD m) (hA := fun _ _ => rfl)
    (hpf := fun c k => by obtain rfl : c = 0 := Subsingleton.elim _ _; rfl)
    (hin := fun c => enter m c) (hout := fun c => leave m c _)

/-- What a run of the launch ends with leaves the arguments as they were. -/
theorem args_kept {r : PUnit × MemSt nD τ sig (Elt F)} (h : Pipeline.RDat.FramePost (cfgA m hR) (rdat m hR) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hin : ∀ w : Fin (cfgA m hR).W, ((cfgA m hR).win w).isOut = false →
      r.2.mem (((cfgA m hR).spec w).arr.view.loc (c.tc : Thread nD τ)) = V m c (Pipeline.arrRef spec0 w) := fun w hw => by
    have h1 := (h c).1 w
    rw [Pipeline.RDat.ArrAt_in _ w hw] at h1
    exact h1
  exact ⟨(h c).2 main_arg0 (show main_arg0 ∈ Pipeline.restRefs sig spec0 from Pipeline.mem_restRefs_of main_arg0 (by decide) (by decide)), hin 0 rfl, hin 2 rfl,
    (h c).2 main_arg3 (show main_arg3 ∈ Pipeline.restRefs sig spec0 from Pipeline.mem_restRefs_of main_arg3 (by decide) (by decide)), hin 3 rfl, hin 4 rfl, hin 5 rfl, hin 6 rfl⟩

include hR in
/-- The frame: from a launch whose tables are in range every execution ends, its arguments unchanged and every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m hR h.1, h.2⟩) (run_main m ρ hR)

end Cert.Kernel.Hand

end
-- ==== Proof.Ideal.Gather.lean ====
/-
  The gather loops of the feed-forward kernel: trip k of each copies the row of eight lines that a table lists at k from the
  resident array to row k of one slot of the buffer of gathered rows.
-/
module

public import proofs.«01_k».proof.Proof.Gen.KernelIdeal.Loops
public import proofs.«01_k».proof.Proof.Rows
public import Idealize.ShloMosaic.Lib.Pipeline.ValueKit.Tiles

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- A row number below 8192 passes the first loop's side condition. -/
theorem chk1_of (i : grid0.Coords) (w : BitVec 32) (h : w.toNat < 8192) : k0_chk1 i w := by
  have e : (w * 8#32).toNat = w.toNat * 8 := by
    rw [BitVec.toNat_mul]; exact Nat.mod_eq_of_lt (by show w.toNat * 8 < 4294967296; omega)
  refine ⟨fun _ => ?_, fun _ a => ?_⟩
  · show 8 ∣ (w * 8#32).toNat
    omega
  · fin_cases a
    · show (w * 8#32).toNat + 8 ≤ 65536
      omega
    · show 0 + 128 ≤ 128
      omega

theorem chk2_of (i : grid0.Coords) (v0 v7 w : BitVec 32) (h : w.toNat < 8192) : k0_chk2 i v0 v7 w :=
  have h1 := chk1_of
  have e : (w * 8#32).toNat = w.toNat * 8 := by
    rw [BitVec.toNat_mul]; exact Nat.mod_eq_of_lt (by show w.toNat * 8 < 4294967296; omega)
  ⟨fun _ => (by show 8 ∣ (w * 8#32).toNat; omega), fun _ a => by
    fin_cases a
    · show (w * 8#32).toNat + 8 ≤ 65536
      omega
    · show 0 + 128 ≤ 128
      omega⟩

theorem chk3_of (i : grid0.Coords) (v0 v7 w : BitVec 32) (h : w.toNat < 8192) : k0_chk3 i v0 v7 w :=
  have e : (w * 8#32).toNat = w.toNat * 8 := by
    rw [BitVec.toNat_mul]; exact Nat.mod_eq_of_lt (by show w.toNat * 8 < 4294967296; omega)
  ⟨fun _ => (by show 8 ∣ (w * 8#32).toNat; omega), fun _ a => by
    fin_cases a
    · show (w * 8#32).toNat + 8 ≤ 65536
      omega
    · show 0 + 128 ≤ 128
      omega⟩

section T1

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_) (h1 : k0_cond1 i = 1#1)
  (X2 : BufTy.Contents (Elt F) arg2.view.ty) (X11 : BufTy.Contents (Elt F) arg11.view.ty) (G : BufTy.Contents (Elt F) arg12.view.ty)

/-- The word trip `k` of the first loop reads. -/
abbrev tok1 (k : Fin k0_t1_loop.trips) : BitVec 32 :=
  arg2.view.readAt (Elt F) (Rect.unit (s := S1x2x128) (k0_off2 k) S1x1x1.size (k0_off2_inb i k h1)).toLoadRect X2 (Shape.Idx.first (numel1_S1x1x1.symm ▸ Nat.one_pos))

/-- ONE TRIP of the first loop. -/
theorem trip1 (E : Set ℕ) (k : Fin k0_t1_loop.trips) (hw : k0_chk1 i (tok1 (F := F) i arg2 h1 X2 k)) (f : BufTy.Contents (Elt F) arg12.view.ty) :
    (iprop((arg2.view.loc (c : Thread nD τ) ↦[arg2.view.set]{fullShare} X2) ∗ (arg11.view.loc (c : Thread nD τ) ↦[arg11.view.set]{fullShare} X11)
        ∗ (arg12.view.loc (c : Thread nD τ) ↦[arg12.view.set]{fullShare} f)) : sProp 𝕄D)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 h1 k PUnit.unit)
        (fun _ => iprop((arg2.view.loc (c : Thread nD τ) ↦[arg2.view.set]{fullShare} X2) ∗ (arg11.view.loc (c : Thread nD τ) ↦[arg11.view.set]{fullShare} X11)
          ∗ (arg12.view.loc (c : Thread nD τ) ↦[arg12.view.set]{fullShare} arg12.view.writes (Elt F) f
              [⟨Rect.unit (s := S2x2048x128) (k0_off4 k) S1x8x128.size (k0_off4_inb i k h1),
                k0_pay1 (arg11.view.readAt (Elt F) (Rect.unit (s := S65536x128) (k0_off3 (tok1 (F := F) i arg2 h1 X2 k)) S8x128.size (k0_off3_inb i _ hw h1)).toLoadRect X11)⟩]))) := by
  have hk : k.val < 256 := Nat.lt_of_lt_of_le k.isLt k0_t1_abs.2.1
  unfold k0_t1_body
  iintro ⟨HR2, HR11, HW12⟩
  sl_exec
  sl_step
  sl_close

variable (hw : ∀ (kq : ℕ) (hkq : kq < k0_t1_loop.trips), k0_chk1 i (tok1 (F := F) i arg2 h1 X2 ⟨kq, hkq⟩))

/-- The pieces the trips before `k` write, last first. -/
def pcs1 : ℕ → List (View.Piece (Elt F) S2x2048x128 .i32)
  | 0 => []
  | k + 1 => if h : k < k0_t1_loop.trips then
      ⟨Rect.unit (s := S2x2048x128) (k0_off4 ⟨k, h⟩) S1x8x128.size (k0_off4_inb i ⟨k, h⟩ h1),
        k0_pay1 (arg11.view.readAt (Elt F) (Rect.unit (s := S65536x128) (k0_off3 (tok1 (F := F) i arg2 h1 X2 ⟨k, h⟩)) S8x128.size (k0_off3_inb i _ (hw k h) h1)).toLoadRect X11)⟩ :: pcs1 k
    else pcs1 k

/-- The invariant of the first loop before trip `k`. -/
abbrev inv1 (k : ℕ) (_u : PUnit) : sProp 𝕄D :=
  iprop((arg2.view.loc (c : Thread nD τ) ↦[arg2.view.set]{fullShare} X2) ∗ (arg11.view.loc (c : Thread nD τ) ↦[arg11.view.set]{fullShare} X11)
    ∗ (∃ f, (arg12.view.loc (c : Thread nD τ) ↦[arg12.view.set]{fullShare} f) ∗ ⌜f = arg12.view.writes (Elt F) G (pcs1 (F := F) i arg2 arg11 h1 X2 X11 hw k)⌝))

set_option warn.classDefReducibility false in
/-- The first loop by its invariant. -/
@[sl_loop] def loopInv_k0_t1 (E : Set ℕ) : Gen.LoopInvTy_k0_t1 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 h1 where
  inv := inv1 (F := F) c i arg2 arg11 arg12 h1 X2 X11 G hw
  step k acc := by
    iintro ⟨HR2, HR11, ⟨%f12, HW12, %h12⟩⟩
    iapply (wp_wand_r Idealize.ShloMosaic.frame (wpE (defs₀ (F := F)) 𝒱 (c : Thread nD τ) bd) E)
    isplitl [HR2 HR11 HW12]
    · iapply (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h1 X2 X11 E k (hw k.val k.isLt) f12)
      isplitl [HR2]; · iexact HR2
      isplitl [HR11]; · iexact HR11
      iexact HW12
    · iintro %_ ⟨HR2, HR11, HW12⟩
      isplitl [HR2]; · iexact HR2
      isplitl [HR11]; · iexact HR11
      iexists _; isplitl [HW12]; · iexact HW12
      ipureintro
      rw [pcs1, dif_pos k.isLt, h12, ← View.writes_append, List.singleton_append]

/-- A listed word read through the table's view. -/
theorem tab_read (v : View sig .tc .smem S1x2x128 .i32) (X : BufTy.Contents (Elt F) v.ty) (k : ℕ) (hk : k < 256) (off : Fin 3 → ℕ) (inb) (x)
    (ho : off = ![0, k / 128, k % 128]) :
    v.readAt (Elt F) (Rect.unit (s := S1x2x128) off S1x1x1.size inb).toLoadRect X x
      = v.read (Elt F) X (ix3 0 ⟨k / 128, by omega⟩ ⟨k % 128, Nat.mod_lt _ (by omega)⟩) := by
  subst ho
  rw [View.readAt_eq_ld]
  refine View.ld_unit_apply_of _ _ _ _ _ _ fun a => ?_
  have h0 : (x a : ℕ) = 0 := by
    have := (x a).isLt
    have e : (Rect.unit (s := S1x2x128) (![0, k / 128, k % 128]) S1x1x1.size inb).shape.size a = 1 := by fin_cases a <;> rfl
    omega
  rw [h0]; fin_cases a <;> rfl

/-- A row of eight lines, reshaped, read from the resident array. -/
theorem row_read (v : View sig .tc .vmem S65536x128 .i32) (X : BufTy.Contents (Elt F) v.ty) (w : BitVec 32) (hw : w.toNat < 8192)
    (off : Fin 2 → ℕ) (inb) (ho : off = ![w.toNat * 8, 0]) (b : Fin 8) (l : Fin 128) :
    v.readAt (Elt F) (Rect.unit (s := S65536x128) off S8x128.size inb).toLoadRect X (ix2 b l)
      = v.read (Elt F) X (ix2 ⟨(w.toNat * 8 + b.val) % 65536, Nat.mod_lt _ (by omega)⟩ l) := by
  subst ho
  rw [View.readAt_eq_ld]
  refine View.ld_unit_apply_of _ _ _ _ _ _ fun a => ?_
  fin_cases a
  · show (w.toNat * 8 + b.val) % 65536 = w.toNat * 8 + b.val
    omega
  · show l.val = 0 + l.val
    omega

theorem off_row (w : BitVec 32) (hw : w.toNat < 8192) : (![(w * 8#32).toNat, 0] : Fin 2 → ℕ) = ![w.toNat * 8, 0] := by
  have e : (w * 8#32).toNat = w.toNat * 8 := by
    rw [BitVec.toNat_mul]; exact Nat.mod_eq_of_lt (by show w.toNat * 8 < 4294967296; omega)
  rw [e]

/-- The reshape of one row, at an index. -/
theorem pay1_apply (y : Vec F S8x128 .i32) (b : Fin 8) (l : Fin 128) : k0_pay1 (F := F) y (ix3 0 b l) = y (ix2 b l) := by
  pointwise [k0_pay1]

/-- What the first loop leaves: the rows that the table lists, in slot 0. -/
theorem read1 (hX : ∀ j, (arg2.view.read (Elt F) X2 j).toNat < 8192) : ∀ n, n ≤ 256 → ∀ (a : Fin 2) (b : Fin 2048) (l : Fin 128),
    arg12.view.read (Elt F) (arg12.view.writes (Elt F) G (pcs1 (F := F) i arg2 arg11 h1 X2 X11 hw n)) (ix3 a b l)
      = if a.val = 0 ∧ b.val < 8 * n then Rows.word (arg2.view.read (Elt F) X2) (arg11.view.read (Elt F) X11) b l
        else arg12.view.read (Elt F) G (ix3 a b l) := by
  refine Rows.read_pieces arg12.view G _ 0 (Rows.word (arg2.view.read (Elt F) X2) (arg11.view.read (Elt F) X11)) 256 rfl fun k hk => ?_
  have hk' : k < k0_t1_loop.trips := lt_of_lt_of_eq hk (by decide)
  refine ⟨_, _, _, k0_off4_eq ⟨k, hk'⟩, by rw [pcs1, dif_pos hk'], fun a b l h => ?_⟩
  obtain rfl : a = 0 := Subsingleton.elim _ _
  have ht : tok1 (F := F) i arg2 h1 X2 ⟨k, hk'⟩ = arg2.view.read (Elt F) X2 (ix3 0 ⟨k / 128, by omega⟩ ⟨k % 128, Nat.mod_lt _ (by omega)⟩) :=
    tab_read arg2.view X2 k hk _ _ _ (k0_off2_eq ⟨k, hk'⟩)
  have hb := b.isLt
  rw [pay1_apply]
  refine (row_read arg11.view X11 _ (by rw [ht]; exact hX _) _ _ (off_row _ (by rw [ht]; exact hX _)) b l).trans ?_
  rw [ht]
  have e1 : (8 * k + b.val) / 8 = k := by omega
  have e2 : (8 * k + b.val) % 8 = b.val := by omega
  simp only [Rows.word, e1, e2]

end T1

theorem pay234_apply (y : Vec F S8x128 .i32) (b : Fin 8) (l : Fin 128) : k0_pay234 (F := F) y (ix3 0 b l) = y (ix2 b l) := by
  pointwise [k0_pay234]

theorem pay37_apply (y : Vec F S8x128 .i32) (b : Fin 8) (l : Fin 128) : k0_pay37 (F := F) y (ix3 0 b l) = y (ix2 b l) := by
  pointwise [k0_pay37]

section T2

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_) (v0 : Elt F .i32) (v2 : BitVec 32) (v7 : Elt F .i32) (h2 : k0_cond2 i v0 v7 = 1#1)
  (a27 a29 : BitVec 32)
  (X3 : BufTy.Contents (Elt F) arg3.view.ty) (X11 : BufTy.Contents (Elt F) arg11.view.ty) (G : BufTy.Contents (Elt F) arg12.view.ty)
  (hw : ∀ (kq : ℕ) (hkq : kq < k0_t2_loop.trips), k0_chk2 i v0 v7 (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))))

/-- What the gather of the next tile's rows leaves: the rows that the table lists, in the other slot. -/
theorem read2 (hX : ∀ j, (arg3.view.read (Elt F) X3 j).toNat < 8192) : ∀ n, n ≤ 256 → ∀ (a : Fin 2) (b : Fin 2048) (l : Fin 128),
    arg12.view.read (Elt F) (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw n)) (ix3 a b l)
      = if a.val = 1 - (i 0).val % 2 ∧ b.val < 8 * n then Rows.word (arg3.view.read (Elt F) X3) (arg11.view.read (Elt F) X11) b l
        else arg12.view.read (Elt F) G (ix3 a b l) := by
  refine Rows.read_pieces arg12.view G _ _ (Rows.word (arg3.view.read (Elt F) X3) (arg11.view.read (Elt F) X11)) 256 rfl fun k hk => ?_
  have hk' : k < k0_t2_loop.trips := lt_of_lt_of_eq hk (by decide)
  refine ⟨_, _, _, k0_off15_eq i ⟨k, hk'⟩, (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw ⟨k, hk'⟩).trans (by
    delta tripL_k0_t2; unfold trip_k0_t2; rw [List.singleton_append]), fun a b l h => ?_⟩
  obtain rfl : a = 0 := Subsingleton.elim _ _
  have ht : trip_k0_t2.sl.r (F := F) arg3 X3 ⟨k, hk'⟩ = arg3.view.read (Elt F) X3 (ix3 0 ⟨k / 128, by omega⟩ ⟨k % 128, Nat.mod_lt _ (by omega)⟩) := by delta trip_k0_t2.sl.r; exact tab_read arg3.view X3 k hk _ (k0_off13_inb ⟨k, hk'⟩) (Shape.Idx.first (numel1_S1x1x1.symm ▸ Nat.one_pos)) (k0_off13_eq ⟨k, hk'⟩)
  have hb := b.isLt
  refine (pay37_apply _ b l).trans ?_
  refine (row_read arg11.view X11 _ (by rw [ht]; exact hX _) _ _ (off_row _ (by rw [ht]; exact hX _)) b l).trans ?_
  rw [ht]
  have e1 : (8 * k + b.val) / 8 = k := by omega
  have e2 : (8 * k + b.val) % 8 = b.val := by omega
  simp only [Rows.word, e1, e2]

end T2

section T3

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_) (v0 : Elt F .i32) (v2 : BitVec 32) (v7 : Elt F .i32) (h2 : k0_cond3 i v0 v7 = 1#1)
  (a27 a29 : BitVec 32)
  (X3 : BufTy.Contents (Elt F) arg3.view.ty) (X11 : BufTy.Contents (Elt F) arg11.view.ty) (G : BufTy.Contents (Elt F) arg12.view.ty)
  (hw : ∀ (kq : ℕ) (hkq : kq < k0_t3_loop.trips), k0_chk3 i v0 v7 (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))))

/-- What the gather of the next tile's rows leaves: the rows that the table lists, in the other slot. -/
theorem read3 (hX : ∀ j, (arg3.view.read (Elt F) X3 j).toNat < 8192) : ∀ n, n ≤ 256 → ∀ (a : Fin 2) (b : Fin 2048) (l : Fin 128),
    arg12.view.read (Elt F) (arg12.view.writes (Elt F) G (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw n)) (ix3 a b l)
      = if a.val = 1 - (i 0).val % 2 ∧ b.val < 8 * n then Rows.word (arg3.view.read (Elt F) X3) (arg11.view.read (Elt F) X11) b l
        else arg12.view.read (Elt F) G (ix3 a b l) := by
  refine Rows.read_pieces arg12.view G _ _ (Rows.word (arg3.view.read (Elt F) X3) (arg11.view.read (Elt F) X11)) 256 rfl fun k hk => ?_
  have hk' : k < k0_t3_loop.trips := lt_of_lt_of_eq hk (by decide)
  refine ⟨_, _, _, k0_off26_eq i ⟨k, hk'⟩, (pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 v0 v2 v7 h2 a27 a29 X3 X11 hw ⟨k, hk'⟩).trans (by
    delta tripL_k0_t3; unfold trip_k0_t3; rw [List.singleton_append]), fun a b l h => ?_⟩
  obtain rfl : a = 0 := Subsingleton.elim _ _
  have ht : trip_k0_t3.sl.r (F := F) arg3 X3 ⟨k, hk'⟩ = arg3.view.read (Elt F) X3 (ix3 0 ⟨k / 128, by omega⟩ ⟨k % 128, Nat.mod_lt _ (by omega)⟩) := by delta trip_k0_t3.sl.r; exact tab_read arg3.view X3 k hk _ (k0_off24_inb ⟨k, hk'⟩) (Shape.Idx.first (numel1_S1x1x1.symm ▸ Nat.one_pos)) (k0_off24_eq ⟨k, hk'⟩)
  have hb := b.isLt
  refine (pay234_apply _ b l).trans ?_
  refine (row_read arg11.view X11 _ (by rw [ht]; exact hX _) _ _ (off_row _ (by rw [ht]; exact hX _)) b l).trans ?_
  rw [ht]
  have e1 : (8 * k + b.val) / 8 = k := by omega
  have e2 : (8 * k + b.val) % 8 = b.val := by omega
  simp only [Rows.word, e1, e2]

end T3

end Cert.KernelIdeal.Hand
-- ==== Proof.Ideal.Spec.lean ====
/-
  What one tile of the feed-forward kernel computes, as functions of the contents of its blocks: the
  weights of one column chunk after dequantisation, the gathered rows widened from their words, the
  activations, the outputs of one chunk of columns, and the list of the stores into the output block.
-/
module

public import proofs.«01_k».proof.Proof.Ideal.Gather
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A rectangle's bounds on three axes. -/
theorem inb3 {n0 n1 n2 a b c p q r : ℕ} (h0 : a + p ≤ n0) (h1 : b + q ≤ n1) (h2 : c + r ≤ n2) :
    ∀ x : Fin 3, (![a, b, c] : Fin 3 → ℕ) x + (![p, q, r] : Fin 3 → ℕ) x ≤ (![n0, n1, n2] : Fin 3 → ℕ) x := by
  intro x; fin_cases x
  · exact h0
  · exact h1
  · exact h2

/-- The contents of the eight blocks a tile reads. -/
abbrev GateW (F : FTy → Type) := Vec F S1x1024x2048 .i8
abbrev GateS (F : FTy → Type) := Vec F S1x16x2048 .bf16
abbrev DownW (F : FTy → Type) := Vec F S1x512x2048 .i8
abbrev DownS (F : FTy → Type) := Vec F S1x8x2048 .bf16

/-- Group `g` (128 rows) of the dequantised gate-and-up weights, in column chunk `q` (512 columns). -/
def grpGU (x6 : GateW F) (x7 : GateS F) (q g : ℕ) (hq : q < 4) (hg : g < 16) : FVec F S128x512 .bf16 :=
  k0_pay38
    (View.ld x6 (Rect.unit (s := S1x1024x2048) ![0, 64 * g, 512 * q] S1x64x512.size (inb3 (n0 := 1) (n1 := 1024) (n2 := 2048) (p := 1) (q := 64) (r := 512) (by omega) (by omega) (by omega))))
    (View.ld x7 (Rect.unit (s := S1x16x2048) ![0, g, 512 * q] S1x1x512.size (inb3 (n0 := 1) (n1 := 16) (n2 := 2048) (p := 1) (q := 1) (r := 512) (by omega) (by omega) (by omega))))

/-- Group `g` of the dequantised down weights, in column chunk `q`. -/
def grpD (x8 : DownW F) (x9 : DownS F) (q g : ℕ) (hq : q < 4) (hg : g < 8) : FVec F S128x512 .bf16 :=
  k0_pay38
    (View.ld x8 (Rect.unit (s := S1x512x2048) ![0, 64 * g, 512 * q] S1x64x512.size (inb3 (n0 := 1) (n1 := 512) (n2 := 2048) (p := 1) (q := 64) (r := 512) (by omega) (by omega) (by omega))))
    (View.ld x9 (Rect.unit (s := S1x8x2048) ![0, g, 512 * q] S1x1x512.size (inb3 (n0 := 1) (n1 := 8) (n2 := 2048) (p := 1) (q := 1) (r := 512) (by omega) (by omega) (by omega))))

/-- The gate-and-up weights of one column chunk: the sixteen groups over each other. -/
def wGU (x6 : GateW F) (x7 : GateS F) (q : ℕ) (hq : q < 4) : FVec F S2048x512 .bf16 :=
  concatenate S2048x512 0 [⟨S128x512, grpGU x6 x7 q 0 hq (by omega)⟩,
      ⟨S128x512, grpGU x6 x7 q 1 hq (by omega)⟩,
      ⟨S128x512, grpGU x6 x7 q 2 hq (by omega)⟩,
      ⟨S128x512, grpGU x6 x7 q 3 hq (by omega)⟩,
      ⟨S128x512, grpGU x6 x7 q 4 hq (by omega)⟩,
      ⟨S128x512, grpGU x6 x7 q 5 hq (by omega)⟩,
      ⟨S128x512, grpGU x6 x7 q 6 hq (by omega)⟩,
      ⟨S128x512, grpGU x6 x7 q 7 hq (by omega)⟩,
      ⟨S128x512, grpGU x6 x7 q 8 hq (by omega)⟩,
      ⟨S128x512, grpGU x6 x7 q 9 hq (by omega)⟩,
      ⟨S128x512, grpGU x6 x7 q 10 hq (by omega)⟩,
      ⟨S128x512, grpGU x6 x7 q 11 hq (by omega)⟩,
      ⟨S128x512, grpGU x6 x7 q 12 hq (by omega)⟩,
      ⟨S128x512, grpGU x6 x7 q 13 hq (by omega)⟩,
      ⟨S128x512, grpGU x6 x7 q 14 hq (by omega)⟩,
      ⟨S128x512, grpGU x6 x7 q 15 hq (by omega)⟩]
    concatenates_S128x512_S128x512_S128x512_S128x512_S128x512_S128x512_S128x512_S128x512_S128x512_S128x512_S128x512_S128x512_S128x512_S128x512_S128x512_S128x512_S2048x512_d0

/-- The down weights of one column chunk: the eight groups over each other. -/
def wD (x8 : DownW F) (x9 : DownS F) (q : ℕ) (hq : q < 4) : FVec F S1024x512 .bf16 :=
  concatenate S1024x512 0 [⟨S128x512, grpD x8 x9 q 0 hq (by omega)⟩,
      ⟨S128x512, grpD x8 x9 q 1 hq (by omega)⟩,
      ⟨S128x512, grpD x8 x9 q 2 hq (by omega)⟩,
      ⟨S128x512, grpD x8 x9 q 3 hq (by omega)⟩,
      ⟨S128x512, grpD x8 x9 q 4 hq (by omega)⟩,
      ⟨S128x512, grpD x8 x9 q 5 hq (by omega)⟩,
      ⟨S128x512, grpD x8 x9 q 6 hq (by omega)⟩,
      ⟨S128x512, grpD x8 x9 q 7 hq (by omega)⟩]
    concatenates_S128x512_S128x512_S128x512_S128x512_S128x512_S128x512_S128x512_S128x512_S1024x512_d0

/-! ## A tile of 256 rows -/

/-- The gathered rows of a tile, word by word widened to a low and a high half. -/
def xs256 (i : grid0.Coords) (b : Vec F S2x2048x128 .i32) : FVec F S256x2048 .bf16 :=
  concatenate S256x2048 1 [⟨S256x128, k0_pay13 (fun j => b ((⟨k0_off5 i, S1x256x128.size, ![1, 8, 1], k0_off5_inb i⟩ : LoadRect S2x2048x128).idx j))⟩,
      ⟨S256x128, k0_pay14 (fun j => b ((⟨k0_off5 i, S1x256x128.size, ![1, 8, 1], k0_off5_inb i⟩ : LoadRect S2x2048x128).idx j))⟩,
      ⟨S256x128, k0_pay13 (fun j => b ((⟨k0_off6 i, S1x256x128.size, ![1, 8, 1], k0_off6_inb i⟩ : LoadRect S2x2048x128).idx j))⟩,
      ⟨S256x128, k0_pay14 (fun j => b ((⟨k0_off6 i, S1x256x128.size, ![1, 8, 1], k0_off6_inb i⟩ : LoadRect S2x2048x128).idx j))⟩,
      ⟨S256x128, k0_pay13 (fun j => b ((⟨k0_off7 i, S1x256x128.size, ![1, 8, 1], k0_off7_inb i⟩ : LoadRect S2x2048x128).idx j))⟩,
      ⟨S256x128, k0_pay14 (fun j => b ((⟨k0_off7 i, S1x256x128.size, ![1, 8, 1], k0_off7_inb i⟩ : LoadRect S2x2048x128).idx j))⟩,
      ⟨S256x128, k0_pay13 (fun j => b ((⟨k0_off8 i, S1x256x128.size, ![1, 8, 1], k0_off8_inb i⟩ : LoadRect S2x2048x128).idx j))⟩,
      ⟨S256x128, k0_pay14 (fun j => b ((⟨k0_off8 i, S1x256x128.size, ![1, 8, 1], k0_off8_inb i⟩ : LoadRect S2x2048x128).idx j))⟩,
      ⟨S256x128, k0_pay13 (fun j => b ((⟨k0_off9 i, S1x256x128.size, ![1, 8, 1], k0_off9_inb i⟩ : LoadRect S2x2048x128).idx j))⟩,
      ⟨S256x128, k0_pay14 (fun j => b ((⟨k0_off9 i, S1x256x128.size, ![1, 8, 1], k0_off9_inb i⟩ : LoadRect S2x2048x128).idx j))⟩,
      ⟨S256x128, k0_pay13 (fun j => b ((⟨k0_off10 i, S1x256x128.size, ![1, 8, 1], k0_off10_inb i⟩ : LoadRect S2x2048x128).idx j))⟩,
      ⟨S256x128, k0_pay14 (fun j => b ((⟨k0_off10 i, S1x256x128.size, ![1, 8, 1], k0_off10_inb i⟩ : LoadRect S2x2048x128).idx j))⟩,
      ⟨S256x128, k0_pay13 (fun j => b ((⟨k0_off11 i, S1x256x128.size, ![1, 8, 1], k0_off11_inb i⟩ : LoadRect S2x2048x128).idx j))⟩,
      ⟨S256x128, k0_pay14 (fun j => b ((⟨k0_off11 i, S1x256x128.size, ![1, 8, 1], k0_off11_inb i⟩ : LoadRect S2x2048x128).idx j))⟩,
      ⟨S256x128, k0_pay13 (fun j => b ((⟨k0_off12 i, S1x256x128.size, ![1, 8, 1], k0_off12_inb i⟩ : LoadRect S2x2048x128).idx j))⟩,
      ⟨S256x128, k0_pay14 (fun j => b ((⟨k0_off12 i, S1x256x128.size, ![1, 8, 1], k0_off12_inb i⟩ : LoadRect S2x2048x128).idx j))⟩]
    concatenates_S256x128_S256x128_S256x128_S256x128_S256x128_S256x128_S256x128_S256x128_S256x128_S256x128_S256x128_S256x128_S256x128_S256x128_S256x128_S256x128_S256x2048_d1

/-- The product of the rows with one column chunk of the gate-and-up weights. -/
def gu256 (xs : FVec F S256x2048 .bf16) (x6 : GateW F) (x7 : GateS F) (q : ℕ) (hq : q < 4) : FVec F S256x512 .f32 :=
  matmul dot_S256x2048_S2048x512_S256x512_1_0_0_1_n_n none xs (wGU x6 x7 q hq) (constant S256x512 .f32 0x00000000#32)

/-- One chunk of the activations. -/
def actC256 (xs : FVec F S256x2048 .bf16) (x6 : GateW F) (x7 : GateS F) (q : ℕ) (hq : q < 2) : FVec F S256x512 .bf16 :=
  shapeCast S256x512 (truncf .bf16 (mulf (mulf (gu256 xs x6 x7 q (by omega)) (logistic (gu256 xs x6 x7 q (by omega)))) (gu256 xs x6 x7 (q + 2) (by omega))) bitsLt_bf16_f32) shapeCasts_S256x512_S256x512

/-- The stores of the two chunks into the activation scratch. -/
def actL256 (xs : FVec F S256x2048 .bf16) (x6 : GateW F) (x7 : GateS F) : List (View.Piece (Elt F) S256x1024 .bf16) :=
  [⟨Rect.unit ![0, 512] S256x512.size inb_S256x1024_S256x512_0_512, actC256 xs x6 x7 1 (by omega)⟩,
   ⟨Rect.unit ![0, 0] S256x512.size inb_S256x1024_S256x512_0_0, actC256 xs x6 x7 0 (by omega)⟩]

/-- The activations as the tile reads them back. -/
def act256 (xs : FVec F S256x2048 .bf16) (x6 : GateW F) (x7 : GateS F) : FVec F S256x1024 .bf16 :=
  fun j => View.canon (actL256 xs x6 x7) ((Rect.unit (s := S256x1024) ![0, 0] S256x1024.size inb_S256x1024_S256x1024_0_0).toLoadRect.idx j)

/-- One chunk of the outputs: the product with the down weights, each row times its own scale. -/
def dn256 (a : FVec F S256x1024 .bf16) (g : FVec F S256x1 .f32) (x8 : DownW F) (x9 : DownS F) (q : ℕ) (hq : q < 4) : FVec F S256x512 .f32 :=
  mulf (matmul dot_S256x1024_S1024x512_S256x512_1_0_0_1_n_n none a (wD x8 x9 q hq) (constant S256x512 .f32 0x00000000#32)) (broadcastTo S256x512 g broadcasts_S256x1_S256x512)

/-- The stores into the output block, the last one first. -/
def outL256 (a : FVec F S256x1024 .bf16) (g : FVec F S256x1 .f32) (x8 : DownW F) (x9 : DownS F) : List (View.Piece (Elt F) S6144x128 .f32) :=
  [⟨⟨(⟨![15, 0], S256x128.size, ![24, 1], inb_S6144x128_S256x128_15_0_s_24_1⟩ : LoadRect S6144x128), spos_24_1⟩, extractStridedSlice S256x128 ![0, 384] (dn256 a g x8 x9 3 (by omega)) slices_S256x512_o0_384_S256x128⟩,
   ⟨⟨(⟨![14, 0], S256x128.size, ![24, 1], inb_S6144x128_S256x128_14_0_s_24_1⟩ : LoadRect S6144x128), spos_24_1⟩, extractStridedSlice S256x128 ![0, 256] (dn256 a g x8 x9 3 (by omega)) slices_S256x512_o0_256_S256x128⟩,
   ⟨⟨(⟨![13, 0], S256x128.size, ![24, 1], inb_S6144x128_S256x128_13_0_s_24_1⟩ : LoadRect S6144x128), spos_24_1⟩, extractStridedSlice S256x128 ![0, 128] (dn256 a g x8 x9 3 (by omega)) slices_S256x512_o0_128_S256x128⟩,
   ⟨⟨(⟨![12, 0], S256x128.size, ![24, 1], inb_S6144x128_S256x128_12_0_s_24_1⟩ : LoadRect S6144x128), spos_24_1⟩, extractStridedSlice S256x128 ![0, 0] (dn256 a g x8 x9 3 (by omega)) slices_S256x512_o0_0_S256x128⟩,
   ⟨⟨(⟨![11, 0], S256x128.size, ![24, 1], inb_S6144x128_S256x128_11_0_s_24_1⟩ : LoadRect S6144x128), spos_24_1⟩, extractStridedSlice S256x128 ![0, 384] (dn256 a g x8 x9 2 (by omega)) slices_S256x512_o0_384_S256x128⟩,
   ⟨⟨(⟨![10, 0], S256x128.size, ![24, 1], inb_S6144x128_S256x128_10_0_s_24_1⟩ : LoadRect S6144x128), spos_24_1⟩, extractStridedSlice S256x128 ![0, 256] (dn256 a g x8 x9 2 (by omega)) slices_S256x512_o0_256_S256x128⟩,
   ⟨⟨(⟨![9, 0], S256x128.size, ![24, 1], inb_S6144x128_S256x128_9_0_s_24_1⟩ : LoadRect S6144x128), spos_24_1⟩, extractStridedSlice S256x128 ![0, 128] (dn256 a g x8 x9 2 (by omega)) slices_S256x512_o0_128_S256x128⟩,
   ⟨⟨(⟨![8, 0], S256x128.size, ![24, 1], inb_S6144x128_S256x128_8_0_s_24_1⟩ : LoadRect S6144x128), spos_24_1⟩, extractStridedSlice S256x128 ![0, 0] (dn256 a g x8 x9 2 (by omega)) slices_S256x512_o0_0_S256x128⟩,
   ⟨⟨(⟨![7, 0], S256x128.size, ![24, 1], inb_S6144x128_S256x128_7_0_s_24_1⟩ : LoadRect S6144x128), spos_24_1⟩, extractStridedSlice S256x128 ![0, 384] (dn256 a g x8 x9 1 (by omega)) slices_S256x512_o0_384_S256x128⟩,
   ⟨⟨(⟨![6, 0], S256x128.size, ![24, 1], inb_S6144x128_S256x128_6_0_s_24_1⟩ : LoadRect S6144x128), spos_24_1⟩, extractStridedSlice S256x128 ![0, 256] (dn256 a g x8 x9 1 (by omega)) slices_S256x512_o0_256_S256x128⟩,
   ⟨⟨(⟨![5, 0], S256x128.size, ![24, 1], inb_S6144x128_S256x128_5_0_s_24_1⟩ : LoadRect S6144x128), spos_24_1⟩, extractStridedSlice S256x128 ![0, 128] (dn256 a g x8 x9 1 (by omega)) slices_S256x512_o0_128_S256x128⟩,
   ⟨⟨(⟨![4, 0], S256x128.size, ![24, 1], inb_S6144x128_S256x128_4_0_s_24_1⟩ : LoadRect S6144x128), spos_24_1⟩, extractStridedSlice S256x128 ![0, 0] (dn256 a g x8 x9 1 (by omega)) slices_S256x512_o0_0_S256x128⟩,
   ⟨⟨(⟨![3, 0], S256x128.size, ![24, 1], inb_S6144x128_S256x128_3_0_s_24_1⟩ : LoadRect S6144x128), spos_24_1⟩, extractStridedSlice S256x128 ![0, 384] (dn256 a g x8 x9 0 (by omega)) slices_S256x512_o0_384_S256x128⟩,
   ⟨⟨(⟨![2, 0], S256x128.size, ![24, 1], inb_S6144x128_S256x128_2_0_s_24_1⟩ : LoadRect S6144x128), spos_24_1⟩, extractStridedSlice S256x128 ![0, 256] (dn256 a g x8 x9 0 (by omega)) slices_S256x512_o0_256_S256x128⟩,
   ⟨⟨(⟨![1, 0], S256x128.size, ![24, 1], inb_S6144x128_S256x128_1_0_s_24_1⟩ : LoadRect S6144x128), spos_24_1⟩, extractStridedSlice S256x128 ![0, 128] (dn256 a g x8 x9 0 (by omega)) slices_S256x512_o0_128_S256x128⟩,
   ⟨⟨(⟨![0, 0], S256x128.size, ![24, 1], inb_S6144x128_S256x128_0_0_s_24_1⟩ : LoadRect S6144x128), spos_24_1⟩, extractStridedSlice S256x128 ![0, 0] (dn256 a g x8 x9 0 (by omega)) slices_S256x512_o0_0_S256x128⟩]

/-- All the stores of the tile, from the contents of its blocks. -/
def tile256 (i : grid0.Coords) (b : Vec F S2x2048x128 .i32) (x4 : Vec F S1x2x128 .f32) (x6 : GateW F) (x7 : GateS F) (x8 : DownW F) (x9 : DownS F) :
    List (View.Piece (Elt F) S6144x128 .f32) :=
  outL256 (act256 (xs256 i b) x6 x7) (k0_pay144 (View.ld x4 (Rect.unit (s := S1x2x128) ![0, 0, 0] S1x2x128.size inb_S1x2x128_S1x2x128_0_0_0))) x8 x9

/-! ## A tile of 128 rows -/

/-- The gathered rows of a tile, word by word widened to a low and a high half. -/
def xs128 (i : grid0.Coords) (b : Vec F S2x2048x128 .i32) : FVec F S128x2048 .bf16 :=
  concatenate S128x2048 1 [⟨S128x128, k0_pay210 (fun j => b ((⟨k0_off16 i, S1x128x128.size, ![1, 8, 1], k0_off16_inb i⟩ : LoadRect S2x2048x128).idx j))⟩,
      ⟨S128x128, k0_pay211 (fun j => b ((⟨k0_off16 i, S1x128x128.size, ![1, 8, 1], k0_off16_inb i⟩ : LoadRect S2x2048x128).idx j))⟩,
      ⟨S128x128, k0_pay210 (fun j => b ((⟨k0_off17 i, S1x128x128.size, ![1, 8, 1], k0_off17_inb i⟩ : LoadRect S2x2048x128).idx j))⟩,
      ⟨S128x128, k0_pay211 (fun j => b ((⟨k0_off17 i, S1x128x128.size, ![1, 8, 1], k0_off17_inb i⟩ : LoadRect S2x2048x128).idx j))⟩,
      ⟨S128x128, k0_pay210 (fun j => b ((⟨k0_off18 i, S1x128x128.size, ![1, 8, 1], k0_off18_inb i⟩ : LoadRect S2x2048x128).idx j))⟩,
      ⟨S128x128, k0_pay211 (fun j => b ((⟨k0_off18 i, S1x128x128.size, ![1, 8, 1], k0_off18_inb i⟩ : LoadRect S2x2048x128).idx j))⟩,
      ⟨S128x128, k0_pay210 (fun j => b ((⟨k0_off19 i, S1x128x128.size, ![1, 8, 1], k0_off19_inb i⟩ : LoadRect S2x2048x128).idx j))⟩,
      ⟨S128x128, k0_pay211 (fun j => b ((⟨k0_off19 i, S1x128x128.size, ![1, 8, 1], k0_off19_inb i⟩ : LoadRect S2x2048x128).idx j))⟩,
      ⟨S128x128, k0_pay210 (fun j => b ((⟨k0_off20 i, S1x128x128.size, ![1, 8, 1], k0_off20_inb i⟩ : LoadRect S2x2048x128).idx j))⟩,
      ⟨S128x128, k0_pay211 (fun j => b ((⟨k0_off20 i, S1x128x128.size, ![1, 8, 1], k0_off20_inb i⟩ : LoadRect S2x2048x128).idx j))⟩,
      ⟨S128x128, k0_pay210 (fun j => b ((⟨k0_off21 i, S1x128x128.size, ![1, 8, 1], k0_off21_inb i⟩ : LoadRect S2x2048x128).idx j))⟩,
      ⟨S128x128, k0_pay211 (fun j => b ((⟨k0_off21 i, S1x128x128.size, ![1, 8, 1], k0_off21_inb i⟩ : LoadRect S2x2048x128).idx j))⟩,
      ⟨S128x128, k0_pay210 (fun j => b ((⟨k0_off22 i, S1x128x128.size, ![1, 8, 1], k0_off22_inb i⟩ : LoadRect S2x2048x128).idx j))⟩,
      ⟨S128x128, k0_pay211 (fun j => b ((⟨k0_off22 i, S1x128x128.size, ![1, 8, 1], k0_off22_inb i⟩ : LoadRect S2x2048x128).idx j))⟩,
      ⟨S128x128, k0_pay210 (fun j => b ((⟨k0_off23 i, S1x128x128.size, ![1, 8, 1], k0_off23_inb i⟩ : LoadRect S2x2048x128).idx j))⟩,
      ⟨S128x128, k0_pay211 (fun j => b ((⟨k0_off23 i, S1x128x128.size, ![1, 8, 1], k0_off23_inb i⟩ : LoadRect S2x2048x128).idx j))⟩]
    concatenates_S128x128_S128x128_S128x128_S128x128_S128x128_S128x128_S128x128_S128x128_S128x128_S128x128_S128x128_S128x128_S128x128_S128x128_S128x128_S128x128_S128x2048_d1

/-- The product of the rows with one column chunk of the gate-and-up weights. -/
def gu128 (xs : FVec F S128x2048 .bf16) (x6 : GateW F) (x7 : GateS F) (q : ℕ) (hq : q < 4) : FVec F S128x512 .f32 :=
  matmul dot_S128x2048_S2048x512_S128x512_1_0_0_1_n_n none xs (wGU x6 x7 q hq) (constant S128x512 .f32 0x00000000#32)

/-- One chunk of the activations. -/
def actC128 (xs : FVec F S128x2048 .bf16) (x6 : GateW F) (x7 : GateS F) (q : ℕ) (hq : q < 2) : FVec F S128x512 .bf16 :=
  shapeCast S128x512 (truncf .bf16 (mulf (mulf (gu128 xs x6 x7 q (by omega)) (logistic (gu128 xs x6 x7 q (by omega)))) (gu128 xs x6 x7 (q + 2) (by omega))) bitsLt_bf16_f32) shapeCasts_S128x512_S128x512

/-- The stores of the two chunks into the activation scratch. -/
def actL128 (xs : FVec F S128x2048 .bf16) (x6 : GateW F) (x7 : GateS F) : List (View.Piece (Elt F) S256x1024 .bf16) :=
  [⟨Rect.unit ![0, 512] S128x512.size inb_S256x1024_S128x512_0_512, actC128 xs x6 x7 1 (by omega)⟩,
   ⟨Rect.unit ![0, 0] S128x512.size inb_S256x1024_S128x512_0_0, actC128 xs x6 x7 0 (by omega)⟩]

/-- The activations as the tile reads them back. -/
def act128 (xs : FVec F S128x2048 .bf16) (x6 : GateW F) (x7 : GateS F) : FVec F S128x1024 .bf16 :=
  fun j => View.canon (actL128 xs x6 x7) ((Rect.unit (s := S256x1024) ![0, 0] S128x1024.size inb_S256x1024_S128x1024_0_0).toLoadRect.idx j)

/-- One chunk of the outputs: the product with the down weights, each row times its own scale. -/
def dn128 (a : FVec F S128x1024 .bf16) (g : FVec F S128x1 .f32) (x8 : DownW F) (x9 : DownS F) (q : ℕ) (hq : q < 4) : FVec F S128x512 .f32 :=
  mulf (matmul dot_S128x1024_S1024x512_S128x512_1_0_0_1_n_n none a (wD x8 x9 q hq) (constant S128x512 .f32 0x00000000#32)) (broadcastTo S128x512 g broadcasts_S128x1_S128x512)

/-- The stores into the output block, the last one first. -/
def outL128 (a : FVec F S128x1024 .bf16) (g : FVec F S128x1 .f32) (x8 : DownW F) (x9 : DownS F) : List (View.Piece (Elt F) S6144x128 .f32) :=
  [⟨⟨(⟨![15, 0], S128x128.size, ![24, 1], inb_S6144x128_S128x128_15_0_s_24_1⟩ : LoadRect S6144x128), spos_24_1⟩, extractStridedSlice S128x128 ![0, 384] (dn128 a g x8 x9 3 (by omega)) slices_S128x512_o0_384_S128x128⟩,
   ⟨⟨(⟨![14, 0], S128x128.size, ![24, 1], inb_S6144x128_S128x128_14_0_s_24_1⟩ : LoadRect S6144x128), spos_24_1⟩, extractStridedSlice S128x128 ![0, 256] (dn128 a g x8 x9 3 (by omega)) slices_S128x512_o0_256_S128x128⟩,
   ⟨⟨(⟨![13, 0], S128x128.size, ![24, 1], inb_S6144x128_S128x128_13_0_s_24_1⟩ : LoadRect S6144x128), spos_24_1⟩, extractStridedSlice S128x128 ![0, 128] (dn128 a g x8 x9 3 (by omega)) slices_S128x512_o0_128_S128x128⟩,
   ⟨⟨(⟨![12, 0], S128x128.size, ![24, 1], inb_S6144x128_S128x128_12_0_s_24_1⟩ : LoadRect S6144x128), spos_24_1⟩, extractStridedSlice S128x128 ![0, 0] (dn128 a g x8 x9 3 (by omega)) slices_S128x512_o0_0_S128x128⟩,
   ⟨⟨(⟨![11, 0], S128x128.size, ![24, 1], inb_S6144x128_S128x128_11_0_s_24_1⟩ : LoadRect S6144x128), spos_24_1⟩, extractStridedSlice S128x128 ![0, 384] (dn128 a g x8 x9 2 (by omega)) slices_S128x512_o0_384_S128x128⟩,
   ⟨⟨(⟨![10, 0], S128x128.size, ![24, 1], inb_S6144x128_S128x128_10_0_s_24_1⟩ : LoadRect S6144x128), spos_24_1⟩, extractStridedSlice S128x128 ![0, 256] (dn128 a g x8 x9 2 (by omega)) slices_S128x512_o0_256_S128x128⟩,
   ⟨⟨(⟨![9, 0], S128x128.size, ![24, 1], inb_S6144x128_S128x128_9_0_s_24_1⟩ : LoadRect S6144x128), spos_24_1⟩, extractStridedSlice S128x128 ![0, 128] (dn128 a g x8 x9 2 (by omega)) slices_S128x512_o0_128_S128x128⟩,
   ⟨⟨(⟨![8, 0], S128x128.size, ![24, 1], inb_S6144x128_S128x128_8_0_s_24_1⟩ : LoadRect S6144x128), spos_24_1⟩, extractStridedSlice S128x128 ![0, 0] (dn128 a g x8 x9 2 (by omega)) slices_S128x512_o0_0_S128x128⟩,
   ⟨⟨(⟨![7, 0], S128x128.size, ![24, 1], inb_S6144x128_S128x128_7_0_s_24_1⟩ : LoadRect S6144x128), spos_24_1⟩, extractStridedSlice S128x128 ![0, 384] (dn128 a g x8 x9 1 (by omega)) slices_S128x512_o0_384_S128x128⟩,
   ⟨⟨(⟨![6, 0], S128x128.size, ![24, 1], inb_S6144x128_S128x128_6_0_s_24_1⟩ : LoadRect S6144x128), spos_24_1⟩, extractStridedSlice S128x128 ![0, 256] (dn128 a g x8 x9 1 (by omega)) slices_S128x512_o0_256_S128x128⟩,
   ⟨⟨(⟨![5, 0], S128x128.size, ![24, 1], inb_S6144x128_S128x128_5_0_s_24_1⟩ : LoadRect S6144x128), spos_24_1⟩, extractStridedSlice S128x128 ![0, 128] (dn128 a g x8 x9 1 (by omega)) slices_S128x512_o0_128_S128x128⟩,
   ⟨⟨(⟨![4, 0], S128x128.size, ![24, 1], inb_S6144x128_S128x128_4_0_s_24_1⟩ : LoadRect S6144x128), spos_24_1⟩, extractStridedSlice S128x128 ![0, 0] (dn128 a g x8 x9 1 (by omega)) slices_S128x512_o0_0_S128x128⟩,
   ⟨⟨(⟨![3, 0], S128x128.size, ![24, 1], inb_S6144x128_S128x128_3_0_s_24_1⟩ : LoadRect S6144x128), spos_24_1⟩, extractStridedSlice S128x128 ![0, 384] (dn128 a g x8 x9 0 (by omega)) slices_S128x512_o0_384_S128x128⟩,
   ⟨⟨(⟨![2, 0], S128x128.size, ![24, 1], inb_S6144x128_S128x128_2_0_s_24_1⟩ : LoadRect S6144x128), spos_24_1⟩, extractStridedSlice S128x128 ![0, 256] (dn128 a g x8 x9 0 (by omega)) slices_S128x512_o0_256_S128x128⟩,
   ⟨⟨(⟨![1, 0], S128x128.size, ![24, 1], inb_S6144x128_S128x128_1_0_s_24_1⟩ : LoadRect S6144x128), spos_24_1⟩, extractStridedSlice S128x128 ![0, 128] (dn128 a g x8 x9 0 (by omega)) slices_S128x512_o0_128_S128x128⟩,
   ⟨⟨(⟨![0, 0], S128x128.size, ![24, 1], inb_S6144x128_S128x128_0_0_s_24_1⟩ : LoadRect S6144x128), spos_24_1⟩, extractStridedSlice S128x128 ![0, 0] (dn128 a g x8 x9 0 (by omega)) slices_S128x512_o0_0_S128x128⟩]

/-- All the stores of the tile, from the contents of its blocks. -/
def tile128 (i : grid0.Coords) (b : Vec F S2x2048x128 .i32) (x4 : Vec F S1x2x128 .f32) (x6 : GateW F) (x7 : GateS F) (x8 : DownW F) (x9 : DownS F) :
    List (View.Piece (Elt F) S6144x128 .f32) :=
  outL128 (act128 (xs128 i b) x6 x7) (k0_pay341 (View.ld x4 (Rect.unit (s := S1x2x128) ![0, 0, 0] S1x2x128.size inb_S1x2x128_S1x2x128_0_0_0))) x8 x9

end Cert.KernelIdeal.Hand
-- ==== Proof.Ideal.Run.lean ====
/-
  The feed-forward kernel's body, run from the contents of its blocks and scratches to what it leaves in them: at the first
  point of the grid and at a later one, on a tile of 256 rows, on a tile of 128 rows, and where there is no tile.
-/
module

public import proofs.«01_k».proof.Proof.Ideal.Spec

@[expose] public section

set_option maxRecDepth 16384
set_option maxHeartbeats 40000000

noncomputable section

namespace Cert.KernelIdeal

open Cert.KernelIdeal.Gen Idealize.ShloMosaic

theorem k0_part3_eq_skeleton {F : FTy → Type} : k0_part3 (F := F) = k0_part3_skel (F := F) := rfl
theorem k0_part4_eq_skeleton {F : FTy → Type} : k0_part4 (F := F) = k0_part4_skel (F := F) := rfl
theorem k0_part53_eq_skeleton {F : FTy → Type} : k0_part53 (F := F) = k0_part53_skel (F := F) := rfl
theorem k0_part54_eq_skeleton {F : FTy → Type} : k0_part54 (F := F) = k0_part54_skel (F := F) := rfl

end Cert.KernelIdeal

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

section

variable (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_)
  (X1 : BufTy.Contents (Elt F) arg1.view.ty) (X2 : BufTy.Contents (Elt F) arg2.view.ty) (X5 : BufTy.Contents (Elt F) arg5.view.ty)
  (X3 : BufTy.Contents (Elt F) arg3.view.ty) (X4 : BufTy.Contents (Elt F) arg4.view.ty)
  (X6 : BufTy.Contents (Elt F) arg6.view.ty) (X7 : BufTy.Contents (Elt F) arg7.view.ty) (X8 : BufTy.Contents (Elt F) arg8.view.ty)
  (X9 : BufTy.Contents (Elt F) arg9.view.ty) (X10 : BufTy.Contents (Elt F) arg10.view.ty)
  (X11 : BufTy.Contents (Elt F) arg11.view.ty) (X12 : BufTy.Contents (Elt F) arg12.view.ty) (X13 : BufTy.Contents (Elt F) arg13.view.ty)

/-- The number of tiles, as the body reads it. -/
abbrev nTiles : BitVec 32 :=
  arg1.view.readAt (Elt F) (Rect.unit (s := S1x256) ![0, 255] S1x1.size inb_S1x256_S1x1_0_255).toLoadRect X1 (Shape.Idx.first (numel1_S1x1.symm ▸ Nat.one_pos))
/-- The tile's entry, as the body reads it. -/
abbrev entry : BitVec 32 :=
  arg1.view.readAt (Elt F) (Rect.unit (s := S1x256) (k0_off1 i) S1x1.size (k0_off1_inb i)).toLoadRect X1 (Shape.Idx.first (numel1_S1x1.symm ▸ Nat.one_pos))

/-- Two lists of stores, one after the other. -/
theorem writes_append {sig : RefSig} {κ : Kind} {sp : Space} {s : Shape} {e : EltTy} {Val : EltTy → Type} (v : View sig κ sp s e) (f : v.ty.Contents Val) (A B : List (View.Piece Val s e)) :
    v.writes Val f (A ++ B) = v.writes Val (v.writes Val f B) A := by
  induction A with
  | nil => rfl
  | cons p A ih => rw [List.cons_append, View.writes_cons, View.writes_cons, ih]

/-- Slot `s` of the row buffer holds the rows of `x` that the table lists. -/
def Slot (s : ℕ) (tab : Vec F S1x2x128 .i32) (x : Vec F S65536x128 .i32) (b : Vec F S2x2048x128 .i32) : Prop :=
  ∀ (a : Fin 2), a.val = s → ∀ (k : Fin 2048) (l : Fin 128), b (ix3 a k l) = Rows.word tab x k l

/-- A later point, a tile of 256 rows. -/
theorem laterFull (h1 : ¬ k0_cond1 i = 1#1) (h2 : k0_cond2 i (nTiles (F := F) arg1 X1) (entry (F := F) i arg1 X1) = 1#1)
    (h3 : ¬ k0_cond3 i (nTiles (F := F) arg1 X1) (entry (F := F) i arg1 X1) = 1#1) (hX3 : ∀ j, (arg3.view.read (Elt F) X3 j).toNat < 8192) :
    (iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ((arg10.view.loc (c : Thread nD τ) ↦[arg10.view.set]{fullShare} (arg10.view.writes (Elt F) X10 (tile256 (F := F) i (arg12.view.read (Elt F) X12) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} X11) ∗ (∃ Y12, ⌜Slot (F := F) (1 - (i 0).val % 2) (arg3.view.read (Elt F) X3) (arg11.view.read (Elt F) X11) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t2_loop.trips), k0_chk2 i (nTiles (F := F) arg1 X1) (entry (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := fun kq hkq =>
    chk2_of i _ _ _ (by
      have hk : kq < 256 := lt_of_lt_of_eq hkq (by decide)
      rw [tab_read arg3.view X3 kq hk _ _ _ (k0_off13_eq ⟨kq, hkq⟩)]; exact hX3 _)
  rw [cc0_expert_ffn_eq_skeleton]
  sl_unfold [cc0_expert_ffn_skel]
  iintro ⟨HR1, HR3, HR4, HR6, HR7, HR8, HR9, HW10, HR11, HW12, HW13⟩
  set_option sl_exec.stopBefore "k0_cond2" in sl_exec
  have h2' : k0_cond2 i (laterFull.sl.r (F := F) arg1 X1) (laterFull.sl.r_1 (F := F) i arg1 X1) = 1#1 := h2
  have h3' : ¬ k0_cond3 i (laterFull.sl.r (F := F) arg1 X1) (laterFull.sl.r_1 (F := F) i arg1 X1) = 1#1 := h3
  have hw' : ∀ (kq : ℕ) (hkq : kq < k0_t2_loop.trips), k0_chk2 i (laterFull.sl.r (F := F) arg1 X1) (laterFull.sl.r_1 (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := hw
  sl_exec_parts
  sl_step
  have ea : laterFull.sl.v1290 (F := F) i arg6 arg7 arg12 arg13 X6 X7 X12 = act256 (xs256 i (arg12.view.read (Elt F) X12)) (arg6.view.read (Elt F) X6) (arg7.view.read (Elt F) X7) :=
    View.readCov_eq_canon' arg13.view (laterFull.sl.HW13_2 (F := F) i arg6 arg7 arg12 X6 X7 X12) _
  isplitl [HR1]; · iexact HR1
  isplitl [HR3]; · iexact HR3
  isplitl [HR4]; · iexact HR4
  isplitl [HR6]; · iexact HR6
  isplitl [HR7]; · iexact HR7
  isplitl [HR8]; · iexact HR8
  isplitl [HR9]; · iexact HR9
  isplitr [HW13]
  · isplitl [HW10]
    · unfold tile256
      rw [← ea]
      iexact HW10
    isplitl [HR11]; · iexact HR11
    iexists _
    isplitr [HW12]
    rotate_left
    · iexact HW12
    · ipureintro
      intro a ha k l
      refine (read2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h2' _ _ X3 X11 X12 hw' hX3 256 (le_refl _) a k l).trans (if_pos ⟨ha, by omega⟩)
  iexists _; iexact HW13

/-- A later point, a tile of 128 rows. -/
theorem laterHalf (h1 : ¬ k0_cond1 i = 1#1) (h2 : ¬ k0_cond2 i (nTiles (F := F) arg1 X1) (entry (F := F) i arg1 X1) = 1#1)
    (h3 : k0_cond3 i (nTiles (F := F) arg1 X1) (entry (F := F) i arg1 X1) = 1#1) (hX3 : ∀ j, (arg3.view.read (Elt F) X3 j).toNat < 8192) :
    (iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ((arg10.view.loc (c : Thread nD τ) ↦[arg10.view.set]{fullShare} (arg10.view.writes (Elt F) X10 (tile128 (F := F) i (arg12.view.read (Elt F) X12) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} X11) ∗ (∃ Y12, ⌜Slot (F := F) (1 - (i 0).val % 2) (arg3.view.read (Elt F) X3) (arg11.view.read (Elt F) X11) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t3_loop.trips), k0_chk3 i (nTiles (F := F) arg1 X1) (entry (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := fun kq hkq =>
    chk3_of i _ _ _ (by
      have hk : kq < 256 := lt_of_lt_of_eq hkq (by decide)
      rw [tab_read arg3.view X3 kq hk _ _ _ (k0_off24_eq ⟨kq, hkq⟩)]; exact hX3 _)
  rw [cc0_expert_ffn_eq_skeleton]
  sl_unfold [cc0_expert_ffn_skel]
  iintro ⟨HR1, HR3, HR4, HR6, HR7, HR8, HR9, HW10, HR11, HW12, HW13⟩
  set_option sl_exec.stopBefore "k0_cond2" in sl_exec
  have h2' : ¬ k0_cond2 i (laterHalf.sl.r (F := F) arg1 X1) (laterHalf.sl.r_1 (F := F) i arg1 X1) = 1#1 := h2
  have h3' : k0_cond3 i (laterHalf.sl.r (F := F) arg1 X1) (laterHalf.sl.r_1 (F := F) i arg1 X1) = 1#1 := h3
  have hw' : ∀ (kq : ℕ) (hkq : kq < k0_t3_loop.trips), k0_chk3 i (laterHalf.sl.r (F := F) arg1 X1) (laterHalf.sl.r_1 (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := hw
  sl_exec_parts
  sl_step
  have ea : laterHalf.sl.v1288 (F := F) i arg6 arg7 arg12 arg13 X6 X7 X12 = act128 (xs128 i (arg12.view.read (Elt F) X12)) (arg6.view.read (Elt F) X6) (arg7.view.read (Elt F) X7) :=
    View.readCov_eq_canon' arg13.view (laterHalf.sl.HW13_2 (F := F) i arg6 arg7 arg12 X6 X7 X12) _
  isplitl [HR1]; · iexact HR1
  isplitl [HR3]; · iexact HR3
  isplitl [HR4]; · iexact HR4
  isplitl [HR6]; · iexact HR6
  isplitl [HR7]; · iexact HR7
  isplitl [HR8]; · iexact HR8
  isplitl [HR9]; · iexact HR9
  isplitr [HW13]
  · isplitl [HW10]
    · unfold tile128
      rw [← ea]
      iexact HW10
    isplitl [HR11]; · iexact HR11
    iexists _
    isplitr [HW12]
    rotate_left
    · iexact HW12
    · ipureintro
      intro a ha k l
      refine (read3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h3' _ _ X3 X11 X12 hw' hX3 256 (le_refl _) a k l).trans (if_pos ⟨ha, by omega⟩)
  iexists _; iexact HW13

/-- A later point, no tile. -/
theorem laterSkip (h1 : ¬ k0_cond1 i = 1#1) (h2 : ¬ k0_cond2 i (nTiles (F := F) arg1 X1) (entry (F := F) i arg1 X1) = 1#1)
    (h3 : ¬ k0_cond3 i (nTiles (F := F) arg1 X1) (entry (F := F) i arg1 X1) = 1#1) :
    (iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ((arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)) ∗ ∃ Y13, (arg13.view.loc (c : Thread nD τ) ↦[arg13.view.set]{fullShare} Y13))) := by
  rw [cc0_expert_ffn_eq_skeleton]
  sl_unfold [cc0_expert_ffn_skel]
  iintro ⟨HR1, HR3, HR4, HR6, HR7, HR8, HR9, HW10, HR11, HW12, HW13⟩
  set_option sl_exec.stopBefore "k0_cond2" in sl_exec
  have h2' : ¬ k0_cond2 i (laterSkip.sl.r (F := F) arg1 X1) (laterSkip.sl.r_1 (F := F) i arg1 X1) = 1#1 := h2
  have h3' : ¬ k0_cond3 i (laterSkip.sl.r (F := F) arg1 X1) (laterSkip.sl.r_1 (F := F) i arg1 X1) = 1#1 := h3
  sl_exec
  sl_step
  isplitl [HR1]; · iexact HR1
  isplitl [HR3]; · iexact HR3
  isplitl [HR4]; · iexact HR4
  isplitl [HR6]; · iexact HR6
  isplitl [HR7]; · iexact HR7
  isplitl [HR8]; · iexact HR8
  isplitl [HR9]; · iexact HR9
  isplitr [HW13]
  · isplitl [HW10]; · iexact HW10
    isplitl [HR11]; · iexact HR11
    iexact HW12
  iexists _; iexact HW13

/-- The first point, a tile of 256 rows. -/
theorem firstFull (h1 : k0_cond1 i = 1#1) (h2 : k0_cond2 i (nTiles (F := F) arg1 X1) (entry (F := F) i arg1 X1) = 1#1)
    (h3 : ¬ k0_cond3 i (nTiles (F := F) arg1 X1) (entry (F := F) i arg1 X1) = 1#1) (hX2 : ∀ j, (arg2.view.read (Elt F) X2 j).toNat < 8192) (W : Waits sig Unit) (hX3 : ∀ j, (arg3.view.read (Elt F) X3 j).toNat < 8192) :
    (iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ semVal ((c : Thread nD τ), SemLoc.dma arg14.sem) 0 ∗ (∃ W', owes (c : Thread nD τ) 0 W') ∗ (∃ Y11 Ym, ⌜arg11.view.read (Elt F) Y11 = arg5.view.read (Elt F) X5 ∧ Slot (F := F) 0 (arg2.view.read (Elt F) X2) (arg5.view.read (Elt F) X5) (arg12.view.read (Elt F) Ym)⌝ ∗ (arg10.view.loc (c : Thread nD τ) ↦[arg10.view.set]{fullShare} (arg10.view.writes (Elt F) X10 (tile256 (F := F) i (arg12.view.read (Elt F) Ym) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} Y11) ∗ (∃ Y12, ⌜Slot (F := F) (1 - (i 0).val % 2) (arg3.view.read (Elt F) X3) (arg5.view.read (Elt F) X5) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t2_loop.trips), k0_chk2 i (nTiles (F := F) arg1 X1) (entry (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := fun kq hkq =>
    chk2_of i _ _ _ (by
      have hk : kq < 256 := lt_of_lt_of_eq hkq (by decide)
      rw [tab_read arg3.view X3 kq hk _ _ _ (k0_off13_eq ⟨kq, hkq⟩)]; exact hX3 _)
  have hw1 : ∀ (kq : ℕ) (hkq : kq < k0_t1_loop.trips), k0_chk1 i (tok1 (F := F) i arg2 h1 X2 ⟨kq, hkq⟩) := fun kq hkq =>
    chk1_of i _ (by
      have hk : kq < 256 := lt_of_lt_of_eq hkq (by decide)
      show (arg2.view.readAt (Elt F) _ X2 _).toNat < 8192
      rw [tab_read arg2.view X2 kq hk _ _ _ (k0_off2_eq ⟨kq, hkq⟩)]; exact hX2 _)
  rw [cc0_expert_ffn_eq_skeleton]
  sl_unfold [cc0_expert_ffn_skel]
  iintro ⟨HR1, HR2, HR3, HR4, HR5, HR6, HR7, HR8, HR9, HW10, HW11, HW12, HW13, HS, HO⟩
  set_option sl_exec.stopBefore "k0_cond2" in sl_exec
  have h2' : k0_cond2 i (firstFull.sl.r (F := F) arg1 X1) (firstFull.sl.r_1 (F := F) i arg1 X1) = 1#1 := h2
  have h3' : ¬ k0_cond3 i (firstFull.sl.r (F := F) arg1 X1) (firstFull.sl.r_1 (F := F) i arg1 X1) = 1#1 := h3
  have hw' : ∀ (kq : ℕ) (hkq : kq < k0_t2_loop.trips), k0_chk2 i (firstFull.sl.r (F := F) arg1 X1) (firstFull.sl.r_1 (F := F) i arg1 X1) (arg3.view.readAt (Elt F) (Rect.unit (s := S1x2x128) (k0_off13 ⟨kq, hkq⟩) S1x1x1.size (k0_off13_inb ⟨kq, hkq⟩)).toLoadRect X3 (Shape.Idx.first (numel1_S1x1x1.symm ▸ Nat.one_pos))) := hw
  sl_exec_parts
  sl_step
  have e11 : arg11.view.read (Elt F) (arg11.view.writes (Elt F) arg11.view.junk [⟨Rect.whole S65536x128, firstFull.sl.dma1 (F := F) arg5 X5⟩]) = arg5.view.read (Elt F) X5 := View.read_writes_whole _ _ _
  have em : Slot (F := F) 0 (arg2.view.read (Elt F) X2) (arg5.view.read (Elt F) X5) (arg12.view.read (Elt F) (arg12.view.writes (Elt F) X12 (pcs1 (F := F) i arg2 arg11 h1 X2 (arg11.view.writes (Elt F) arg11.view.junk [⟨Rect.whole S65536x128, firstFull.sl.dma1 (F := F) arg5 X5⟩]) hw1 256))) := by
    intro a ha k l
    rw [← e11]
    exact (read1 (F := F) i arg2 arg11 arg12 h1 X2 (arg11.view.writes (Elt F) arg11.view.junk [⟨Rect.whole S65536x128, firstFull.sl.dma1 (F := F) arg5 X5⟩]) X12 hw1 hX2 256 (le_refl _) a k l).trans (if_pos ⟨ha, by omega⟩)
  have ea : firstFull.sl.v1290 (F := F) i arg2 arg5 arg6 arg7 arg11 arg12 arg13 X2 X5 X6 X7 X12 h1 hw1 = act256 (xs256 i (arg12.view.read (Elt F) (arg12.view.writes (Elt F) X12 (pcs1 (F := F) i arg2 arg11 h1 X2 (arg11.view.writes (Elt F) arg11.view.junk [⟨Rect.whole S65536x128, firstFull.sl.dma1 (F := F) arg5 X5⟩]) hw1 256)))) (arg6.view.read (Elt F) X6) (arg7.view.read (Elt F) X7) :=
    View.readCov_eq_canon' arg13.view (firstFull.sl.HW13_2 (F := F) i arg2 arg5 arg6 arg7 arg11 arg12 X2 X5 X6 X7 X12 h1 hw1) _
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS]; · iexact HS
  isplitl [HO]; · iexists _; iexact HO
  isplitr [HW13]
  · iexists (arg11.view.writes (Elt F) arg11.view.junk [⟨Rect.whole S65536x128, firstFull.sl.dma1 (F := F) arg5 X5⟩]), (arg12.view.writes (Elt F) X12 (pcs1 (F := F) i arg2 arg11 h1 X2 (arg11.view.writes (Elt F) arg11.view.junk [⟨Rect.whole S65536x128, firstFull.sl.dma1 (F := F) arg5 X5⟩]) hw1 256))
    isplitr; · ipureintro; exact ⟨e11, em⟩
    isplitl [HW10]
    · unfold tile256
      rw [← ea]
      iexact HW10
    isplitl [HW11]; · iexact HW11
    iexists _
    isplitr [HW12]
    rotate_left
    · iexact HW12
    · ipureintro
      intro a ha k l
      rw [writes_append, ← e11]
      refine (read2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h2' _ _ X3 (arg11.view.writes (Elt F) arg11.view.junk [⟨Rect.whole S65536x128, firstFull.sl.dma1 (F := F) arg5 X5⟩]) (arg12.view.writes (Elt F) X12 (pcs1 (F := F) i arg2 arg11 h1 X2 (arg11.view.writes (Elt F) arg11.view.junk [⟨Rect.whole S65536x128, firstFull.sl.dma1 (F := F) arg5 X5⟩]) hw1 256)) hw' hX3 256 (le_refl _) a k l).trans (if_pos ⟨ha, by omega⟩)
  iexists _; iexact HW13

/-- The first point, a tile of 128 rows. -/
theorem firstHalf (h1 : k0_cond1 i = 1#1) (h2 : ¬ k0_cond2 i (nTiles (F := F) arg1 X1) (entry (F := F) i arg1 X1) = 1#1)
    (h3 : k0_cond3 i (nTiles (F := F) arg1 X1) (entry (F := F) i arg1 X1) = 1#1) (hX2 : ∀ j, (arg2.view.read (Elt F) X2 j).toNat < 8192) (W : Waits sig Unit) (hX3 : ∀ j, (arg3.view.read (Elt F) X3 j).toNat < 8192) :
    (iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ semVal ((c : Thread nD τ), SemLoc.dma arg14.sem) 0 ∗ (∃ W', owes (c : Thread nD τ) 0 W') ∗ (∃ Y11 Ym, ⌜arg11.view.read (Elt F) Y11 = arg5.view.read (Elt F) X5 ∧ Slot (F := F) 0 (arg2.view.read (Elt F) X2) (arg5.view.read (Elt F) X5) (arg12.view.read (Elt F) Ym)⌝ ∗ (arg10.view.loc (c : Thread nD τ) ↦[arg10.view.set]{fullShare} (arg10.view.writes (Elt F) X10 (tile128 (F := F) i (arg12.view.read (Elt F) Ym) (arg4.view.read (Elt F) X4) (arg6.view.read (Elt F) X6) (arg7.view.read (Elt F) X7) (arg8.view.read (Elt F) X8) (arg9.view.read (Elt F) X9)))) ∗ (arg11.view.loc (c : Thread nD τ) ↦[arg11.view.set]{fullShare} Y11) ∗ (∃ Y12, ⌜Slot (F := F) (1 - (i 0).val % 2) (arg3.view.read (Elt F) X3) (arg5.view.read (Elt F) X5) (arg12.view.read (Elt F) Y12)⌝ ∗ (arg12.view.loc (c : Thread nD τ) ↦[arg12.view.set]{fullShare} Y12))) ∗ ∃ Y13, (arg13.view.loc (c : Thread nD τ) ↦[arg13.view.set]{fullShare} Y13))) := by
  have hw : ∀ (kq : ℕ) (hkq : kq < k0_t3_loop.trips), k0_chk3 i (nTiles (F := F) arg1 X1) (entry (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := fun kq hkq =>
    chk3_of i _ _ _ (by
      have hk : kq < 256 := lt_of_lt_of_eq hkq (by decide)
      rw [tab_read arg3.view X3 kq hk _ _ _ (k0_off24_eq ⟨kq, hkq⟩)]; exact hX3 _)
  have hw1 : ∀ (kq : ℕ) (hkq : kq < k0_t1_loop.trips), k0_chk1 i (tok1 (F := F) i arg2 h1 X2 ⟨kq, hkq⟩) := fun kq hkq =>
    chk1_of i _ (by
      have hk : kq < 256 := lt_of_lt_of_eq hkq (by decide)
      show (arg2.view.readAt (Elt F) _ X2 _).toNat < 8192
      rw [tab_read arg2.view X2 kq hk _ _ _ (k0_off2_eq ⟨kq, hkq⟩)]; exact hX2 _)
  rw [cc0_expert_ffn_eq_skeleton]
  sl_unfold [cc0_expert_ffn_skel]
  iintro ⟨HR1, HR2, HR3, HR4, HR5, HR6, HR7, HR8, HR9, HW10, HW11, HW12, HW13, HS, HO⟩
  set_option sl_exec.stopBefore "k0_cond2" in sl_exec
  have h2' : ¬ k0_cond2 i (firstHalf.sl.r (F := F) arg1 X1) (firstHalf.sl.r_1 (F := F) i arg1 X1) = 1#1 := h2
  have h3' : k0_cond3 i (firstHalf.sl.r (F := F) arg1 X1) (firstHalf.sl.r_1 (F := F) i arg1 X1) = 1#1 := h3
  have hw' : ∀ (kq : ℕ) (hkq : kq < k0_t3_loop.trips), k0_chk3 i (firstHalf.sl.r (F := F) arg1 X1) (firstHalf.sl.r_1 (F := F) i arg1 X1) (arg3.view.readAt (Elt F) (Rect.unit (s := S1x2x128) (k0_off24 ⟨kq, hkq⟩) S1x1x1.size (k0_off24_inb ⟨kq, hkq⟩)).toLoadRect X3 (Shape.Idx.first (numel1_S1x1x1.symm ▸ Nat.one_pos))) := hw
  sl_exec_parts
  sl_step
  have e11 : arg11.view.read (Elt F) (arg11.view.writes (Elt F) arg11.view.junk [⟨Rect.whole S65536x128, firstHalf.sl.dma1 (F := F) arg5 X5⟩]) = arg5.view.read (Elt F) X5 := View.read_writes_whole _ _ _
  have em : Slot (F := F) 0 (arg2.view.read (Elt F) X2) (arg5.view.read (Elt F) X5) (arg12.view.read (Elt F) (arg12.view.writes (Elt F) X12 (pcs1 (F := F) i arg2 arg11 h1 X2 (arg11.view.writes (Elt F) arg11.view.junk [⟨Rect.whole S65536x128, firstHalf.sl.dma1 (F := F) arg5 X5⟩]) hw1 256))) := by
    intro a ha k l
    rw [← e11]
    exact (read1 (F := F) i arg2 arg11 arg12 h1 X2 (arg11.view.writes (Elt F) arg11.view.junk [⟨Rect.whole S65536x128, firstHalf.sl.dma1 (F := F) arg5 X5⟩]) X12 hw1 hX2 256 (le_refl _) a k l).trans (if_pos ⟨ha, by omega⟩)
  have ea : firstHalf.sl.v1288 (F := F) i arg2 arg5 arg6 arg7 arg11 arg12 arg13 X2 X5 X6 X7 X12 h1 hw1 = act128 (xs128 i (arg12.view.read (Elt F) (arg12.view.writes (Elt F) X12 (pcs1 (F := F) i arg2 arg11 h1 X2 (arg11.view.writes (Elt F) arg11.view.junk [⟨Rect.whole S65536x128, firstHalf.sl.dma1 (F := F) arg5 X5⟩]) hw1 256)))) (arg6.view.read (Elt F) X6) (arg7.view.read (Elt F) X7) :=
    View.readCov_eq_canon' arg13.view (firstHalf.sl.HW13_2 (F := F) i arg2 arg5 arg6 arg7 arg11 arg12 X2 X5 X6 X7 X12 h1 hw1) _
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS]; · iexact HS
  isplitl [HO]; · iexists _; iexact HO
  isplitr [HW13]
  · iexists (arg11.view.writes (Elt F) arg11.view.junk [⟨Rect.whole S65536x128, firstHalf.sl.dma1 (F := F) arg5 X5⟩]), (arg12.view.writes (Elt F) X12 (pcs1 (F := F) i arg2 arg11 h1 X2 (arg11.view.writes (Elt F) arg11.view.junk [⟨Rect.whole S65536x128, firstHalf.sl.dma1 (F := F) arg5 X5⟩]) hw1 256))
    isplitr; · ipureintro; exact ⟨e11, em⟩
    isplitl [HW10]
    · unfold tile128
      rw [← ea]
      iexact HW10
    isplitl [HW11]; · iexact HW11
    iexists _
    isplitr [HW12]
    rotate_left
    · iexact HW12
    · ipureintro
      intro a ha k l
      rw [writes_append, ← e11]
      refine (read3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 _ _ _ h3' _ _ X3 (arg11.view.writes (Elt F) arg11.view.junk [⟨Rect.whole S65536x128, firstHalf.sl.dma1 (F := F) arg5 X5⟩]) (arg12.view.writes (Elt F) X12 (pcs1 (F := F) i arg2 arg11 h1 X2 (arg11.view.writes (Elt F) arg11.view.junk [⟨Rect.whole S65536x128, firstHalf.sl.dma1 (F := F) arg5 X5⟩]) hw1 256)) hw' hX3 256 (le_refl _) a k l).trans (if_pos ⟨ha, by omega⟩)
  iexists _; iexact HW13

/-- The first point, no tile. -/
theorem firstSkip (h1 : k0_cond1 i = 1#1) (h2 : ¬ k0_cond2 i (nTiles (F := F) arg1 X1) (entry (F := F) i arg1 X1) = 1#1)
    (h3 : ¬ k0_cond3 i (nTiles (F := F) arg1 X1) (entry (F := F) i arg1 X1) = 1#1) (hX2 : ∀ j, (arg2.view.read (Elt F) X2 j).toNat < 8192) (W : Waits sig Unit) :
    (iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ semVal ((c : Thread nD τ), SemLoc.dma arg14.sem) 0 ∗ (∃ W', owes (c : Thread nD τ) 0 W') ∗ (∃ Y11 Ym, ⌜arg11.view.read (Elt F) Y11 = arg5.view.read (Elt F) X5 ∧ Slot (F := F) 0 (arg2.view.read (Elt F) X2) (arg5.view.read (Elt F) X5) (arg12.view.read (Elt F) Ym)⌝ ∗ (arg10.view.loc (c : Thread nD τ) ↦[arg10.view.set]{fullShare} X10) ∗ (arg11.view.loc (c : Thread nD τ) ↦[arg11.view.set]{fullShare} Y11) ∗ (arg12.view.loc (c : Thread nD τ) ↦[arg12.view.set]{fullShare} Ym)) ∗ ∃ Y13, (arg13.view.loc (c : Thread nD τ) ↦[arg13.view.set]{fullShare} Y13))) := by
  have hw1 : ∀ (kq : ℕ) (hkq : kq < k0_t1_loop.trips), k0_chk1 i (tok1 (F := F) i arg2 h1 X2 ⟨kq, hkq⟩) := fun kq hkq =>
    chk1_of i _ (by
      have hk : kq < 256 := lt_of_lt_of_eq hkq (by decide)
      show (arg2.view.readAt (Elt F) _ X2 _).toNat < 8192
      rw [tab_read arg2.view X2 kq hk _ _ _ (k0_off2_eq ⟨kq, hkq⟩)]; exact hX2 _)
  rw [cc0_expert_ffn_eq_skeleton]
  sl_unfold [cc0_expert_ffn_skel]
  iintro ⟨HR1, HR2, HR3, HR4, HR5, HR6, HR7, HR8, HR9, HW10, HW11, HW12, HW13, HS, HO⟩
  set_option sl_exec.stopBefore "k0_cond2" in sl_exec
  have h2' : ¬ k0_cond2 i (firstSkip.sl.r (F := F) arg1 X1) (firstSkip.sl.r_1 (F := F) i arg1 X1) = 1#1 := h2
  have h3' : ¬ k0_cond3 i (firstSkip.sl.r (F := F) arg1 X1) (firstSkip.sl.r_1 (F := F) i arg1 X1) = 1#1 := h3
  sl_exec
  sl_step
  have e11 : arg11.view.read (Elt F) (arg11.view.writes (Elt F) arg11.view.junk [⟨Rect.whole S65536x128, firstSkip.sl.dma1 (F := F) arg5 X5⟩]) = arg5.view.read (Elt F) X5 := View.read_writes_whole _ _ _
  have em : Slot (F := F) 0 (arg2.view.read (Elt F) X2) (arg5.view.read (Elt F) X5) (arg12.view.read (Elt F) (arg12.view.writes (Elt F) X12 (pcs1 (F := F) i arg2 arg11 h1 X2 (arg11.view.writes (Elt F) arg11.view.junk [⟨Rect.whole S65536x128, firstSkip.sl.dma1 (F := F) arg5 X5⟩]) hw1 256))) := by
    intro a ha k l
    rw [← e11]
    exact (read1 (F := F) i arg2 arg11 arg12 h1 X2 (arg11.view.writes (Elt F) arg11.view.junk [⟨Rect.whole S65536x128, firstSkip.sl.dma1 (F := F) arg5 X5⟩]) X12 hw1 hX2 256 (le_refl _) a k l).trans (if_pos ⟨ha, by omega⟩)
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS]; · iexact HS
  isplitl [HO]; · iexists _; iexact HO
  isplitr [HW13]
  · iexists (arg11.view.writes (Elt F) arg11.view.junk [⟨Rect.whole S65536x128, firstSkip.sl.dma1 (F := F) arg5 X5⟩]), (arg12.view.writes (Elt F) X12 (pcs1 (F := F) i arg2 arg11 h1 X2 (arg11.view.writes (Elt F) arg11.view.junk [⟨Rect.whole S65536x128, firstSkip.sl.dma1 (F := F) arg5 X5⟩]) hw1 256))
    isplitr; · ipureintro; exact ⟨e11, em⟩
    isplitl [HW10]
    · iexact HW10
    isplitl [HW11]; · iexact HW11
    iexact HW12
  iexists _; iexact HW13

end

end Cert.KernelIdeal.Hand
-- ==== Proof.Ideal.Step.lean ====
/-
  One point of the feed-forward kernel's grid, all its cases together: what it is handed and what it leaves, in the contents
  its blocks hold.
-/
module

public import proofs.«01_k».proof.Proof.Ideal.Run

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- What the body stores of its tile: of 256 rows or, where the entry says so, of 128. -/
def tileAt (i : grid0.Coords) (nT en : BitVec 32) (b : Vec F S2x2048x128 .i32) (x4 : Vec F S1x2x128 .f32) (x6 : GateW F) (x7 : GateS F)
    (x8 : DownW F) (x9 : DownS F) : List (View.Piece (Elt F) S6144x128 .f32) :=
  if k0_cond2 i nT en = 1#1 then tile256 i b x4 x6 x7 x8 x9 else tile128 i b x4 x6 x7 x8 x9

/-- The body at a point. Where the point has a tile (one of the two conditions), the rows of its own tile have been gathered (by
    the point before, or at the first point by itself), it leaves the tile's stores in the result's block and the next table's rows in
    the other slot; elsewhere it leaves the block alone. -/
theorem step (𝒱 : Variants) (c : Dev nD) (bd : Option 𝒱.V) (i : grid0.Coords) (arg1 : Memref sig .tc .smem S1x256 .i32) (harg1 : arg1.IsWhole) (arg2 : Memref sig .tc .smem S1x2x128 .i32) (harg2 : arg2.IsWhole) (arg3 : Memref sig .tc .smem S1x2x128 .i32) (harg3 : arg3.IsWhole) (arg4 : Memref sig .tc .vmem S1x2x128 .f32) (harg4 : arg4.IsWhole) (arg5 : Memref sig .tc .hbm S65536x128 .i32) (harg5 : arg5.IsWhole) (arg6 : Memref sig .tc .vmem S1x1024x2048 .i8) (harg6 : arg6.IsWhole) (arg7 : Memref sig .tc .vmem S1x16x2048 .bf16) (harg7 : arg7.IsWhole) (arg8 : Memref sig .tc .vmem S1x512x2048 .i8) (harg8 : arg8.IsWhole) (arg9 : Memref sig .tc .vmem S1x8x2048 .bf16) (harg9 : arg9.IsWhole) (arg10 : Memref sig .tc .vmem S6144x128 .f32) (harg10 : arg10.IsWhole) (arg11 : Memref sig .tc .vmem S65536x128 .i32) (harg11 : arg11.IsWhole) (arg12 : Memref sig .tc .vmem S2x2048x128 .i32) (harg12 : arg12.IsWhole) (arg13 : Memref sig .tc .vmem S256x1024 .bf16) (harg13 : arg13.IsWhole) (arg14 : DmaSems sig S_)
    (X1 : BufTy.Contents (Elt F) arg1.view.ty) (X5 : BufTy.Contents (Elt F) arg5.view.ty) (X11 : BufTy.Contents (Elt F) arg11.view.ty) (X12 : BufTy.Contents (Elt F) arg12.view.ty) (X13 : BufTy.Contents (Elt F) arg13.view.ty) (Y2 : Vec F S1x2x128 .i32) (Y3 : Vec F S1x2x128 .i32) (Y4 : Vec F S1x2x128 .f32) (Y6 : GateW F) (Y7 : GateS F) (Y8 : DownW F) (Y9 : DownS F) (Y10 : Vec F S6144x128 .f32)
    (tab : Vec F S1x2x128 .i32) (xw : Vec F S65536x128 .i32) (nT en : BitVec 32) (W : Waits sig Unit)
    (hnT : nTiles (F := F) arg1 X1 = nT) (hen : entry (F := F) i arg1 X1 = en)
    (hY2 : ∀ j, (Y2 j).toNat < 8192) (hY3 : ∀ j, (Y3 j).toNat < 8192) (h5 : arg5.view.read (Elt F) X5 = xw)
    (hx : ¬ (k0_cond2 i nT en = 1#1 ∧ k0_cond3 i nT en = 1#1))
    (hs : ¬ k0_cond1 i = 1#1 → arg11.view.read (Elt F) X11 = xw ∧ ((k0_cond2 i nT en = 1#1 ∨ k0_cond3 i nT en = 1#1) → Slot (F := F) ((i 0).val % 2) tab xw (arg12.view.read (Elt F) X12)))
    (hf : k0_cond1 i = 1#1 → Y2 = tab ∧ (i 0).val % 2 = 0) :
    (iprop((arg1.view.loc (c : Thread nD τ) ↦[arg1.view.set]{fullShare.right} X1) ∗ owns (c : Thread nD τ) arg2 fullShare Y2 ∗ owns (c : Thread nD τ) arg3 fullShare Y3 ∗ owns (c : Thread nD τ) arg4 fullShare Y4 ∗ (arg5.view.loc (c : Thread nD τ) ↦[arg5.view.set]{fullShare} X5) ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ semVal ((c : Thread nD τ), SemLoc.dma arg14.sem) 0 ∗ owes (c : Thread nD τ) 0 W) : sProp 𝕄D)
      ⊢ wp frame (wpE (defs₀ (F := F)) 𝒱 (c : Thread nD τ) bd) Set.univ (cc0_expert_ffn (F := F) i arg1 harg1 arg2 harg2 arg3 harg3 arg4 harg4 arg5 harg5 arg6 harg6 arg7 harg7 arg8 harg8 arg9 harg9 arg10 harg10 arg11 harg11 arg12 harg12 arg13 harg13 arg14)
        (fun _ => iprop((arg1.view.loc (c : Thread nD τ) ↦[arg1.view.set]{fullShare.right} X1) ∗ owns (c : Thread nD τ) arg2 fullShare Y2 ∗ owns (c : Thread nD τ) arg3 fullShare Y3 ∗ owns (c : Thread nD τ) arg4 fullShare Y4 ∗ (arg5.view.loc (c : Thread nD τ) ↦[arg5.view.set]{fullShare} X5) ∗ owns (c : Thread nD τ) arg6 fullShare Y6 ∗ owns (c : Thread nD τ) arg7 fullShare Y7 ∗ owns (c : Thread nD τ) arg8 fullShare Y8 ∗ owns (c : Thread nD τ) arg9 fullShare Y9 ∗ (∃ Z, ⌜((k0_cond2 i nT en = 1#1 ∨ k0_cond3 i nT en = 1#1) → ∃ f b, Slot (F := F) ((i 0).val % 2) tab xw b ∧ Z = arg10.view.read (Elt F) (arg10.view.writes (Elt F) f (tileAt i nT en b Y4 Y6 Y7 Y8 Y9))) ∧ (¬ (k0_cond2 i nT en = 1#1 ∨ k0_cond3 i nT en = 1#1) → Z = Y10)⌝ ∗ owns (c : Thread nD τ) arg10 fullShare Z) ∗ (∃ Z11 Z12 Z13, ⌜arg11.view.read (Elt F) Z11 = xw ∧ ((k0_cond2 i nT en = 1#1 ∨ k0_cond3 i nT en = 1#1) → Slot (F := F) (1 - (i 0).val % 2) Y3 xw (arg12.view.read (Elt F) Z12))⌝ ∗ (arg11.view.loc (c : Thread nD τ) ↦[arg11.view.set]{fullShare} Z11) ∗ (arg12.view.loc (c : Thread nD τ) ↦[arg12.view.set]{fullShare} Z12) ∗ (arg13.view.loc (c : Thread nD τ) ↦[arg13.view.set]{fullShare} Z13)) ∗ semVal ((c : Thread nD τ), SemLoc.dma arg14.sem) 0 ∗ (∃ W', owes (c : Thread nD τ) 0 W'))) := by
  subst hnT hen
  unfold owns
  iintro ⟨H1, ⟨%f2, %e2, H2⟩, ⟨%f3, %e3, H3⟩, ⟨%f4, %e4, H4⟩, H5, ⟨%f6, %e6, H6⟩, ⟨%f7, %e7, H7⟩, ⟨%f8, %e8, H8⟩, ⟨%f9, %e9, H9⟩, ⟨%f10, %e10, H10⟩, H11, H12, H13, HS, HO⟩
  subst e2; subst e3; subst e4; subst e6; subst e7; subst e8; subst e9; subst e10
  by_cases h1 : k0_cond1 i = 1#1 <;> by_cases h2 : k0_cond2 i (nTiles (F := F) arg1 X1) (entry (F := F) i arg1 X1) = 1#1 <;>
    by_cases h3 : k0_cond3 i (nTiles (F := F) arg1 X1) (entry (F := F) i arg1 X1) = 1#1
  · exact absurd ⟨h2, h3⟩ hx
  · skip
    iapply (wp_wand_r frame (wpE (defs₀ (F := F)) 𝒱 (c : Thread nD τ) bd) Set.univ)
    isplitl [H1 H2 H3 H4 H5 H6 H7 H8 H9 H10 H11 H12 H13 HS HO]
    · iapply (firstFull (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X2 := f2) (X3 := f3) (X4 := f4) (X5 := X5) (X6 := f6) (X7 := f7) (X8 := f8) (X9 := f9) (X10 := f10) (X11 := X11) (X12 := X12) (X13 := X13) (h1 := h1) (h2 := h2) (h3 := h3) (hX2 := hY2) (W := W) (hX3 := hY3))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iexact HO
    iintro %_
    iintro ⟨H1, H2, H3, H4, H5, H6, H7, H8, H9, HS, ⟨%W', HO⟩, ⟨%Z11, %Zm, %hm, H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile256 (F := F) i (arg12.view.read (Elt F) Zm) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) Zm, by have := hm.2; rw [h5] at this; rw [(hf h1).2, ← (hf h1).1]; exact this, ?_⟩, fun h => absurd (.inl h2) h⟩
        rw [tileAt, if_pos h2]
      iexists _; isplitr; swap; · iexact H10
      ipureintro; rfl
    isplitl [H11 H12 H13]
    · iexists Z11, Z12, Z13
      isplitr
      · ipureintro; exact ⟨hm.1.trans h5, fun _ => by have := hz; rw [h5] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H2 H3 H4 H5 H6 H7 H8 H9 H10 H11 H12 H13 HS HO]
    · iapply (firstHalf (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X2 := f2) (X3 := f3) (X4 := f4) (X5 := X5) (X6 := f6) (X7 := f7) (X8 := f8) (X9 := f9) (X10 := f10) (X11 := X11) (X12 := X12) (X13 := X13) (h1 := h1) (h2 := h2) (h3 := h3) (hX2 := hY2) (W := W) (hX3 := hY3))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iexact HO
    iintro %_
    iintro ⟨H1, H2, H3, H4, H5, H6, H7, H8, H9, HS, ⟨%W', HO⟩, ⟨%Z11, %Zm, %hm, H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile128 (F := F) i (arg12.view.read (Elt F) Zm) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) Zm, by have := hm.2; rw [h5] at this; rw [(hf h1).2, ← (hf h1).1]; exact this, ?_⟩, fun h => absurd (.inr h3) h⟩
        rw [tileAt, if_neg h2]
      iexists _; isplitr; swap; · iexact H10
      ipureintro; rfl
    isplitl [H11 H12 H13]
    · iexists Z11, Z12, Z13
      isplitr
      · ipureintro; exact ⟨hm.1.trans h5, fun _ => by have := hz; rw [h5] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H2 H3 H4 H5 H6 H7 H8 H9 H10 H11 H12 H13 HS HO]
    · iapply (firstSkip (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X2 := f2) (X3 := f3) (X4 := f4) (X5 := X5) (X6 := f6) (X7 := f7) (X8 := f8) (X9 := f9) (X10 := f10) (X11 := X11) (X12 := X12) (X13 := X13) (h1 := h1) (h2 := h2) (h3 := h3) (hX2 := hY2) (W := W))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iexact HO
    iintro %_
    iintro ⟨H1, H2, H3, H4, H5, H6, H7, H8, H9, HS, ⟨%W', HO⟩, ⟨%Z11, %Zm, %hm, H10, H11, H12⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) f10); isplitr
      · ipureintro; exact ⟨fun h => absurd h (by rintro (h | h); exacts [h2 h, h3 h]), fun _ => rfl⟩
      iexists _; isplitr; swap; · iexact H10
      ipureintro; rfl
    isplitl [H11 H12 H13]
    · iexists Z11, Zm, Z13
      isplitr
      · ipureintro; exact ⟨hm.1.trans h5, fun h => absurd h (by rintro (h | h); exacts [h2 h, h3 h])⟩
      isplitl [H11]; · iexact H11
      isplitl [H12]; · iexact H12
      iexact H13
    isplitl [HS]; · iexact HS
    iexists _; iexact HO
  · exact absurd ⟨h2, h3⟩ hx
  · skip
    iapply (wp_wand_r frame (wpE (defs₀ (F := F)) 𝒱 (c : Thread nD τ) bd) Set.univ)
    isplitl [H1 H3 H4 H6 H7 H8 H9 H10 H11 H12 H13]
    · iapply (laterFull (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X3 := f3) (X4 := f4) (X6 := f6) (X7 := f7) (X8 := f8) (X9 := f9) (X10 := f10) (X11 := X11) (X12 := X12) (X13 := X13) (h1 := h1) (h2 := h2) (h3 := h3) (hX3 := hY3))
      isplitl [H1]; · iexact H1
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_
    iintro ⟨H1, H3, H4, H6, H7, H8, H9, ⟨H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile256 (F := F) i (arg12.view.read (Elt F) X12) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) X12, ((hs h1).2 (.inl h2)), ?_⟩, fun h => absurd (.inl h2) h⟩
        rw [tileAt, if_pos h2]
      iexists _; isplitr; swap; · iexact H10
      ipureintro; rfl
    isplitl [H11 H12 H13]
    · iexists X11, Z12, Z13
      isplitr
      · ipureintro; exact ⟨(hs h1).1, fun _ => by have := hz; rw [(hs h1).1] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H3 H4 H6 H7 H8 H9 H10 H11 H12 H13]
    · iapply (laterHalf (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X3 := f3) (X4 := f4) (X6 := f6) (X7 := f7) (X8 := f8) (X9 := f9) (X10 := f10) (X11 := X11) (X12 := X12) (X13 := X13) (h1 := h1) (h2 := h2) (h3 := h3) (hX3 := hY3))
      isplitl [H1]; · iexact H1
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_
    iintro ⟨H1, H3, H4, H6, H7, H8, H9, ⟨H10, H11, ⟨%Z12, %hz, H12⟩⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) (arg10.view.writes (Elt F) f10 (tile128 (F := F) i (arg12.view.read (Elt F) X12) (arg4.view.read (Elt F) f4) (arg6.view.read (Elt F) f6) (arg7.view.read (Elt F) f7) (arg8.view.read (Elt F) f8) (arg9.view.read (Elt F) f9)))); isplitr
      · ipureintro; refine ⟨fun _ => ⟨f10, arg12.view.read (Elt F) X12, ((hs h1).2 (.inr h3)), ?_⟩, fun h => absurd (.inr h3) h⟩
        rw [tileAt, if_neg h2]
      iexists _; isplitr; swap; · iexact H10
      ipureintro; rfl
    isplitl [H11 H12 H13]
    · iexists X11, Z12, Z13
      isplitr
      · ipureintro; exact ⟨(hs h1).1, fun _ => by have := hz; rw [(hs h1).1] at this; exact this⟩
      isplitl [H11]; · iexact H11
      isplitl [H12]; · iexact H12
      iexact H13
    isplitl [HS]; · iexact HS
    iexists _; iexact HO
  · skip
    iapply (wp_wand_r frame (wpE (defs₀ (F := F)) 𝒱 (c : Thread nD τ) bd) Set.univ)
    isplitl [H1 H3 H4 H6 H7 H8 H9 H10 H11 H12 H13]
    · iapply (laterSkip (𝒱 := 𝒱) (c := c) (bd := bd) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (X1 := X1) (X3 := f3) (X4 := f4) (X6 := f6) (X7 := f7) (X8 := f8) (X9 := f9) (X10 := f10) (X11 := X11) (X12 := X12) (X13 := X13) (h1 := h1) (h2 := h2) (h3 := h3))
      isplitl [H1]; · iexact H1
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_
    iintro ⟨H1, H3, H4, H6, H7, H8, H9, ⟨H10, H11, H12⟩, ⟨%Z13, H13⟩⟩
    isplitl [H1]; · iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists (arg10.view.read (Elt F) f10); isplitr
      · ipureintro; exact ⟨fun h => absurd h (by rintro (h | h); exacts [h2 h, h3 h]), fun _ => rfl⟩
      iexists _; isplitr; swap; · iexact H10
      ipureintro; rfl
    isplitl [H11 H12 H13]
    · iexists X11, X12, Z13
      isplitr
      · ipureintro; exact ⟨(hs h1).1, fun h => absurd h (by rintro (h | h); exacts [h2 h, h3 h])⟩
      isplitl [H11]; · iexact H11
      isplitl [H12]; · iexact H12
      iexact H13
    isplitl [HS]; · iexact HS
    iexists _; iexact HO

end Cert.KernelIdeal.Hand

end
-- ==== Proof.Ideal.Tables.lean ====
/-
  The launch's tables: the block every window is on at each point, in whole numbers, and that it lies inside its array.
-/
module

public import proofs.«01_k».proof.Proof.Ranges
public import proofs.«01_k».proof.Proof.Ideal.Run
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] (m : (ℓ : Loc nD τ sig) → Buf (Elt F) ℓ)

/-- The tile table, the row table and the rows at the launch. -/
abbrev tile : S1x256.Idx → BitVec 32 := m (((0 : Dev nD) : Thread nD τ).loc main_arg0)
abbrev rows : S160x2x128.Idx → BitVec 32 := m (((0 : Dev nD) : Thread nD τ).loc main_arg1)
abbrev acts : S65536x128.Idx → BitVec 32 := m (((0 : Dev nD) : Thread nD τ).loc main_arg3)

/-- The number of tiles. -/
def cnt : Nat := (tile m (ix2 (0 : Fin 1) (255 : Fin 256))).toNat
/-- Tile `k`'s entry. -/
def ent (k : Fin 160) : BitVec 32 := tile m (ix2 (0 : Fin 1) (⟨k.val, by omega⟩ : Fin 256))

/-- The prefetched tables as the region reads them. -/
def pf0 : pre0.Contents (Elt F) := fun k => m (((0 : Dev nD) : Thread nD τ).loc (pre0.ref k))

/-- A point of the grid is a number below 160. -/
theorem coord_lt (i : grid0.Coords) : (i 0).val < 160 := (i 0).isLt

theorem at255 : (pf0 m).at 0 (Rect.unit (s := S1x256) ![0, 255] S1x1.size inb_S1x256_S1x1_0_255) numel1_S1x1 = tile m (ix2 (0 : Fin 1) (255 : Fin 256)) := by
  show tile m _ = tile m _
  congr 1
  funext a; fin_cases a <;> rfl

theorem off1_eq (i : grid0.Coords) : k0_off1 i = ![0, (i 0).val] := by
  have := coord_lt i
  unfold k0_off1
  simp only [Scalar.indexCast, BitVec.toNat_ofNat]
  congr 2
  omega

theorem atEntry (i : grid0.Coords) : (pf0 m).at 0 (Rect.unit (s := S1x256) (k0_off1 i) S1x1.size (k0_off1_inb i)) numel1_S1x1 = ent m ⟨(i 0).val, coord_lt i⟩ := by
  show tile m _ = tile m _
  congr 1
  funext a
  apply Fin.ext
  have h := congrFun (off1_eq i) a
  fin_cases a
  · show k0_off1 i 0 + 1 * 0 = 0
    have h : k0_off1 i 0 = 0 := h
    omega
  · show k0_off1 i 1 + 1 * 0 = (i 0).val
    have h : k0_off1 i 1 = (i 0).val := h
    omega

variable (hR : Ranges.InRange (tile m) (rows m))

include hR

theorem cnt_pos : 1 ≤ cnt m := hR.count_pos
theorem cnt_le : cnt m ≤ 160 := hR.count_le
theorem ent_lt (k : Fin 160) : (ent m k).toNat < 2 ^ 31 := hR.entry_lt k
theorem ent_mod (k : Fin 160) : (ent m k).toNat % 256 < 32 := hR.expert_lt k

/-- The word one below the number of tiles. -/
theorem last_toNat : (Scalar.subi (tile m (ix2 (0 : Fin 1) (255 : Fin 256))) 1#32 : BitVec 32).toNat = cnt m - 1 := by
  have h1 := cnt_pos m hR
  have h2 := cnt_le m hR
  have h3 : cnt m = (tile m (ix2 (0 : Fin 1) (255 : Fin 256))).toNat := rfl
  simp only [Scalar.subi, IntOp.subi, BitVec.toNat_sub, BitVec.toNat_ofNat]
  omega

theorem min_toNat (a : BitVec 32) (ha : a.toNat < 2 ^ 31) :
    (Scalar.minsi a (Scalar.subi (tile m (ix2 (0 : Fin 1) (255 : Fin 256))) 1#32) : BitVec 32).toNat = min a.toNat (cnt m - 1) := by
  have h2 := cnt_le m hR
  have h := last_toNat m hR
  rw [Scalar.minsi, Ranges.toNat_minsi ha (by omega), h]

theorem ex_toNat (k : Fin 160) : (Scalar.remsi (ent m k) 256#32 : BitVec 32).toNat = (ent m k).toNat % 256 :=
  IntOp.toNat_remsi .scalar (by have := ent_lt m hR k; omega) 256 (by norm_num) (by norm_num)

/-- The block of the row table that holds the next tile's rows, -/
theorem tr1 (i : grid0.Coords) : cc0_transform_1 inb_S1x256_S1x1_0_255 numel1_S1x1 (pf0 m) i = ![min ((i 0).val + 1) (cnt m - 1), 0, 0] := by
  have hi := coord_lt i
  have h : (Scalar.addi (BitVec.ofNat 32 (i 0).val) 1#32 : BitVec 32).toNat = (i 0).val + 1 := by
    simp only [Scalar.addi, IntOp.addi, BitVec.toNat_add, BitVec.toNat_ofNat]; omega
  refine (congrArg (fun v : BitVec 32 => ![(Scalar.minsi (Scalar.addi (BitVec.ofNat 32 (i 0).val) 1#32) (Scalar.subi v 1#32) : BitVec 32).toNat, 0, 0]) (at255 m)).trans ?_
  rw [min_toNat m hR _ (by omega), h]
/-- the block of the gate scales, -/
theorem tr2 (i : grid0.Coords) : cc0_transform_2 inb_S1x256_S1x1_0_255 numel1_S1x1 (pf0 m) i = ![min (i 0).val (cnt m - 1), 0, 0] := by
  have hi := coord_lt i
  have h : (BitVec.ofNat 32 (i 0).val).toNat = (i 0).val := by rw [BitVec.toNat_ofNat]; omega
  refine (congrArg (fun v : BitVec 32 => ![(Scalar.minsi (BitVec.ofNat 32 (i 0).val) (Scalar.subi v 1#32) : BitVec 32).toNat, 0, 0]) (at255 m)).trans ?_
  rw [min_toNat m hR _ (by omega), h]
/-- of the result, -/
theorem tr8 (i : grid0.Coords) : cc0_transform_8 inb_S1x256_S1x1_0_255 numel1_S1x1 (pf0 m) i = ![min (i 0).val (cnt m - 1), 0] := by
  have hi := coord_lt i
  have h : (BitVec.ofNat 32 (i 0).val).toNat = (i 0).val := by rw [BitVec.toNat_ofNat]; omega
  refine (congrArg (fun v : BitVec 32 => ![(Scalar.minsi (BitVec.ofNat 32 (i 0).val) (Scalar.subi v 1#32) : BitVec 32).toNat, 0]) (at255 m)).trans ?_
  rw [min_toNat m hR _ (by omega), h]
/-- and of the expert's weights and scales. -/
theorem tr4 (i : grid0.Coords) : cc0_transform_4 k0_off1_inb numel1_S1x1 (pf0 m) i = ![(ent m ⟨(i 0).val, coord_lt i⟩).toNat % 256, 0, 0] := by
  refine (congrArg (fun v : BitVec 32 => ![(Scalar.remsi v 256#32 : BitVec 32).toNat, 0, 0]) (atEntry m i)).trans ?_
  rw [ex_toNat m hR]
theorem tr5 (i : grid0.Coords) : cc0_transform_5 k0_off1_inb numel1_S1x1 (pf0 m) i = ![(ent m ⟨(i 0).val, coord_lt i⟩).toNat % 256, 0, 0] := tr4 m hR i
theorem tr6 (i : grid0.Coords) : cc0_transform_6 k0_off1_inb numel1_S1x1 (pf0 m) i = ![(ent m ⟨(i 0).val, coord_lt i⟩).toNat % 256, 0, 0] := tr4 m hR i
theorem tr7 (i : grid0.Coords) : cc0_transform_7 k0_off1_inb numel1_S1x1 (pf0 m) i = ![(ent m ⟨(i 0).val, coord_lt i⟩).toNat % 256, 0, 0] := tr4 m hR i

/-- The side condition the region checks of the tables. -/
theorem ok_pf0 : ok0 (pf0 m) := by
  have h1 := cnt_pos m hR
  have h2 := cnt_le m hR
  have he := ent_mod m hR
  refine ⟨fun i => ⟨?_, .inl rfl⟩, fun i => ⟨?_, .inl rfl⟩, fun i => ⟨?_, .inr (.inr ⟨by decide, rfl, ?_, rfl⟩)⟩,
    fun i => ⟨?_, .inr (.inr ⟨by decide, rfl, ?_, rfl⟩)⟩, fun i => ⟨?_, .inr (.inr ⟨by decide, rfl, ?_, rfl⟩)⟩,
    fun i => ⟨?_, .inr (.inr ⟨by decide, rfl, ?_, rfl⟩)⟩, fun i => ⟨?_, .inl rfl⟩⟩
  · rw [tr1 m hR]; intro a; fin_cases a
    · show (min ((i 0).val + 1) (cnt m - 1) + 1) * 1 ≤ 160; omega
    · show (0 + 1) * 2 ≤ 2; omega
    · show (0 + 1) * 128 ≤ 128; omega
  · rw [tr2 m hR]; intro a; fin_cases a
    · show (min ((i 0).val) (cnt m - 1) + 1) * 1 ≤ 160; omega
    · show (0 + 1) * 2 ≤ 2; omega
    · show (0 + 1) * 128 ≤ 128; omega
  · rw [tr4 m hR]; have := he ⟨(i 0).val, coord_lt i⟩; intro a; fin_cases a
    · show ((ent m ⟨(i 0).val, coord_lt i⟩).toNat % 256 + 1) * 1 ≤ 32; omega
    · show (0 + 1) * 1024 ≤ 1024; omega
    · show (0 + 1) * 2048 ≤ 2048; omega
  · show cc0_transform_4 k0_off1_inb numel1_S1x1 (pf0 m) i 1 * _ = 0; rw [tr4 m hR]; exact Nat.zero_mul _
  · rw [tr5 m hR]; have := he ⟨(i 0).val, coord_lt i⟩; intro a; fin_cases a
    · show ((ent m ⟨(i 0).val, coord_lt i⟩).toNat % 256 + 1) * 1 ≤ 32; omega
    · show (0 + 1) * 16 ≤ 16; omega
    · show (0 + 1) * 2048 ≤ 2048; omega
  · show cc0_transform_5 k0_off1_inb numel1_S1x1 (pf0 m) i 1 * _ = 0; rw [tr5 m hR]; exact Nat.zero_mul _
  · rw [tr6 m hR]; have := he ⟨(i 0).val, coord_lt i⟩; intro a; fin_cases a
    · show ((ent m ⟨(i 0).val, coord_lt i⟩).toNat % 256 + 1) * 1 ≤ 32; omega
    · show (0 + 1) * 512 ≤ 512; omega
    · show (0 + 1) * 2048 ≤ 2048; omega
  · show cc0_transform_6 k0_off1_inb numel1_S1x1 (pf0 m) i 1 * _ = 0; rw [tr6 m hR]; exact Nat.zero_mul _
  · rw [tr7 m hR]; have := he ⟨(i 0).val, coord_lt i⟩; intro a; fin_cases a
    · show ((ent m ⟨(i 0).val, coord_lt i⟩).toNat % 256 + 1) * 1 ≤ 32; omega
    · show (0 + 1) * 8 ≤ 8; omega
    · show (0 + 1) * 2048 ≤ 2048; omega
  · show cc0_transform_7 k0_off1_inb numel1_S1x1 (pf0 m) i 1 * _ = 0; rw [tr7 m hR]; exact Nat.zero_mul _
  · rw [tr8 m hR]; intro a; fin_cases a
    · show (min ((i 0).val) (cnt m - 1) + 1) * 6144 ≤ 983040; omega
    · show (0 + 1) * 128 ≤ 128; omega

omit hR

/-- The body's conditions in whole numbers: the first point, -/
theorem cond1_iff (i : grid0.Coords) : k0_cond1 i = 1#1 ↔ (i 0).val = 0 := by
  have hi := coord_lt i
  unfold k0_cond1
  generalize (i 0).val = k at *
  revert k
  decide

/-- What the body reads of the table. -/
theorem nTiles_eq : nTiles (F := F) (Memref.whole main_arg0) (m (((0 : Dev nD) : Thread nD τ).loc main_arg0)) = tile m (ix2 (0 : Fin 1) (255 : Fin 256)) := by
  exact at255 m
theorem entry_eq (i : grid0.Coords) : entry (F := F) i (Memref.whole main_arg0) (m (((0 : Dev nD) : Thread nD τ).loc main_arg0)) = ent m ⟨(i 0).val, coord_lt i⟩ := by
  exact atEntry m i

theorem bit_ne (b : BitVec 1) : IntOp.cmpi .ne (BitVec.setWidth 32 b) 0#32 = b := by revert b; decide

include hR

theorem lt_iff (i : grid0.Coords) : (Scalar.cmpi .slt (BitVec.ofNat 32 (i 0).val) (tile m (ix2 (0 : Fin 1) (255 : Fin 256))) : BitVec 1) = 1#1 ↔ (i 0).val < cnt m := by
  have hi := coord_lt i
  have h2 := cnt_le m hR
  have h3 : cnt m = (tile m (ix2 (0 : Fin 1) (255 : Fin 256))).toNat := rfl
  have h : (BitVec.ofNat 32 (i 0).val).toNat = (i 0).val := by rw [BitVec.toNat_ofNat]; omega
  unfold Scalar.cmpi
  rw [StableHlo.Predicate.slt_iff_toNat (by omega) (by omega), h, h3]

theorem ge_iff (k : Fin 160) : (Scalar.cmpi .sge (ent m k) 256#32 : BitVec 1) = 1#1 ↔ 256 ≤ (ent m k).toNat := by
  have := ent_lt m hR k
  unfold Scalar.cmpi
  rw [StableHlo.Predicate.sge_iff_toNat (by omega) (by decide)]
  rfl

/-- a tile of 256 rows, -/
theorem cond2_iff (i : grid0.Coords) (k : Fin 160) :
    k0_cond2 i (tile m (ix2 (0 : Fin 1) (255 : Fin 256))) (ent m k) = 1#1 ↔ (i 0).val < cnt m ∧ ¬ 256 ≤ (ent m k).toNat := by
  rw [← lt_iff m hR i, ← ge_iff m hR k]
  refine (Iff.of_eq (congrArg (· = 1#1) (bit_ne _))).trans ?_
  generalize (Scalar.cmpi .slt (BitVec.ofNat 32 (i 0).val) (tile m (ix2 (0 : Fin 1) (255 : Fin 256))) : BitVec 1) = a
  generalize (Scalar.cmpi .sge (ent m k) 256#32 : BitVec 1) = b
  revert a b; decide
/-- a tile of 128 rows. -/
theorem cond3_iff (i : grid0.Coords) (k : Fin 160) :
    k0_cond3 i (tile m (ix2 (0 : Fin 1) (255 : Fin 256))) (ent m k) = 1#1 ↔ (i 0).val < cnt m ∧ 256 ≤ (ent m k).toNat := by
  rw [← lt_iff m hR i, ← ge_iff m hR k]
  refine (Iff.of_eq (congrArg (· = 1#1) (bit_ne _))).trans ?_
  generalize (Scalar.cmpi .slt (BitVec.ofNat 32 (i 0).val) (tile m (ix2 (0 : Fin 1) (255 : Fin 256))) : BitVec 1) = a
  generalize (Scalar.cmpi .sge (ent m k) 256#32 : BitVec 1) = b
  revert a b; decide

end Cert.KernelIdeal.Hand

end
-- ==== Proof.Ideal.Frame.lean ====
/-
  The feed-forward kernel's run from its launch: what every window's block holds at every point, what the body keeps between two
  points, the body at each of them, and the frame.
-/
module

public import proofs.«01_k».proof.Proof.Ideal.Step
public import proofs.«01_k».proof.Proof.Ideal.Tables
public import Idealize.ShloMosaic.Lib.Pipeline.Frame
public import Idealize.ShloMosaic.Lib.Pipeline.FrameBody
public import Idealize.ShloMosaic.Lib.Tactic
public import Idealize.ShloMosaic.Lib.Transfers

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hR : Ranges.InRange (tile m) (rows m))

/-! ## The schedule at the launch's tables -/

/-- The tables, as the schedule takes them. -/
def adm : (pcfg0 (F := F)).Adm := ⟨pf0 m, ok_pf0 m hR⟩
/-- The schedule they fix. -/
abbrev cfgA : Pipeline.Cfg sig Λ₀ := cfg0 (adm m hR)

theorem coords_val (t : Fin (cfgA m hR).N) : ((cfgA m hR).grid.coords t 0).val = t.val := by
  have h : ∀ t : Fin grid0.N, (grid0.coords t 0).val = t.val := by decide
  exact h t

theorem pt_lt (t : Fin (cfgA m hR).N) : t.val < 160 := t.isLt

/-- The point as a tile's number. -/
def pt (t : Fin (cfgA m hR).N) : Fin 160 := ⟨t.val, pt_lt m hR t⟩

/-! ## The blocks -/

/-- The unscoped buffers' contents at launch. -/
abbrev V (c : Dev nD) (b : Ref sig .tc) : Buf (Elt F) ((c : Thread nD τ).loc b) := m ((c : Thread nD τ).loc b)

abbrev gates : S160x2x128.Idx → F .f32 := m (((0 : Dev nD) : Thread nD τ).loc main_arg2)
abbrev wGate : S32x1024x2048.Idx → BitVec 8 := m (((0 : Dev nD) : Thread nD τ).loc main_arg4)
abbrev sGate : S32x16x2048.Idx → F .bf16 := m (((0 : Dev nD) : Thread nD τ).loc main_arg5)
abbrev wDown : S32x512x2048.Idx → BitVec 8 := m (((0 : Dev nD) : Thread nD τ).loc main_arg6)
abbrev sDown : S32x8x2048.Idx → F .bf16 := m (((0 : Dev nD) : Thread nD τ).loc main_arg7)

/-- Tile `k`'s expert. -/
def ex (k : Fin 160) : Fin 32 := ⟨(ent m k).toNat % 256, ent_mod m hR k⟩

/-- Tile `k`'s row numbers and gate scales, and its expert's weights and scales. -/
def tabB (k : Fin 160) : Vec F S1x2x128 .i32 := fun j => rows m (ix3 k (j 1) (j 2))
def gsB (k : Fin 160) : Vec F S1x2x128 .f32 := fun j => gates m (ix3 k (j 1) (j 2))
def wgB (k : Fin 160) : GateW F := fun j => wGate m (ix3 (ex m hR k) (j 1) (j 2))
def sgB (k : Fin 160) : GateS F := fun j => sGate m (ix3 (ex m hR k) (j 1) (j 2))
def wdB (k : Fin 160) : DownW F := fun j => wDown m (ix3 (ex m hR k) (j 1) (j 2))
def sdB (k : Fin 160) : DownS F := fun j => sDown m (ix3 (ex m hR k) (j 1) (j 2))

/-- What tile `k` stores, from a gathered block `b`. -/
def tileB (i : grid0.Coords) (k : Fin 160) (b : Vec F S2x2048x128 .i32) : List (View.Piece (Elt F) S6144x128 .f32) :=
  tileAt i (tile m (ix2 (0 : Fin 1) (255 : Fin 256))) (ent m k) b (gsB m k) (wgB m hR k) (sgB m hR k) (wdB m hR k) (sdB m hR k)

/-- What the body leaves of a result's block it found at `Y`: at a tile's point the tile's stores over anything, from its own gathered
    rows; at the others what it found. -/
def outRel (i : grid0.Coords) (k : Fin 160) (Y X : Vec F S6144x128 .f32) : Prop :=
  (k.val < cnt m → ∃ (M : Memref sig .tc .vmem S6144x128 .f32) (_ : M.IsWhole) (f : BufTy.Contents (Elt F) M.view.ty) (b : Vec F S2x2048x128 .i32),
    Slot (F := F) (k.val % 2) (tabB m k) (acts m) b ∧ X = M.view.read (Elt F) (M.view.writes (Elt F) f (tileB m hR i k b)))
  ∧ (¬ k.val < cnt m → X = Y)

/-! ## The proof data -/

/-- The kernel's own semaphore and the rows it copies itself. -/
abbrev osem0 : Fin 1 → SemLoc sig := fun j => (![SemLoc.dma 15] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl
def H0 : Finset (Ref sig .tc) := {main_arg3}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(((c : Thread nD τ).loc main_arg3) ↦{fullShare} V m c main_arg3) := by
  rw [BI.bigSep_eq_bigSepL_of_eq [main_arg3] (by decide) (by decide)]; rfl

/-- What the body has made before point `t`: past the first point the rows are in their scratch, and the tile's own gathered. -/
def Made (t : ℕ) (d0 : Vec F S65536x128 .i32) (d1 : Vec F S2x2048x128 .i32) : Prop :=
  0 < t → d0 = acts m ∧ ∀ h : t < 160, t < cnt m → Slot (F := F) (t % 2) (tabB m ⟨t, h⟩) (acts m) d1

/-- What the body keeps between two points. -/
def Inv (c : Dev nD) (t : ℕ) : sProp 𝕄 :=
  iprop((∃ (d0 : Buf (Elt F) ((c : Thread nD τ).loc cc0_scratch0)) (d1 : Buf (Elt F) ((c : Thread nD τ).loc cc0_scratch1)) (d2 : Buf (Elt F) ((c : Thread nD τ).loc cc0_scratch2)),
      ⌜Made m t d0 d1⌝ ∗ (((c : Thread nD τ).loc cc0_scratch0) ↦{fullShare} d0) ∗ (((c : Thread nD τ).loc cc0_scratch1) ↦{fullShare} d1)
        ∗ (((c : Thread nD τ).loc cc0_scratch2) ↦{fullShare} d2))
    ∗ (∃ r, prngReg c r) ∗ semVal ((c : Thread nD τ), SemLoc.dma 15) 0
    ∗ (((c : Thread nD τ).loc main_arg3) ↦{fullShare} V m c main_arg3)
    ∗ (((c : Thread nD τ).loc main_arg0) ↦{fullShare.right} V m c main_arg0))

/-- The launch's proof data: the inputs kept, the result's block by `outRel`. -/
def rdat (c : Dev nD) : Pipeline.RDat τ (Elt F) Unit ℕ (Pipeline.UD sig nD τ) ℕ (cfgA m hR) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun t Y X => outRel m hR (grid0.coords t) (pt m hR t) Y X
    | ⟨_ + 8, h⟩ => absurd h (Nat.not_lt.2 (Nat.le_add_left _ _))
  Φ t := Inv m c t.val
  q w := Pipeline.shareOf spec0 w
  owed _ := 0

/-! ## What the body finds in the input windows -/

theorem found (c : Dev nD) (w : Fin (cfgA m hR).W) (hw : ((cfgA m hR).win w).isOut = false)
    (hclip : ∀ t t' : Fin (cfgA m hR).N, ((cfgA m hR).win w).index t = ((cfgA m hR).win w).index t' →
      ((cfgA m hR).win w).clip ((cfgA m hR).grid.coords t) = ((cfgA m hR).win w).clip ((cfgA m hR).grid.coords t'))
    (hk : ∀ t Y X, (rdat m hR c).after w t Y X → X = Y) (t : Fin (cfgA m hR).N) (Y) (h : (rdat m hR c).Finds w t Y) :
    ∃ d, Y = (rdat m hR c).fetched w t d := by
  haveI : ∀ e, Nonempty (Elt F e) := fun e => inferInstance
  exact Pipeline.RDat.finds_in_eq_fetched (rdat m hR c) w hw hclip hk t Y h

/-- Where an element of a block of whole planes, the block one plane, lies in its array. -/
theorem place {A B C : ℕ} (o : Fin 3 → ℕ) (k : Fin A) (e : o = ![k.val, 0, 0]) (j : (⟨3, ![1, B, C]⟩ : Shape).Idx) (i : (⟨3, ![A, B, C]⟩ : Shape).Idx)
    (hi : ∀ a : Fin 3, (i a).val = o a * (![1, B, C] : Fin 3 → ℕ) a + 1 * (j a).val) : i = ix3 k (j 1) (j 2) := by
  subst e
  funext a; apply Fin.ext
  rw [hi a]
  fin_cases a
  · have : (j 0).val < 1 := (j 0).isLt
    show k.val * 1 + 1 * (j 0).val = k.val; omega
  · show 0 * B + 1 * (j 1).val = (j 1).val; omega
  · show 0 * C + 1 * (j 2).val = (j 2).val; omega

theorem found0 (t : Fin (cfgA m hR).N) (Y : Vec F S1x2x128 .i32) (h : (rdat m hR 0).Finds 0 t Y) : Y = tabB m 0 := by
  obtain ⟨d, rfl⟩ := found m hR 0 0 rfl (fun _ _ _ => rfl) (fun _ _ _ h => h) t Y h
  exact funext fun (j : S1x2x128.Idx) => congrArg (rows m) (place _ (0 : Fin 160) rfl j _ fun a => rfl)

/-- The next tile, no further than the last. -/
def nxt (t : Fin (cfgA m hR).N) : Fin 160 := ⟨min (t.val + 1) (cnt m - 1), by have := cnt_pos m hR; have := cnt_le m hR; omega⟩
/-- The tile, no further than the last. -/
def cur (t : Fin (cfgA m hR).N) : Fin 160 := ⟨min t.val (cnt m - 1), by have := cnt_pos m hR; have := cnt_le m hR; omega⟩

theorem found1 (t : Fin (cfgA m hR).N) (Y : Vec F S1x2x128 .i32) (h : (rdat m hR 0).Finds 1 t Y) : Y = tabB m (nxt m hR t) := by
  obtain ⟨d, rfl⟩ := found m hR 0 1 rfl (fun _ _ _ => rfl) (fun _ _ _ h => h) t Y h
  have e := tr1 m hR (grid0.coords t)
  rw [show (grid0.coords t 0).val = t.val from coords_val m hR t] at e
  exact funext fun (j : S1x2x128.Idx) => congrArg (rows m) (place _ (nxt m hR t) e j _ fun a => rfl)

theorem found2 (t : Fin (cfgA m hR).N) (Y : Vec F S1x2x128 .f32) (h : (rdat m hR 0).Finds 2 t Y) : Y = gsB m (cur m hR t) := by
  obtain ⟨d, rfl⟩ := found m hR 0 2 rfl (fun _ _ _ => rfl) (fun _ _ _ h => h) t Y h
  have e := tr2 m hR (grid0.coords t)
  rw [show (grid0.coords t 0).val = t.val from coords_val m hR t] at e
  exact funext fun (j : S1x2x128.Idx) => congrArg (gates m) (place _ (cur m hR t) e j _ fun a => rfl)

/-- The point's tile is the coordinate's. -/
theorem pt_eq (t : Fin (cfgA m hR).N) : (⟨(grid0.coords t 0).val, coord_lt (grid0.coords t)⟩ : Fin 160) = pt m hR t := Fin.ext (coords_val m hR t)

theorem found3 (t : Fin (cfgA m hR).N) (Y : GateW F) (h : (rdat m hR 0).Finds 3 t Y) : Y = wgB m hR (pt m hR t) := by
  obtain ⟨d, rfl⟩ := found m hR 0 3 rfl (fun _ _ _ => rfl) (fun _ _ _ h => h) t Y h
  have e := tr4 m hR (grid0.coords t)
  rw [pt_eq m hR t] at e
  exact funext fun (j : S1x1024x2048.Idx) => congrArg (wGate m) (place _ (ex m hR (pt m hR t)) e j _ fun a => rfl)
theorem found4 (t : Fin (cfgA m hR).N) (Y : GateS F) (h : (rdat m hR 0).Finds 4 t Y) : Y = sgB m hR (pt m hR t) := by
  obtain ⟨d, rfl⟩ := found m hR 0 4 rfl (fun _ _ _ => rfl) (fun _ _ _ h => h) t Y h
  have e := tr5 m hR (grid0.coords t)
  rw [pt_eq m hR t] at e
  exact funext fun (j : S1x16x2048.Idx) => congrArg (sGate m) (place _ (ex m hR (pt m hR t)) e j _ fun a => rfl)
theorem found5 (t : Fin (cfgA m hR).N) (Y : DownW F) (h : (rdat m hR 0).Finds 5 t Y) : Y = wdB m hR (pt m hR t) := by
  obtain ⟨d, rfl⟩ := found m hR 0 5 rfl (fun _ _ _ => rfl) (fun _ _ _ h => h) t Y h
  have e := tr6 m hR (grid0.coords t)
  rw [pt_eq m hR t] at e
  exact funext fun (j : S1x512x2048.Idx) => congrArg (wDown m) (place _ (ex m hR (pt m hR t)) e j _ fun a => rfl)
theorem found6 (t : Fin (cfgA m hR).N) (Y : DownS F) (h : (rdat m hR 0).Finds 6 t Y) : Y = sdB m hR (pt m hR t) := by
  obtain ⟨d, rfl⟩ := found m hR 0 6 rfl (fun _ _ _ => rfl) (fun _ _ _ h => h) t Y h
  have e := tr7 m hR (grid0.coords t)
  rw [pt_eq m hR t] at e
  exact funext fun (j : S1x8x2048.Idx) => congrArg (sDown m) (place _ (ex m hR (pt m hR t)) e j _ fun a => rfl)

/-! ## The body at a point -/

include hR in
/-- The table's words are rows of the array. -/
theorem tabB_lt (k : Fin 160) (j) : (tabB m k j).toNat < 8192 := hR.row_lt _

theorem live_iff (t : Fin (cfgA m hR).N) :
    (k0_cond2 (grid0.coords t) (tile m (ix2 (0 : Fin 1) (255 : Fin 256))) (ent m (pt m hR t)) = 1#1
      ∨ k0_cond3 (grid0.coords t) (tile m (ix2 (0 : Fin 1) (255 : Fin 256))) (ent m (pt m hR t)) = 1#1) ↔ t.val < cnt m := by
  rw [cond2_iff m hR, cond3_iff m hR, show (grid0.coords t 0).val = t.val from coords_val m hR t]
  tauto

theorem body_obligation (c : Dev nD) : (rdat m hR c).BodyObligation (defs₀ (F := F)) Variants.none () Set.univ := by
  obtain rfl : c = 0 := Subsingleton.elim _ _
  intro t Y hY
  have e0 := found0 m hR t (Y 0) (hY 0)
  have e1 := found1 m hR t (Y 1) (hY 1)
  have e2 := found2 m hR t (Y 2) (hY 2)
  have e3 := found3 m hR t (Y 3) (hY 3)
  have e4 := found4 m hR t (Y 4) (hY 4)
  have e5 := found5 m hR t (Y 5) (hY 5)
  have e6 := found6 m hR t (Y 6) (hY 6)
  have ec : (grid0.coords t 0).val = t.val := coords_val m hR t
  have hlive := live_iff m hR t
  have hent : entry (F := F) (grid0.coords t) (Memref.whole main_arg0) (m (((0 : Dev nD) : Thread nD τ).loc main_arg0)) = ent m (pt m hR t) :=
    (entry_eq m _).trans (congrArg (ent m) (pt_eq m hR t))
  rw [bigSep_W0, bigSep_W0]
  unfold defs₀
  rw [Defs.onTc_tc]
  show iprop(Inv m 0 t.val ∗ _ ∗ _) ⊢ _
  unfold Inv Pipeline.RDat.owesAt Pipeline.owesWithin
  iintro ⟨⟨⟨%d0, %d1, %d2, %hmade, G0, G1, G2⟩, Hg, HS, H5, H1⟩, ⟨%W, %hW, HO⟩, W0, W1, W2, W3, W4, W5, W6, W7⟩
  have hst := step (F := F) Variants.none (0 : Dev nD) none (grid0.coords t) (Memref.whole main_arg0) (Memref.isWhole_whole _)
    (spec0_0.stage ((cfgA m hR).slots t 0)) (hstage0_0 (((cfgA m hR).slots t 0).cast nbuf0_0)) (spec0_1.stage ((cfgA m hR).slots t 1)) (hstage0_1 (((cfgA m hR).slots t 1).cast nbuf0_1))
    (spec0_2.stage ((cfgA m hR).slots t 2)) (hstage0_2 (((cfgA m hR).slots t 2).cast nbuf0_2)) (Memref.whole main_arg3) (Memref.isWhole_whole _)
    (spec0_3.stage ((cfgA m hR).slots t 3)) (hstage0_3 (((cfgA m hR).slots t 3).cast nbuf0_3)) (spec0_4.stage ((cfgA m hR).slots t 4)) (hstage0_4 (((cfgA m hR).slots t 4).cast nbuf0_4))
    (spec0_5.stage ((cfgA m hR).slots t 5)) (hstage0_5 (((cfgA m hR).slots t 5).cast nbuf0_5)) (spec0_6.stage ((cfgA m hR).slots t 6)) (hstage0_6 (((cfgA m hR).slots t 6).cast nbuf0_6))
    (spec0_7.stage ((cfgA m hR).slots t 7)) (hstage0_7 (((cfgA m hR).slots t 7).cast nbuf0_7))
    (Memref.whole cc0_scratch0) (Memref.isWhole_whole _) (Memref.whole cc0_scratch1) (Memref.isWhole_whole _) (Memref.whole cc0_scratch2) (Memref.isWhole_whole _) cc0_scratch3
    (V m 0 main_arg0) (V m 0 main_arg3) d0 d1 d2 (Y 0) (Y 1) (Y 2) (Y 3) (Y 4) (Y 5) (Y 6) (Y 7)
    (tabB m (pt m hR t)) (acts m) (tile m (ix2 (0 : Fin 1) (255 : Fin 256))) (ent m (pt m hR t)) W (nTiles_eq m) hent
    (by rw [e0]; exact tabB_lt m hR _) (by rw [e1]; exact tabB_lt m hR _) rfl
    (fun h => ((cond3_iff m hR _ _).mp h.2).2 |> ((cond2_iff m hR _ _).mp h.1).2)
    (fun h1 => by
      have hp : 0 < t.val := Nat.pos_of_ne_zero fun h => h1 ((cond1_iff _).mpr (ec.trans h))
      obtain ⟨ha, hb⟩ := hmade hp
      refine ⟨ha, fun hl => ?_⟩
      rw [ec]; exact hb (pt_lt m hR t) (hlive.mp hl))
    (fun h1 => by
      have hz : t.val = 0 := ec.symm.trans ((cond1_iff _).mp h1)
      refine ⟨e0.trans (congrArg (tabB m) (Fin.ext hz.symm)), ?_⟩
      rw [ec, hz])
  simp only [Memref.view_whole, View.set_whole] at hst
  iapply (wp_wand_r frame (wpE (defs₀ (F := F)) Variants.none ((0 : Dev nD) : Thread nD τ) none) Set.univ)
  isplitl [G0 G1 G2 HS H5 H1 HO W0 W1 W2 W3 W4 W5 W6 W7]
  · iapply hst
    isplitl [H1]; · iexact H1
    isplitl [W0]; · iexact W0
    isplitl [W1]; · iexact W1
    isplitl [W2]; · iexact W2
    isplitl [H5]; · iexact H5
    isplitl [W3]; · iexact W3
    isplitl [W4]; · iexact W4
    isplitl [W5]; · iexact W5
    isplitl [W6]; · iexact W6
    isplitl [W7]; · iexact W7
    isplitl [G0]; · iexact G0
    isplitl [G1]; · iexact G1
    isplitl [G2]; · iexact G2
    isplitl [HS]; · iexact HS
    iexact HO
  iintro %u ⟨H1, W0, W1, W2, H5, W3, W4, W5, W6, ⟨%Z, %hZ, W7⟩, ⟨%Z0, %Z1, %Z2, %hZs, G0, G1, G2⟩, HS, ⟨%W', HO⟩⟩
  isplitl [G0 G1 G2 Hg HS H5 H1]
  · iapply (Entails.of_eq (show (Inv m 0 (t.val + 1) : sProp 𝕄) = (rdat m hR 0).Φ t.succ from rfl))
    unfold Inv
    isplitl [G0 G1 G2]
    · iexists Z0, Z1, Z2
      isplitr
      · ipureintro
        refine fun _ => ⟨hZs.1, fun h hc => ?_⟩
        have hl : t.val < cnt m := by omega
        have hs := hZs.2 (hlive.mpr hl)
        rw [e1, ec, show 1 - t.val % 2 = (t.val + 1) % 2 by omega, show nxt m hR t = ⟨t.val + 1, h⟩ from Fin.ext (by show min (t.val + 1) (cnt m - 1) = t.val + 1; omega)] at hs
        exact hs
      isplitl [G0]; · iexact G0
      isplitl [G1]; · iexact G1
      iexact G2
    isplitl [Hg]; · iexact Hg
    isplitl [HS]; · iexact HS
    isplitl [H5]; · iexact H5
    iexact H1
  isplitl [HO]
  · iexists W'; isplitr; · ipureintro; exact fun _ _ => Or.inl trivial
    iexact HO
  isplitl [W0]
  · iexists (Y 0); isplitr; · ipureintro; rfl
    iexact W0
  isplitl [W1]
  · iexists (Y 1); isplitr; · ipureintro; rfl
    iexact W1
  isplitl [W2]
  · iexists (Y 2); isplitr; · ipureintro; rfl
    iexact W2
  isplitl [W3]
  · iexists (Y 3); isplitr; · ipureintro; rfl
    iexact W3
  isplitl [W4]
  · iexists (Y 4); isplitr; · ipureintro; rfl
    iexact W4
  isplitl [W5]
  · iexists (Y 5); isplitr; · ipureintro; rfl
    iexact W5
  isplitl [W6]
  · iexists (Y 6); isplitr; · ipureintro; rfl
    iexact W6
  iexists Z
  isplitr
  · ipureintro
    refine ⟨fun hl => ?_, fun hl => hZ.2 fun h => hl (hlive.mp h)⟩
    have hl' : t.val < cnt m := hl
    obtain ⟨f, b, hb, hz⟩ := hZ.1 (hlive.mpr hl')
    rw [ec] at hb
    have hcur : cur m hR t = pt m hR t := Fin.ext (by show min t.val (cnt m - 1) = t.val; omega)
    rw [e2, e3, e4, e5, e6, hcur] at hz
    exact ⟨_, hstage0_7 (((cfgA m hR).slots t 7).cast nbuf0_7), f, b, hb, hz⟩
  iexact W7

/-! ## The launch -/

theorem hmainD : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

theorem tables_eq (c : Dev nD) :
    (Pipeline.ΦT pre0 (pf0 m) c : sProp 𝕄) = iprop(((c : Thread nD τ).loc main_arg0) ↦{fullShare.right} V m c main_arg0) := by
  obtain rfl : c = 0 := Subsingleton.elim _ _
  unfold Pipeline.ΦT Pipeline.prefHeld
  rw [BI.bigSep_eq_bigSepL_of_eq [(0 : Fin 1)] (by decide) (by decide)]; rfl

theorem enter (c : Dev nD) : iprop(Pipeline.ΦD osem0 spec0 H0 (V m) c ∗ Pipeline.ΦT pre0 (pf0 m) c) ⊢ (Inv m c 0 : sProp 𝕄) := by
  rw [Pipeline.ΦD_eq, scopedRest0_eq, ownSems00_eq, hbmPts0_eq, tables_eq]
  unfold Inv
  iintro ⟨⟨⟨⟨%d0, G0⟩, ⟨%d1, G1⟩, ⟨%d2, G2⟩⟩, Hg, HS, H5⟩, H1⟩
  isplitl [G0 G1 G2]
  · iexists d0, d1, d2
    isplitr
    · ipureintro; exact fun h => absurd h (Nat.lt_irrefl 0)
    isplitl [G0]; · iexact G0
    isplitl [G1]; · iexact G1
    iexact G2
  isplitl [Hg]; · iexact Hg
  isplitl [HS]; · iexact HS
  isplitl [H5]; · iexact H5
  iexact H1

theorem leave (c : Dev nD) (n : ℕ) : (Inv m c n : sProp 𝕄) ⊢ Pipeline.ΦD osem0 spec0 H0 (V m) c := by
  rw [Pipeline.ΦD_eq, scopedRest0_eq, ownSems00_eq, hbmPts0_eq]
  unfold Inv
  iintro ⟨⟨%d0, %d1, %d2, %hmade, G0, G1, G2⟩, Hg, HS, H5, H1⟩
  isplitl [G0 G1 G2]
  · isplitl [G0]; · iexists d0; iexact G0
    isplitl [G1]; · iexists d1; iexact G1
    iexists d2; iexact G2
  isplitl [Hg]; · iexact Hg
  isplitl [HS]; · iexact HS
  iexact H5

-- the launch theorem's implicit arguments are found by unifying its conclusion with this statement, which unifies only when
-- unification may unfold plain definitions in a metavariable's type
set_option backward.isDefEq.respectTransparency.types false in
/-- From any launch whose tables are in range, every execution ends, the windows' arrays as the proof data say, every other buffer
    as at launch and every semaphore at zero. -/
theorem run_main :
    θ_run defs (onTc (τ := τ) (main (F := F))) ⟨m, fun _ => 0, ρ⟩
      (fun r => Pipeline.RDat.FramePost (cfgA m hR) (rdat m hR) (V m) r ∧ r.2.sem = fun _ => 0) :=
  Pipeline.RDat.θ_run_frameP_dma_shared (Q' := _) pcfgs (fun _ => adm m hR) (0 : Fin 1) launch₀0 osem0 defs₀ Variants.none (rdat m hR)
    ownSemFacts0 H0 H0_sub m ρ main (hbody := body_obligation m hR) (hq := fun _ _ _ => rfl) (howed := fun _ _ => rfl) (V := V m)
    (hmain := hmainD m) (hA := fun _ _ => rfl)
    (hpf := fun c k => by obtain rfl : c = 0 := Subsingleton.elim _ _; rfl)
    (hin := fun c => enter m c) (hout := fun c => leave m c _)

/-- What a run of the launch ends with leaves the arguments as they were. -/
theorem args_kept {r : PUnit × MemSt nD τ sig (Elt F)} (h : Pipeline.RDat.FramePost (cfgA m hR) (rdat m hR) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hin : ∀ w : Fin (cfgA m hR).W, ((cfgA m hR).win w).isOut = false →
      r.2.mem (((cfgA m hR).spec w).arr.view.loc (c.tc : Thread nD τ)) = V m c (Pipeline.arrRef spec0 w) := fun w hw => by
    have h1 := (h c).1 w
    rw [Pipeline.RDat.ArrAt_in _ w hw] at h1
    exact h1
  exact ⟨(h c).2 main_arg0 (show main_arg0 ∈ Pipeline.restRefs sig spec0 from Pipeline.mem_restRefs_of main_arg0 (by decide) (by decide)), hin 0 rfl, hin 2 rfl,
    (h c).2 main_arg3 (show main_arg3 ∈ Pipeline.restRefs sig spec0 from Pipeline.mem_restRefs_of main_arg3 (by decide) (by decide)), hin 3 rfl, hin 4 rfl, hin 5 rfl, hin 6 rfl⟩

include hR in
/-- The frame: from a launch whose tables are in range every execution ends, its arguments unchanged and every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m hR h.1, h.2⟩) (run_main m ρ hR)

end Cert.KernelIdeal.Hand

end
-- ==== Proof.Dense.lean ====
/-
  The feed-forward layer of one expert on one row of activations, over plain functions: what a packed byte and its scale stand for,
  what a packed word of activations stands for, and the row's result. Nothing here mentions either program.
-/
module

public import Idealize.ShloMosaic.Lib.Pointwise

@[expose] public section

noncomputable section

namespace Cert.Dense

open Idealize.ShloMosaic

/-- The four-bit number that row `r` of a weight matrix takes from its byte: the low half of the byte on even rows, the high half on
    odd ones. -/
def half (b : BitVec 8) (r : ℕ) : BitVec 32 :=
  if r % 2 = 0 then IntOp.shrsi .vector (IntOp.shli .vector (b.signExtend 32) 28#32) 28#32
  else IntOp.shrsi .vector (b.signExtend 32) 4#32

/-- A weight on row `r`: its four-bit number times its group's scale. -/
def wt (b : BitVec 8) (s : Ideal .bf16) (r : ℕ) : Ideal .bf16 := FloatOps.mulf (FloatOps.sitofp (F := Ideal) .bf16 (half b r)) s

/-- An activation of column `k` from its word: blocks of 128 columns take the low halves and the high halves of the words by turns. -/
def xv (w : BitVec 32) (k : ℕ) : Ideal .bf16 :=
  FloatOps.truncf .bf16 (by decide) (FloatOps.ofBits (F := Ideal) .f32
    (if k / 128 % 2 = 0 then IntOp.shli .vector w 16#32 else IntOp.andi w 4294901760#32))

variable (x : Fin 2048 → Ideal .bf16) (wg : Fin 2048 → Fin 2048 → Ideal .bf16) (wd : Fin 1024 → Fin 2048 → Ideal .bf16)

/-- The row times the gate-and-up weights. -/
def gu (c : Fin 2048) : EReal := ∑ k : Fin 2048, x k * wg k c

/-- The gated activations: the gate half through `silu`, times the up half. -/
def act (k : Fin 1024) : Ideal .bf16 :=
  FloatOps.truncf .bf16 (by decide) (FloatOps.mulf (F := Ideal) (φ := .f32)
    (FloatOps.mulf (F := Ideal) (φ := .f32) (gu x wg ⟨k.val, by omega⟩) (FloatOps.logistic (F := Ideal) (φ := .f32) (gu x wg ⟨k.val, by omega⟩)))
    (gu x wg ⟨k.val + 1024, by omega⟩))

/-- The row's result at column `c`, times the row's own scale `g`. -/
def out (g : Ideal .f32) (c : Fin 2048) : Ideal .f32 :=
  FloatOps.mulf (F := Ideal) (φ := .f32) (∑ k : Fin 1024, act x wg k * wd k c) g

end Cert.Dense
-- ==== Proof.Ideal.Weights.lean ====
/-
  One element of the dequantised weights of a column chunk: the four-bit number of its byte times its group's scale.
-/
module

public import proofs.«01_k».proof.Proof.Ideal.Spec
public import proofs.«01_k».proof.Proof.Dense
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Dense

/-- Two stacks of rows, interleaved: an even row is the first stack's, an odd row the second's. -/
theorem interleave_apply (u v : IVec S64x512 32) (r : Fin 128) (c : Fin 512) :
    shapeCast S128x512 (concatenate S64x2x512 1 [⟨S64x1x512, shapeCast S64x1x512 u shapeCasts_S64x512_S64x1x512⟩,
        ⟨S64x1x512, shapeCast S64x1x512 v shapeCasts_S64x512_S64x1x512⟩] concatenates_S64x1x512_S64x1x512_S64x2x512_d1)
        shapeCasts_S64x2x512_S128x512 (ix2 r c)
      = if r.val % 2 = 0 then u (ix2 ⟨r.val / 2, by omega⟩ c) else v (ix2 ⟨r.val / 2, by omega⟩ c) := by
  have hr := r.isLt
  have hc := c.isLt
  rw [shapeCast_apply _ _ (ix2 r c) (ix3 (⟨r.val / 2, by omega⟩ : Fin 64) (⟨r.val % 2, by omega⟩ : Fin 2) c) (by
    rw [Shape.rowMajor_val_three, Shape.rowMajor_val_two]
    show (r.val / 2 * 2 + r.val % 2) * 512 + c.val = r.val * 512 + c.val
    omega)]
  have hs : ∀ w : IVec S64x512 32, shapeCast S64x1x512 w shapeCasts_S64x512_S64x1x512
      (ix3 (⟨r.val / 2, by omega⟩ : Fin 64) (0 : Fin 1) c) = w (ix2 ⟨r.val / 2, by omega⟩ c) := fun w =>
    shapeCast_apply w _ _ _ (by
      rw [Shape.rowMajor_val_three, Shape.rowMajor_val_two]
      show r.val / 2 * 512 + c.val = (r.val / 2 * 1 + 0) * 512 + c.val
      omega)
  split
  · next h =>
    rw [concatenate_pair_apply_left (s₁ := S64x1x512) (s₂ := S64x1x512) (t := S64x2x512) 1 _ _ _ _ rfl
      (ix3 (⟨r.val / 2, by omega⟩ : Fin 64) (0 : Fin 1) c) (by
        intro b
        match b with
        | ⟨0, _⟩ => rfl
        | ⟨1, _⟩ => exact h.symm
        | ⟨2, _⟩ => rfl)]
    exact hs u
  · next h =>
    rw [concatenate_pair_apply_right (s₁ := S64x1x512) (s₂ := S64x1x512) (t := S64x2x512) 1 _ _ _ _ rfl rfl
      (ix3 (⟨r.val / 2, by omega⟩ : Fin 64) (0 : Fin 1) c) (by
        intro b hb
        match b with
        | ⟨0, _⟩ => rfl
        | ⟨1, _⟩ => exact absurd rfl hb
        | ⟨2, _⟩ => rfl) (by show 0 + 1 = r.val % 2; omega)]
    exact hs v

/-- A group of dequantised weights, element by element. -/
theorem grp_apply (a : Vec Ideal S1x64x512 .i8) (s : Vec Ideal S1x1x512 .bf16) (r : Fin 128) (c : Fin 512) :
    k0_pay38 (F := Ideal) a s (ix2 r c)
      = wt (a (ix3 (0 : Fin 1) (⟨r.val / 2, by omega⟩ : Fin 64) c)) (s (ix3 (0 : Fin 1) (0 : Fin 1) c)) r.val := by
  have hr := r.isLt
  have hc := c.isLt
  have ha : shapeCast S64x512 a shapeCasts_S1x64x512_S64x512 (ix2 (⟨r.val / 2, by omega⟩ : Fin 64) c)
      = a (ix3 (0 : Fin 1) (⟨r.val / 2, by omega⟩ : Fin 64) c) :=
    shapeCast_apply a _ _ _ (by
      rw [Shape.rowMajor_val_three, Shape.rowMajor_val_two]
      show (0 * 64 + r.val / 2) * 512 + c.val = r.val / 2 * 512 + c.val
      omega)
  have hsb : broadcastTo S128x512 (shapeCast S1x512 s shapeCasts_S1x1x512_S1x512) broadcasts_S1x512_S128x512 (ix2 r c)
      = s (ix3 (0 : Fin 1) (0 : Fin 1) c) := by
    pointwise
  unfold k0_pay38 wt
  show FloatOps.mulf (FloatOps.sitofp .bf16 (shapeCast S128x512 _ _ (ix2 r c))) (broadcastTo S128x512 _ _ (ix2 r c)) = _
  rw [interleave_apply, hsb]
  unfold half
  rw [← ha]
  rfl

/-- The gate-and-up weights of a column chunk, element by element. -/
theorem wGU_apply (x6 : GateW Ideal) (x7 : GateS Ideal) (q : ℕ) (hq : q < 4) (k : Fin 2048) (c : Fin 512) :
    wGU x6 x7 q hq (ix2 k c)
      = wt (x6 (ix3 (0 : Fin 1) (⟨k.val / 2, by omega⟩ : Fin 1024) (⟨512 * q + c.val, by omega⟩ : Fin 2048)))
          (x7 (ix3 (0 : Fin 1) (⟨k.val / 128, by omega⟩ : Fin 16) (⟨512 * q + c.val, by omega⟩ : Fin 2048))) k.val := by
  have hk := k.isLt
  have hc := c.isLt
  unfold wGU
  refine (concatenate_ofFn_apply (t := S2048x512) (s₁ := S128x512) (0 : Fin 2) (N := 16)
    (fun n => grpGU x6 x7 q n.val hq n.isLt) _ rfl 128 rfl (ix2 k c) ⟨k.val / 128, by omega⟩ rfl
    (ix2 (⟨k.val % 128, by omega⟩ : Fin 128) c) rfl (by
      intro b hb
      match b with
      | ⟨0, _⟩ => exact absurd rfl hb
      | ⟨1, _⟩ => rfl)).trans ?_
  show grpGU x6 x7 q (k.val / 128) hq _ (ix2 (⟨k.val % 128, by omega⟩ : Fin 128) c) = _
  unfold grpGU
  rw [grp_apply]
  unfold wt half
  rw [show k.val % 128 % 2 = k.val % 2 by omega]
  have e6 : ∀ h, (Rect.unit (s := S1x1024x2048) ![0, 64 * (k.val / 128), 512 * q] S1x64x512.size h).idx
      (ix3 (0 : Fin 1) (⟨k.val % 128 / 2, by omega⟩ : Fin 64) c)
      = ix3 (0 : Fin 1) (⟨k.val / 2, by omega⟩ : Fin 1024) (⟨512 * q + c.val, by omega⟩ : Fin 2048) := by
    intro h
    funext b
    refine Fin.ext ?_
    match b with
    | ⟨0, _⟩ => rfl
    | ⟨1, _⟩ => show 64 * (k.val / 128) + 1 * (k.val % 128 / 2) = k.val / 2; omega
    | ⟨2, _⟩ => show 512 * q + 1 * c.val = 512 * q + c.val; omega
  have e7 : ∀ h, (Rect.unit (s := S1x16x2048) ![0, k.val / 128, 512 * q] S1x1x512.size h).idx
      (ix3 (0 : Fin 1) (0 : Fin 1) c)
      = ix3 (0 : Fin 1) (⟨k.val / 128, by omega⟩ : Fin 16) (⟨512 * q + c.val, by omega⟩ : Fin 2048) := by
    intro h
    funext b
    refine Fin.ext ?_
    match b with
    | ⟨0, _⟩ => rfl
    | ⟨1, _⟩ => show k.val / 128 + 1 * 0 = k.val / 128; omega
    | ⟨2, _⟩ => show 512 * q + 1 * c.val = 512 * q + c.val; omega
  simp only [View.ld, e6, e7]

/-- The down weights of a column chunk, element by element. -/
theorem wD_apply (x8 : DownW Ideal) (x9 : DownS Ideal) (q : ℕ) (hq : q < 4) (k : Fin 1024) (c : Fin 512) :
    wD x8 x9 q hq (ix2 k c)
      = wt (x8 (ix3 (0 : Fin 1) (⟨k.val / 2, by omega⟩ : Fin 512) (⟨512 * q + c.val, by omega⟩ : Fin 2048)))
          (x9 (ix3 (0 : Fin 1) (⟨k.val / 128, by omega⟩ : Fin 8) (⟨512 * q + c.val, by omega⟩ : Fin 2048))) k.val := by
  have hk := k.isLt
  have hc := c.isLt
  unfold wD
  refine (concatenate_ofFn_apply (t := S1024x512) (s₁ := S128x512) (0 : Fin 2) (N := 8)
    (fun n => grpD x8 x9 q n.val hq n.isLt) _ rfl 128 rfl (ix2 k c) ⟨k.val / 128, by omega⟩ rfl
    (ix2 (⟨k.val % 128, by omega⟩ : Fin 128) c) rfl (by
      intro b hb
      match b with
      | ⟨0, _⟩ => exact absurd rfl hb
      | ⟨1, _⟩ => rfl)).trans ?_
  show grpD x8 x9 q (k.val / 128) hq _ (ix2 (⟨k.val % 128, by omega⟩ : Fin 128) c) = _
  unfold grpD
  rw [grp_apply]
  unfold wt half
  rw [show k.val % 128 % 2 = k.val % 2 by omega]
  have e6 : ∀ h, (Rect.unit (s := S1x512x2048) ![0, 64 * (k.val / 128), 512 * q] S1x64x512.size h).idx
      (ix3 (0 : Fin 1) (⟨k.val % 128 / 2, by omega⟩ : Fin 64) c)
      = ix3 (0 : Fin 1) (⟨k.val / 2, by omega⟩ : Fin 512) (⟨512 * q + c.val, by omega⟩ : Fin 2048) := by
    intro h
    funext b
    refine Fin.ext ?_
    match b with
    | ⟨0, _⟩ => rfl
    | ⟨1, _⟩ => show 64 * (k.val / 128) + 1 * (k.val % 128 / 2) = k.val / 2; omega
    | ⟨2, _⟩ => show 512 * q + 1 * c.val = 512 * q + c.val; omega
  have e7 : ∀ h, (Rect.unit (s := S1x8x2048) ![0, k.val / 128, 512 * q] S1x1x512.size h).idx
      (ix3 (0 : Fin 1) (0 : Fin 1) c)
      = ix3 (0 : Fin 1) (⟨k.val / 128, by omega⟩ : Fin 8) (⟨512 * q + c.val, by omega⟩ : Fin 2048) := by
    intro h
    funext b
    refine Fin.ext ?_
    match b with
    | ⟨0, _⟩ => rfl
    | ⟨1, _⟩ => show k.val / 128 + 1 * 0 = k.val / 128; omega
    | ⟨2, _⟩ => show 512 * q + 1 * c.val = 512 * q + c.val; omega
  simp only [View.ld, e6, e7]

end Cert.KernelIdeal.Hand
-- ==== Proof.Ideal.Full.lean ====
/-
  One element of what a tile of 256 rows writes: the feed-forward layer of the row, at its column.
-/
module

public import proofs.«01_k».proof.Proof.Ideal.Weights
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Dense

/-- The slot of a point: its number modulo two. -/
def slotOf (i : grid0.Coords) : Fin 2 := ⟨(i 0).val % 2, by omega⟩

/-- The slot as the program computes it. -/
theorem slot_toNat (i : grid0.Coords) : (Scalar.remsi (BitVec.ofNat 32 (i 0).val) 2#32 : BitVec 32).toNat = (i 0).val % 2 := by
  have hi : (i 0).val < 160 := (i 0).isLt
  have h : (BitVec.ofNat 32 (i 0).val).toNat = (i 0).val := by
    rw [BitVec.toNat_ofNat]; omega
  refine (IntOp.toNat_remsi .scalar (by rw [h]; omega) 2 (by norm_num) (by norm_num)).trans ?_
  rw [h]

/-- Line `h` of every row of the slot: the block of words of lines `h`, `h + 8`, … -/
def lines256 (i : grid0.Coords) (b : Vec Ideal S2x2048x128 .i32) (h : ℕ) : Vec Ideal S1x256x128 .i32 :=
  fun j => b (ix3 (slotOf i) ⟨(8 * (j 1).val + h % 8) % 2048, Nat.mod_lt _ (by omega)⟩ (j 2))

/-- A strided load of the slot reads such a block. -/
theorem lines256_eq (i : grid0.Coords) (b : Vec Ideal S2x2048x128 .i32) (h : ℕ) (hh : h < 8) (o : Fin 3 → ℕ)
    (ho : o = ![(Scalar.remsi (BitVec.ofNat 32 (i 0).val) 2#32 : BitVec 32).toNat, h, 0]) (inb) :
    (fun j => b ((⟨o, S1x256x128.size, ![1, 8, 1], inb⟩ : LoadRect S2x2048x128).idx j)) = lines256 i b h := by
  subst ho
  funext (j : S1x256x128.Idx)
  refine congrArg b (funext fun a => Fin.ext ?_)
  have h0 : (j 0).val < 1 := (j 0).isLt
  have h1 : (j 1).val < 256 := (j 1).isLt
  match a with
  | ⟨0, _⟩ =>
    show (Scalar.remsi (BitVec.ofNat 32 (i 0).val) 2#32 : BitVec 32).toNat + 1 * (j 0).val = (i 0).val % 2
    rw [slot_toNat]; omega
  | ⟨1, _⟩ => show h + 8 * (j 1).val = (8 * (j 1).val + h % 8) % 2048; omega
  | ⟨2, _⟩ => show 0 + 1 * (j 2).val = (j 2).val; omega

/-- The low halves of a block of words. -/
theorem low256 (v : Vec Ideal S1x256x128 .i32) (r : Fin 256) (l : Fin 128) :
    k0_pay13 (F := Ideal) v (ix2 r l) = FloatOps.truncf .bf16 bitsLt_bf16_f32 (FloatOps.ofBits (F := Ideal) .f32 (IntOp.shli .vector (v (ix3 (0 : Fin 1) r l)) 16#32)) := by
  have e : shapeCast S256x128 v shapeCasts_S1x256x128_S256x128 (ix2 r l) = v (ix3 (0 : Fin 1) r l) :=
    shapeCast_apply v _ _ _ (by
      rw [Shape.rowMajor_val_three, Shape.rowMajor_val_two]
      show (0 * 256 + r.val) * 128 + l.val = r.val * 128 + l.val
      omega)
  rw [← e]; rfl

/-- The high halves of a block of words. -/
theorem high256 (v : Vec Ideal S1x256x128 .i32) (r : Fin 256) (l : Fin 128) :
    k0_pay14 (F := Ideal) v (ix2 r l) = FloatOps.truncf .bf16 bitsLt_bf16_f32 (FloatOps.ofBits (F := Ideal) .f32 (IntOp.andi (v (ix3 (0 : Fin 1) r l)) 4294901760#32)) := by
  have e : shapeCast S256x128 v shapeCasts_S1x256x128_S256x128 (ix2 r l) = v (ix3 (0 : Fin 1) r l) :=
    shapeCast_apply v _ _ _ (by
      rw [Shape.rowMajor_val_three, Shape.rowMajor_val_two]
      show (0 * 256 + r.val) * 128 + l.val = r.val * 128 + l.val
      omega)
  rw [← e]; rfl

/-- The widened rows, element by element. -/
theorem xs256_apply (i : grid0.Coords) (b : Vec Ideal S2x2048x128 .i32) (r : Fin 256) (k : Fin 2048) :
    xs256 (F := Ideal) i b (ix2 r k)
      = xv (b (ix3 (slotOf i) (⟨8 * r.val + k.val / 256, by omega⟩ : Fin 2048) (⟨k.val % 128, by omega⟩ : Fin 128))) k.val := by
  have hk := k.isLt
  have hr := r.isLt
  unfold xs256
  rw [lines256_eq i b 0 (by omega) (k0_off5 i) rfl (k0_off5_inb i), lines256_eq i b 1 (by omega) (k0_off6 i) rfl (k0_off6_inb i),
    lines256_eq i b 2 (by omega) (k0_off7 i) rfl (k0_off7_inb i), lines256_eq i b 3 (by omega) (k0_off8 i) rfl (k0_off8_inb i),
    lines256_eq i b 4 (by omega) (k0_off9 i) rfl (k0_off9_inb i), lines256_eq i b 5 (by omega) (k0_off10 i) rfl (k0_off10_inb i),
    lines256_eq i b 6 (by omega) (k0_off11 i) rfl (k0_off11_inb i), lines256_eq i b 7 (by omega) (k0_off12 i) rfl (k0_off12_inb i)]
  refine (concatenate_ofFn_apply (t := S256x2048) (s₁ := S256x128) (1 : Fin 2) (N := 16)
    (fun n => bif n.val % 2 == 0 then k0_pay13 (F := Ideal) (lines256 i b (n.val / 2)) else k0_pay14 (F := Ideal) (lines256 i b (n.val / 2)))
    _ rfl 128 rfl (ix2 r k) ⟨k.val / 128, by omega⟩ rfl
    (ix2 r (⟨k.val % 128, by omega⟩ : Fin 128)) rfl (by
      intro b hb
      match b with
      | ⟨0, _⟩ => rfl
      | ⟨1, _⟩ => exact absurd rfl hb)).trans ?_
  have el : ∀ h : ℕ, h = k.val / 256 → lines256 i b h (ix3 (0 : Fin 1) r (⟨k.val % 128, by omega⟩ : Fin 128))
      = b (ix3 (slotOf i) (⟨8 * r.val + k.val / 256, by omega⟩ : Fin 2048) (⟨k.val % 128, by omega⟩ : Fin 128)) := by
    intro h hh
    unfold lines256
    refine congrArg b (funext fun a => Fin.ext ?_)
    match a with
    | ⟨0, _⟩ => rfl
    | ⟨1, _⟩ => show (8 * r.val + h % 8) % 2048 = 8 * r.val + k.val / 256; omega
    | ⟨2, _⟩ => rfl
  unfold xv
  by_cases h : k.val / 128 % 2 = 0
  · simp only [h, beq_self_eq_true, cond_true, if_true]
    rw [low256, el _ (by omega)]
  · have h1 : k.val / 128 % 2 = 1 := by omega
    simp only [h1, show ((1 : ℕ) == 0) = false from rfl, cond_false, if_neg (show ¬ (1 : ℕ) = 0 by omega)]
    rw [high256, el _ (by omega)]

/-- The product with a chunk of the gate-and-up weights, element by element. -/
theorem gu256_apply (xs : FVec Ideal S256x2048 .bf16) (x6 : GateW Ideal) (x7 : GateS Ideal) (q : ℕ) (hq : q < 4) (r : Fin 256) (c : Fin 512) :
    gu256 xs x6 x7 q hq (ix2 r c)
      = Dense.gu (fun k => xs (ix2 r k)) (fun k c => wt (x6 (ix3 (0 : Fin 1) (⟨k.val / 2, by omega⟩ : Fin 1024) c))
          (x7 (ix3 (0 : Fin 1) (⟨k.val / 128, by omega⟩ : Fin 16) c)) k.val) ⟨512 * q + c.val, by omega⟩ := by
  have e : gu256 xs x6 x7 q hq (ix2 r c) = ∑ k : Fin 2048, xs (ix2 r k) * wGU x6 x7 q hq (ix2 k c) := by
    unfold gu256
    generalize wGU x6 x7 q hq = w
    pointwise
  rw [e]
  unfold Dense.gu
  exact Finset.sum_congr rfl fun k _ => by rw [wGU_apply]

/-- The row's activations, element by element. -/
theorem act256_apply (xs : FVec Ideal S256x2048 .bf16) (x6 : GateW Ideal) (x7 : GateS Ideal) (r : Fin 256) (k : Fin 1024) :
    act256 xs x6 x7 (ix2 r k)
      = Dense.act (fun k => xs (ix2 r k)) (fun k c => wt (x6 (ix3 (0 : Fin 1) (⟨k.val / 2, by omega⟩ : Fin 1024) c))
          (x7 (ix3 (0 : Fin 1) (⟨k.val / 128, by omega⟩ : Fin 16) c)) k.val) k := by
  have hk := k.isLt
  have hr := r.isLt
  have piece : ∀ (q : ℕ) (hq : q < 2) (c : Fin 512), 512 * q + c.val = k.val →
      actC256 xs x6 x7 q hq (ix2 r c) = Dense.act (fun k => xs (ix2 r k)) (fun k c => wt (x6 (ix3 (0 : Fin 1) (⟨k.val / 2, by omega⟩ : Fin 1024) c))
          (x7 (ix3 (0 : Fin 1) (⟨k.val / 128, by omega⟩ : Fin 16) c)) k.val) k := by
    intro q hq c hc
    unfold actC256 Dense.act
    rw [shapeCast_apply _ _ (ix2 r c) (ix2 r c) rfl]
    show FloatOps.truncf .bf16 _ (FloatOps.mulf (FloatOps.mulf (gu256 xs x6 x7 q _ (ix2 r c)) (FloatOps.logistic (gu256 xs x6 x7 q _ (ix2 r c)))) (gu256 xs x6 x7 (q + 2) _ (ix2 r c))) = _
    rw [gu256_apply, gu256_apply]
    have e1 : (⟨512 * q + c.val, by omega⟩ : Fin 2048) = ⟨k.val, by omega⟩ := Fin.ext hc
    have e2 : (⟨512 * (q + 2) + c.val, by omega⟩ : Fin 2048) = ⟨k.val + 1024, by omega⟩ := Fin.ext (by show 512 * (q + 2) + c.val = k.val + 1024; omega)
    rw [e1, e2]
  have ei : (Rect.unit (s := S256x1024) ![0, 0] S256x1024.size inb_S256x1024_S256x1024_0_0).toLoadRect.idx (ix2 r k) = ix2 r k := by
    funext a
    refine Fin.ext ?_
    match a with
    | ⟨0, _⟩ => show 0 + 1 * r.val = r.val; omega
    | ⟨1, _⟩ => show 0 + 1 * k.val = k.val; omega
  show View.canon (actL256 xs x6 x7) ((Rect.unit (s := S256x1024) ![0, 0] S256x1024.size inb_S256x1024_S256x1024_0_0).toLoadRect.idx (ix2 r k)) = _
  rw [ei]
  have mk : ∀ (x : S256x512.Idx) (h0 : r.val = (x 0).val), x = ix2 r (x 1) := fun x h0 => by
    funext a
    match a with
    | ⟨0, _⟩ => exact Fin.ext h0.symm
    | ⟨1, _⟩ => rfl
  refine View.canon_eq_of_allAt _ _ _ ?_ ?_
  · by_cases h : k.val < 512
    · refine ⟨_, List.mem_cons_of_mem _ List.mem_cons_self, (Rect.mem_set_unit (s := S256x1024) (inb := inb_S256x1024_S256x512_0_0)).2 fun a => ?_⟩
      match a with
      | ⟨0, _⟩ => exact ⟨Nat.zero_le _, by show r.val < 0 + 256; omega⟩
      | ⟨1, _⟩ => exact ⟨Nat.zero_le _, by show k.val < 0 + 512; omega⟩
    · refine ⟨_, List.mem_cons_self, (Rect.mem_set_unit (s := S256x1024) (inb := inb_S256x1024_S256x512_0_512)).2 fun a => ?_⟩
      match a with
      | ⟨0, _⟩ => exact ⟨Nat.zero_le _, by show r.val < 0 + 256; omega⟩
      | ⟨1, _⟩ => exact ⟨by show 512 ≤ k.val; omega, by show k.val < 512 + 512; omega⟩
  · intro p hp
    rcases List.mem_cons.1 hp with rfl | hp
    · intro (x : S256x512.Idx) hx
      have h0 : 0 + 1 * (x 0).val = r.val := congrArg Fin.val (congrFun hx 0)
      have h1 : 512 + 1 * (x 1).val = k.val := congrArg Fin.val (congrFun hx 1)
      show actC256 xs x6 x7 1 (by omega) x = _
      rw [mk x (by omega)]
      exact piece 1 (by omega) (x 1) (by omega)
    · rcases List.mem_cons.1 hp with rfl | hp
      · intro (x : S256x512.Idx) hx
        have h0 : 0 + 1 * (x 0).val = r.val := congrArg Fin.val (congrFun hx 0)
        have h1 : 0 + 1 * (x 1).val = k.val := congrArg Fin.val (congrFun hx 1)
        show actC256 xs x6 x7 0 (by omega) x = _
        rw [mk x (by omega)]
        exact piece 0 (by omega) (x 1) (by omega)
      · exact absurd hp List.not_mem_nil

/-- The rows' scales as a column, element by element. -/
theorem scales256 (x4 : Vec Ideal S1x2x128 .f32) (r : Fin 256) :
    k0_pay144 (F := Ideal) x4 (ix2 r (0 : Fin 1)) = x4 (ix3 (0 : Fin 1) (⟨r.val / 128, by omega⟩ : Fin 2) (⟨r.val % 128, by omega⟩ : Fin 128)) := by
  have hr := r.isLt
  unfold k0_pay144
  have hcol : ∀ (o : ℕ) (ho : o < 2) (h : S128x8.Slices ![0, o] S128x1) (a : Fin 128),
      extractStridedSlice S128x1 ![0, o] (transpose S128x8 [1, 0] (concatenate S8x128 0 [⟨S2x128, shapeCast S2x128 x4 shapeCasts_S1x2x128_S2x128⟩, ⟨S6x128, broadcast S6x128 (Scalar.ofBits (F := Ideal) .f32 0x00000000#32)⟩] concatenates_S2x128_S6x128_S8x128_d0) transposes_S8x128_p1_0_S128x8) h (ix2 a (0 : Fin 1))
        = x4 (ix3 (0 : Fin 1) (⟨o, ho⟩ : Fin 2) a) := by
    intro o ho h a
    pointwise
    exact dif_pos ho
  by_cases hlt : r.val < 128
  · refine (concatenate_pair_apply_left (s₁ := S128x1) (s₂ := S128x1) (t := S256x1) 0 _ _ _ _ rfl
      (ix2 (⟨r.val, hlt⟩ : Fin 128) (0 : Fin 1)) (by
        intro b
        match b with
        | ⟨0, _⟩ => rfl
        | ⟨1, _⟩ => rfl)).trans ((hcol 0 (by omega) _ _).trans ?_)
    refine congrArg x4 (funext fun a => Fin.ext ?_)
    match a with
    | ⟨0, _⟩ => rfl
    | ⟨1, _⟩ => show 0 = r.val / 128; omega
    | ⟨2, _⟩ => show r.val = r.val % 128; omega
  · refine (concatenate_pair_apply_right (s₁ := S128x1) (s₂ := S128x1) (t := S256x1) 0 _ _ _ _ rfl rfl
      (ix2 (⟨r.val - 128, by omega⟩ : Fin 128) (0 : Fin 1)) (by
        intro b hb
        match b with
        | ⟨0, _⟩ => exact absurd rfl hb
        | ⟨1, _⟩ => rfl) (by show r.val - 128 + 128 = r.val; omega)).trans ((hcol 1 (by omega) _ _).trans ?_)
    refine congrArg x4 (funext fun a => Fin.ext ?_)
    match a with
    | ⟨0, _⟩ => rfl
    | ⟨1, _⟩ => show 1 = r.val / 128; omega
    | ⟨2, _⟩ => show r.val - 128 = r.val % 128; omega

/-- One chunk of the outputs, element by element. -/
theorem dn256_apply (a : FVec Ideal S256x1024 .bf16) (g : FVec Ideal S256x1 .f32) (x8 : DownW Ideal) (x9 : DownS Ideal) (q : ℕ) (hq : q < 4)
    (r : Fin 256) (c : Fin 512) :
    dn256 a g x8 x9 q hq (ix2 r c)
      = FloatOps.mulf (F := Ideal) (φ := .f32) (∑ k : Fin 1024, a (ix2 r k) * wt (x8 (ix3 (0 : Fin 1) (⟨k.val / 2, by omega⟩ : Fin 512) (⟨512 * q + c.val, by omega⟩ : Fin 2048)))
          (x9 (ix3 (0 : Fin 1) (⟨k.val / 128, by omega⟩ : Fin 8) (⟨512 * q + c.val, by omega⟩ : Fin 2048))) k.val) (g (ix2 r (0 : Fin 1))) := by
  have e : dn256 a g x8 x9 q hq (ix2 r c) = FloatOps.mulf (F := Ideal) (φ := .f32) (∑ k : Fin 1024, a (ix2 r k) * wD x8 x9 q hq (ix2 k c)) (g (ix2 r (0 : Fin 1))) := by
    unfold dn256
    generalize wD x8 x9 q hq = w
    pointwise
  rw [e]
  simp only [wD_apply]

/-- The stores into the output block as a family: the `k`-th from the end writes line `15 - k` of every row. -/
theorem outL256_eq (a : FVec Ideal S256x1024 .bf16) (g : FVec Ideal S256x1 .f32) (x8 : DownW Ideal) (x9 : DownS Ideal) :
    outL256 a g x8 x9 = List.ofFn fun k : Fin 16 =>
      (⟨⟨(⟨![15 - k.val, 0], S256x128.size, ![24, 1], by
          have hk := k.isLt
          intro x
          match x with
          | ⟨0, _⟩ => exact Or.inr (by show 15 - k.val + 24 * 255 < 6144; omega)
          | ⟨1, _⟩ => exact Or.inr (by show 0 + 1 * 127 < 128; omega)⟩ : LoadRect S6144x128), spos_24_1⟩,
        extractStridedSlice S256x128 ![0, 128 * ((15 - k.val) % 4)] (dn256 a g x8 x9 ((15 - k.val) / 4) (by omega)) (by
          have hk : (15 - k.val) % 4 < 4 := Nat.mod_lt _ (by omega)
          interval_cases (15 - k.val) % 4 <;> decide)⟩ : View.Piece (Elt Ideal) S6144x128 .f32) := by
  unfold outL256
  generalize dn256 a g x8 x9 = D
  rfl

/-- Whatever the block held and whichever view it is read through, line `c` of row `r` of the tile reads the row's results at the columns
    of the line. -/
theorem tile256_apply {sig : RefSig} {κ : Kind} {sp : Space} (v : View sig κ sp S6144x128 .f32) (f : v.ty.Contents (Elt Ideal))
    (i : grid0.Coords) (b : Vec Ideal S2x2048x128 .i32) (x4 : Vec Ideal S1x2x128 .f32) (x6 : GateW Ideal) (x7 : GateS Ideal)
    (x8 : DownW Ideal) (x9 : DownS Ideal) (r : Fin 256) (c : Fin 16) (l : Fin 128) :
    v.read (Elt Ideal) (v.writes (Elt Ideal) f (tile256 i b x4 x6 x7 x8 x9)) (ix2 (⟨24 * r.val + c.val, by omega⟩ : Fin 6144) l)
      = Dense.out (fun k => xv (b (ix3 (slotOf i) (⟨8 * r.val + k.val / 256, by omega⟩ : Fin 2048) (⟨k.val % 128, by omega⟩ : Fin 128))) k.val)
          (fun k c => wt (x6 (ix3 (0 : Fin 1) (⟨k.val / 2, by omega⟩ : Fin 1024) c)) (x7 (ix3 (0 : Fin 1) (⟨k.val / 128, by omega⟩ : Fin 16) c)) k.val)
          (fun k c => wt (x8 (ix3 (0 : Fin 1) (⟨k.val / 2, by omega⟩ : Fin 512) c)) (x9 (ix3 (0 : Fin 1) (⟨k.val / 128, by omega⟩ : Fin 8) c)) k.val)
          (x4 (ix3 (0 : Fin 1) (⟨r.val / 128, by omega⟩ : Fin 2) (⟨r.val % 128, by omega⟩ : Fin 128))) ⟨128 * c.val + l.val, by omega⟩ := by
  have hr := r.isLt
  have hc := c.isLt
  have hl := l.isLt
  unfold tile256
  rw [outL256_eq]
  have hcov : ∃ k : Fin 16, ∀ hin hsp, (ix2 (⟨24 * r.val + c.val, by omega⟩ : Fin 6144) l : S6144x128.Idx) ∈
      (⟨(⟨![15 - k.val, 0], S256x128.size, ![24, 1], hin⟩ : LoadRect S6144x128), hsp⟩ : Rect S6144x128).set := by
    refine ⟨⟨15 - c.val, by omega⟩, fun hin hsp => (LoadRect.mem_set _).2 fun a => ?_⟩
    match a with
    | ⟨0, _⟩ => exact ⟨r.val, hr, by show 24 * r.val + c.val = 15 - (15 - c.val) + 24 * r.val; omega⟩
    | ⟨1, _⟩ => exact ⟨l.val, hl, by show l.val = 0 + 1 * l.val; omega⟩
  rw [View.read_writes_apply_eq_canon]
  · refine View.canon_ofFn_eq_of_forall _ _ _ _ (hcov.imp fun k hk => hk _ _) ?_
    intro k (x : S256x128.Idx) hx
    have hk := k.isLt
    have hx0 : (x 0).val < 256 := (x 0).isLt
    have h0 : 15 - k.val + 24 * (x 0).val = 24 * r.val + c.val := congrArg Fin.val (congrFun hx 0)
    have h1 : 0 + 1 * (x 1).val = l.val := congrArg Fin.val (congrFun hx 1)
    have ec : 15 - k.val = c.val := by omega
    have er : (x 0).val = r.val := by omega
    have es : (128 * ((15 - k.val) % 4) + l.val) < 512 := by omega
    show extractStridedSlice S256x128 ![0, 128 * ((15 - k.val) % 4)] (dn256 _ _ x8 x9 ((15 - k.val) / 4) _) _ x = _
    rw [extractStridedSlice_apply _ _ _ x (ix2 r (⟨128 * ((15 - k.val) % 4) + l.val, es⟩ : Fin 512)) (by
      intro a
      match a with
      | ⟨0, _⟩ => show r.val = 0 + (x 0).val; omega
      | ⟨1, _⟩ => show 128 * ((15 - k.val) % 4) + l.val = 128 * ((15 - k.val) % 4) + (x 1).val; omega)]
    have eg : ∀ h, (Rect.unit (s := S1x2x128) ![0, 0, 0] S1x2x128.size h).idx
        (ix3 (0 : Fin 1) (⟨r.val / 128, by omega⟩ : Fin 2) (⟨r.val % 128, by omega⟩ : Fin 128))
        = ix3 (0 : Fin 1) (⟨r.val / 128, by omega⟩ : Fin 2) (⟨r.val % 128, by omega⟩ : Fin 128) := by
      intro h
      funext a
      refine Fin.ext ?_
      match a with
      | ⟨0, _⟩ => rfl
      | ⟨1, _⟩ => show 0 + 1 * (r.val / 128) = r.val / 128; omega
      | ⟨2, _⟩ => show 0 + 1 * (r.val % 128) = r.val % 128; omega
    rw [dn256_apply, scales256]
    unfold Dense.out
    have ecol : (⟨512 * ((15 - k.val) / 4) + (128 * ((15 - k.val) % 4) + l.val), by omega⟩ : Fin 2048) = ⟨128 * c.val + l.val, by omega⟩ :=
      Fin.ext (by show 512 * ((15 - k.val) / 4) + (128 * ((15 - k.val) % 4) + l.val) = 128 * c.val + l.val; omega)
    simp only [ecol, act256_apply, xs256_apply, View.ld, eg]
  · obtain ⟨k, hk⟩ := hcov
    exact ⟨_, List.mem_ofFn.mpr ⟨k, rfl⟩, hk _ _⟩

end Cert.KernelIdeal.Hand
-- ==== Proof.Ideal.Half.lean ====
/-
  One element of what a tile of 128 rows writes: the feed-forward layer of the row, at its column.
-/
module

public import proofs.«01_k».proof.Proof.Ideal.Full
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Dense

/-- Line `h` of the first 128 rows of the slot: the block of words of lines `h`, `h + 8`, … -/
def lines128 (i : grid0.Coords) (b : Vec Ideal S2x2048x128 .i32) (h : ℕ) : Vec Ideal S1x128x128 .i32 :=
  fun j => b (ix3 (slotOf i) ⟨(8 * (j 1).val + h % 8) % 2048, Nat.mod_lt _ (by omega)⟩ (j 2))

/-- A strided load of the slot reads such a block. -/
theorem lines128_eq (i : grid0.Coords) (b : Vec Ideal S2x2048x128 .i32) (h : ℕ) (hh : h < 8) (o : Fin 3 → ℕ)
    (ho : o = ![(Scalar.remsi (BitVec.ofNat 32 (i 0).val) 2#32 : BitVec 32).toNat, h, 0]) (inb) :
    (fun j => b ((⟨o, S1x128x128.size, ![1, 8, 1], inb⟩ : LoadRect S2x2048x128).idx j)) = lines128 i b h := by
  subst ho
  funext (j : S1x128x128.Idx)
  refine congrArg b (funext fun a => Fin.ext ?_)
  have h0 : (j 0).val < 1 := (j 0).isLt
  have h1 : (j 1).val < 128 := (j 1).isLt
  match a with
  | ⟨0, _⟩ =>
    show (Scalar.remsi (BitVec.ofNat 32 (i 0).val) 2#32 : BitVec 32).toNat + 1 * (j 0).val = (i 0).val % 2
    rw [slot_toNat]; omega
  | ⟨1, _⟩ => show h + 8 * (j 1).val = (8 * (j 1).val + h % 8) % 2048; omega
  | ⟨2, _⟩ => show 0 + 1 * (j 2).val = (j 2).val; omega

/-- The low halves of a block of words. -/
theorem low128 (v : Vec Ideal S1x128x128 .i32) (r : Fin 128) (l : Fin 128) :
    k0_pay210 (F := Ideal) v (ix2 r l) = FloatOps.truncf .bf16 bitsLt_bf16_f32 (FloatOps.ofBits (F := Ideal) .f32 (IntOp.shli .vector (v (ix3 (0 : Fin 1) r l)) 16#32)) := by
  have e : shapeCast S128x128 v shapeCasts_S1x128x128_S128x128 (ix2 r l) = v (ix3 (0 : Fin 1) r l) :=
    shapeCast_apply v _ _ _ (by
      rw [Shape.rowMajor_val_three, Shape.rowMajor_val_two]
      show (0 * 128 + r.val) * 128 + l.val = r.val * 128 + l.val
      omega)
  rw [← e]; rfl

/-- The high halves of a block of words. -/
theorem high128 (v : Vec Ideal S1x128x128 .i32) (r : Fin 128) (l : Fin 128) :
    k0_pay211 (F := Ideal) v (ix2 r l) = FloatOps.truncf .bf16 bitsLt_bf16_f32 (FloatOps.ofBits (F := Ideal) .f32 (IntOp.andi (v (ix3 (0 : Fin 1) r l)) 4294901760#32)) := by
  have e : shapeCast S128x128 v shapeCasts_S1x128x128_S128x128 (ix2 r l) = v (ix3 (0 : Fin 1) r l) :=
    shapeCast_apply v _ _ _ (by
      rw [Shape.rowMajor_val_three, Shape.rowMajor_val_two]
      show (0 * 128 + r.val) * 128 + l.val = r.val * 128 + l.val
      omega)
  rw [← e]; rfl

/-- The widened rows, element by element. -/
theorem xs128_apply (i : grid0.Coords) (b : Vec Ideal S2x2048x128 .i32) (r : Fin 128) (k : Fin 2048) :
    xs128 (F := Ideal) i b (ix2 r k)
      = xv (b (ix3 (slotOf i) (⟨8 * r.val + k.val / 256, by omega⟩ : Fin 2048) (⟨k.val % 128, by omega⟩ : Fin 128))) k.val := by
  have hk := k.isLt
  have hr := r.isLt
  unfold xs128
  rw [lines128_eq i b 0 (by omega) (k0_off16 i) rfl (k0_off16_inb i), lines128_eq i b 1 (by omega) (k0_off17 i) rfl (k0_off17_inb i),
    lines128_eq i b 2 (by omega) (k0_off18 i) rfl (k0_off18_inb i), lines128_eq i b 3 (by omega) (k0_off19 i) rfl (k0_off19_inb i),
    lines128_eq i b 4 (by omega) (k0_off20 i) rfl (k0_off20_inb i), lines128_eq i b 5 (by omega) (k0_off21 i) rfl (k0_off21_inb i),
    lines128_eq i b 6 (by omega) (k0_off22 i) rfl (k0_off22_inb i), lines128_eq i b 7 (by omega) (k0_off23 i) rfl (k0_off23_inb i)]
  refine (concatenate_ofFn_apply (t := S128x2048) (s₁ := S128x128) (1 : Fin 2) (N := 16)
    (fun n => bif n.val % 2 == 0 then k0_pay210 (F := Ideal) (lines128 i b (n.val / 2)) else k0_pay211 (F := Ideal) (lines128 i b (n.val / 2)))
    _ rfl 128 rfl (ix2 r k) ⟨k.val / 128, by omega⟩ rfl
    (ix2 r (⟨k.val % 128, by omega⟩ : Fin 128)) rfl (by
      intro b hb
      match b with
      | ⟨0, _⟩ => rfl
      | ⟨1, _⟩ => exact absurd rfl hb)).trans ?_
  have el : ∀ h : ℕ, h = k.val / 256 → lines128 i b h (ix3 (0 : Fin 1) r (⟨k.val % 128, by omega⟩ : Fin 128))
      = b (ix3 (slotOf i) (⟨8 * r.val + k.val / 256, by omega⟩ : Fin 2048) (⟨k.val % 128, by omega⟩ : Fin 128)) := by
    intro h hh
    unfold lines128
    refine congrArg b (funext fun a => Fin.ext ?_)
    match a with
    | ⟨0, _⟩ => rfl
    | ⟨1, _⟩ => show (8 * r.val + h % 8) % 2048 = 8 * r.val + k.val / 256; omega
    | ⟨2, _⟩ => rfl
  unfold xv
  by_cases h : k.val / 128 % 2 = 0
  · simp only [h, beq_self_eq_true, cond_true, if_true]
    rw [low128, el _ (by omega)]
  · have h1 : k.val / 128 % 2 = 1 := by omega
    simp only [h1, show ((1 : ℕ) == 0) = false from rfl, cond_false, if_neg (show ¬ (1 : ℕ) = 0 by omega)]
    rw [high128, el _ (by omega)]

/-- The product with a chunk of the gate-and-up weights, element by element. -/
theorem gu128_apply (xs : FVec Ideal S128x2048 .bf16) (x6 : GateW Ideal) (x7 : GateS Ideal) (q : ℕ) (hq : q < 4) (r : Fin 128) (c : Fin 512) :
    gu128 xs x6 x7 q hq (ix2 r c)
      = Dense.gu (fun k => xs (ix2 r k)) (fun k c => wt (x6 (ix3 (0 : Fin 1) (⟨k.val / 2, by omega⟩ : Fin 1024) c))
          (x7 (ix3 (0 : Fin 1) (⟨k.val / 128, by omega⟩ : Fin 16) c)) k.val) ⟨512 * q + c.val, by omega⟩ := by
  have e : gu128 xs x6 x7 q hq (ix2 r c) = ∑ k : Fin 2048, xs (ix2 r k) * wGU x6 x7 q hq (ix2 k c) := by
    unfold gu128
    generalize wGU x6 x7 q hq = w
    pointwise
  rw [e]
  unfold Dense.gu
  exact Finset.sum_congr rfl fun k _ => by rw [wGU_apply]

/-- The row's activations, element by element. -/
theorem act128_apply (xs : FVec Ideal S128x2048 .bf16) (x6 : GateW Ideal) (x7 : GateS Ideal) (r : Fin 128) (k : Fin 1024) :
    act128 xs x6 x7 (ix2 r k)
      = Dense.act (fun k => xs (ix2 r k)) (fun k c => wt (x6 (ix3 (0 : Fin 1) (⟨k.val / 2, by omega⟩ : Fin 1024) c))
          (x7 (ix3 (0 : Fin 1) (⟨k.val / 128, by omega⟩ : Fin 16) c)) k.val) k := by
  have hk := k.isLt
  have hr := r.isLt
  have piece : ∀ (q : ℕ) (hq : q < 2) (c : Fin 512), 512 * q + c.val = k.val →
      actC128 xs x6 x7 q hq (ix2 r c) = Dense.act (fun k => xs (ix2 r k)) (fun k c => wt (x6 (ix3 (0 : Fin 1) (⟨k.val / 2, by omega⟩ : Fin 1024) c))
          (x7 (ix3 (0 : Fin 1) (⟨k.val / 128, by omega⟩ : Fin 16) c)) k.val) k := by
    intro q hq c hc
    unfold actC128 Dense.act
    rw [shapeCast_apply _ _ (ix2 r c) (ix2 r c) rfl]
    show FloatOps.truncf .bf16 _ (FloatOps.mulf (FloatOps.mulf (gu128 xs x6 x7 q _ (ix2 r c)) (FloatOps.logistic (gu128 xs x6 x7 q _ (ix2 r c)))) (gu128 xs x6 x7 (q + 2) _ (ix2 r c))) = _
    rw [gu128_apply, gu128_apply]
    have e1 : (⟨512 * q + c.val, by omega⟩ : Fin 2048) = ⟨k.val, by omega⟩ := Fin.ext hc
    have e2 : (⟨512 * (q + 2) + c.val, by omega⟩ : Fin 2048) = ⟨k.val + 1024, by omega⟩ := Fin.ext (by show 512 * (q + 2) + c.val = k.val + 1024; omega)
    rw [e1, e2]
  have ei : (Rect.unit (s := S256x1024) ![0, 0] S128x1024.size inb_S256x1024_S128x1024_0_0).toLoadRect.idx (ix2 r k) = (ix2 (⟨r.val, by omega⟩ : Fin 256) k : S256x1024.Idx) := by
    funext a
    refine Fin.ext ?_
    match a with
    | ⟨0, _⟩ => show 0 + 1 * r.val = r.val; omega
    | ⟨1, _⟩ => show 0 + 1 * k.val = k.val; omega
  show View.canon (actL128 xs x6 x7) ((Rect.unit (s := S256x1024) ![0, 0] S128x1024.size inb_S256x1024_S128x1024_0_0).toLoadRect.idx (ix2 r k)) = _
  rw [ei]
  have mk : ∀ (x : S128x512.Idx) (h0 : r.val = (x 0).val), x = ix2 r (x 1) := fun x h0 => by
    funext a
    match a with
    | ⟨0, _⟩ => exact Fin.ext h0.symm
    | ⟨1, _⟩ => rfl
  refine View.canon_eq_of_allAt _ _ _ ?_ ?_
  · by_cases h : k.val < 512
    · refine ⟨_, List.mem_cons_of_mem _ List.mem_cons_self, (Rect.mem_set_unit (s := S256x1024) (inb := inb_S256x1024_S128x512_0_0)).2 fun a => ?_⟩
      match a with
      | ⟨0, _⟩ => exact ⟨Nat.zero_le _, by show r.val < 0 + 128; omega⟩
      | ⟨1, _⟩ => exact ⟨Nat.zero_le _, by show k.val < 0 + 512; omega⟩
    · refine ⟨_, List.mem_cons_self, (Rect.mem_set_unit (s := S256x1024) (inb := inb_S256x1024_S128x512_0_512)).2 fun a => ?_⟩
      match a with
      | ⟨0, _⟩ => exact ⟨Nat.zero_le _, by show r.val < 0 + 128; omega⟩
      | ⟨1, _⟩ => exact ⟨by show 512 ≤ k.val; omega, by show k.val < 512 + 512; omega⟩
  · intro p hp
    rcases List.mem_cons.1 hp with rfl | hp
    · intro (x : S128x512.Idx) hx
      have h0 : 0 + 1 * (x 0).val = r.val := congrArg Fin.val (congrFun hx 0)
      have h1 : 512 + 1 * (x 1).val = k.val := congrArg Fin.val (congrFun hx 1)
      show actC128 xs x6 x7 1 (by omega) x = _
      rw [mk x (by omega)]
      exact piece 1 (by omega) (x 1) (by omega)
    · rcases List.mem_cons.1 hp with rfl | hp
      · intro (x : S128x512.Idx) hx
        have h0 : 0 + 1 * (x 0).val = r.val := congrArg Fin.val (congrFun hx 0)
        have h1 : 0 + 1 * (x 1).val = k.val := congrArg Fin.val (congrFun hx 1)
        show actC128 xs x6 x7 0 (by omega) x = _
        rw [mk x (by omega)]
        exact piece 0 (by omega) (x 1) (by omega)
      · exact absurd hp List.not_mem_nil

/-- The rows' scales as a column, element by element. -/
theorem scales128 (x4 : Vec Ideal S1x2x128 .f32) (r : Fin 128) :
    k0_pay341 (F := Ideal) x4 (ix2 r (0 : Fin 1)) = x4 (ix3 (0 : Fin 1) (⟨r.val / 128, by omega⟩ : Fin 2) (⟨r.val % 128, by omega⟩ : Fin 128)) := by
  have hr := r.isLt
  unfold k0_pay341
  have hcol : ∀ (o : ℕ) (ho : o < 2) (h : S128x8.Slices ![0, o] S128x1) (a : Fin 128),
      extractStridedSlice S128x1 ![0, o] (transpose S128x8 [1, 0] (concatenate S8x128 0 [⟨S2x128, shapeCast S2x128 x4 shapeCasts_S1x2x128_S2x128⟩, ⟨S6x128, broadcast S6x128 (Scalar.ofBits (F := Ideal) .f32 0x00000000#32)⟩] concatenates_S2x128_S6x128_S8x128_d0) transposes_S8x128_p1_0_S128x8) h (ix2 a (0 : Fin 1))
        = x4 (ix3 (0 : Fin 1) (⟨o, ho⟩ : Fin 2) a) := by
    intro o ho h a
    pointwise
    exact dif_pos ho
  refine (hcol 0 (by omega) _ _).trans ?_
  refine congrArg x4 (funext fun a => Fin.ext ?_)
  match a with
  | ⟨0, _⟩ => rfl
  | ⟨1, _⟩ => show 0 = r.val / 128; omega
  | ⟨2, _⟩ => show r.val = r.val % 128; omega

/-- One chunk of the outputs, element by element. -/
theorem dn128_apply (a : FVec Ideal S128x1024 .bf16) (g : FVec Ideal S128x1 .f32) (x8 : DownW Ideal) (x9 : DownS Ideal) (q : ℕ) (hq : q < 4)
    (r : Fin 128) (c : Fin 512) :
    dn128 a g x8 x9 q hq (ix2 r c)
      = FloatOps.mulf (F := Ideal) (φ := .f32) (∑ k : Fin 1024, a (ix2 r k) * wt (x8 (ix3 (0 : Fin 1) (⟨k.val / 2, by omega⟩ : Fin 512) (⟨512 * q + c.val, by omega⟩ : Fin 2048)))
          (x9 (ix3 (0 : Fin 1) (⟨k.val / 128, by omega⟩ : Fin 8) (⟨512 * q + c.val, by omega⟩ : Fin 2048))) k.val) (g (ix2 r (0 : Fin 1))) := by
  have e : dn128 a g x8 x9 q hq (ix2 r c) = FloatOps.mulf (F := Ideal) (φ := .f32) (∑ k : Fin 1024, a (ix2 r k) * wD x8 x9 q hq (ix2 k c)) (g (ix2 r (0 : Fin 1))) := by
    unfold dn128
    generalize wD x8 x9 q hq = w
    pointwise
  rw [e]
  simp only [wD_apply]

/-- The stores into the output block as a family: the `k`-th from the end writes line `15 - k` of every row. -/
theorem outL128_eq (a : FVec Ideal S128x1024 .bf16) (g : FVec Ideal S128x1 .f32) (x8 : DownW Ideal) (x9 : DownS Ideal) :
    outL128 a g x8 x9 = List.ofFn fun k : Fin 16 =>
      (⟨⟨(⟨![15 - k.val, 0], S128x128.size, ![24, 1], by
          have hk := k.isLt
          intro x
          match x with
          | ⟨0, _⟩ => exact Or.inr (by show 15 - k.val + 24 * 127 < 6144; omega)
          | ⟨1, _⟩ => exact Or.inr (by show 0 + 1 * 127 < 128; omega)⟩ : LoadRect S6144x128), spos_24_1⟩,
        extractStridedSlice S128x128 ![0, 128 * ((15 - k.val) % 4)] (dn128 a g x8 x9 ((15 - k.val) / 4) (by omega)) (by
          have hk : (15 - k.val) % 4 < 4 := Nat.mod_lt _ (by omega)
          interval_cases (15 - k.val) % 4 <;> decide)⟩ : View.Piece (Elt Ideal) S6144x128 .f32) := by
  unfold outL128
  generalize dn128 a g x8 x9 = D
  rfl

/-- Whatever the block held and whichever view it is read through, line `c` of row `r` of the tile reads the row's results at the columns
    of the line. -/
theorem tile128_apply {sig : RefSig} {κ : Kind} {sp : Space} (v : View sig κ sp S6144x128 .f32) (f : v.ty.Contents (Elt Ideal))
    (i : grid0.Coords) (b : Vec Ideal S2x2048x128 .i32) (x4 : Vec Ideal S1x2x128 .f32) (x6 : GateW Ideal) (x7 : GateS Ideal)
    (x8 : DownW Ideal) (x9 : DownS Ideal) (r : Fin 128) (c : Fin 16) (l : Fin 128) :
    v.read (Elt Ideal) (v.writes (Elt Ideal) f (tile128 i b x4 x6 x7 x8 x9)) (ix2 (⟨24 * r.val + c.val, by omega⟩ : Fin 6144) l)
      = Dense.out (fun k => xv (b (ix3 (slotOf i) (⟨8 * r.val + k.val / 256, by omega⟩ : Fin 2048) (⟨k.val % 128, by omega⟩ : Fin 128))) k.val)
          (fun k c => wt (x6 (ix3 (0 : Fin 1) (⟨k.val / 2, by omega⟩ : Fin 1024) c)) (x7 (ix3 (0 : Fin 1) (⟨k.val / 128, by omega⟩ : Fin 16) c)) k.val)
          (fun k c => wt (x8 (ix3 (0 : Fin 1) (⟨k.val / 2, by omega⟩ : Fin 512) c)) (x9 (ix3 (0 : Fin 1) (⟨k.val / 128, by omega⟩ : Fin 8) c)) k.val)
          (x4 (ix3 (0 : Fin 1) (⟨r.val / 128, by omega⟩ : Fin 2) (⟨r.val % 128, by omega⟩ : Fin 128))) ⟨128 * c.val + l.val, by omega⟩ := by
  have hr := r.isLt
  have hc := c.isLt
  have hl := l.isLt
  unfold tile128
  rw [outL128_eq]
  have hcov : ∃ k : Fin 16, ∀ hin hsp, (ix2 (⟨24 * r.val + c.val, by omega⟩ : Fin 6144) l : S6144x128.Idx) ∈
      (⟨(⟨![15 - k.val, 0], S128x128.size, ![24, 1], hin⟩ : LoadRect S6144x128), hsp⟩ : Rect S6144x128).set := by
    refine ⟨⟨15 - c.val, by omega⟩, fun hin hsp => (LoadRect.mem_set _).2 fun a => ?_⟩
    match a with
    | ⟨0, _⟩ => exact ⟨r.val, hr, by show 24 * r.val + c.val = 15 - (15 - c.val) + 24 * r.val; omega⟩
    | ⟨1, _⟩ => exact ⟨l.val, hl, by show l.val = 0 + 1 * l.val; omega⟩
  rw [View.read_writes_apply_eq_canon]
  · refine View.canon_ofFn_eq_of_forall _ _ _ _ (hcov.imp fun k hk => hk _ _) ?_
    intro k (x : S128x128.Idx) hx
    have hk := k.isLt
    have hx0 : (x 0).val < 128 := (x 0).isLt
    have h0 : 15 - k.val + 24 * (x 0).val = 24 * r.val + c.val := congrArg Fin.val (congrFun hx 0)
    have h1 : 0 + 1 * (x 1).val = l.val := congrArg Fin.val (congrFun hx 1)
    have ec : 15 - k.val = c.val := by omega
    have er : (x 0).val = r.val := by omega
    have es : (128 * ((15 - k.val) % 4) + l.val) < 512 := by omega
    show extractStridedSlice S128x128 ![0, 128 * ((15 - k.val) % 4)] (dn128 _ _ x8 x9 ((15 - k.val) / 4) _) _ x = _
    rw [extractStridedSlice_apply _ _ _ x (ix2 r (⟨128 * ((15 - k.val) % 4) + l.val, es⟩ : Fin 512)) (by
      intro a
      match a with
      | ⟨0, _⟩ => show r.val = 0 + (x 0).val; omega
      | ⟨1, _⟩ => show 128 * ((15 - k.val) % 4) + l.val = 128 * ((15 - k.val) % 4) + (x 1).val; omega)]
    have eg : ∀ h, (Rect.unit (s := S1x2x128) ![0, 0, 0] S1x2x128.size h).idx
        (ix3 (0 : Fin 1) (⟨r.val / 128, by omega⟩ : Fin 2) (⟨r.val % 128, by omega⟩ : Fin 128))
        = ix3 (0 : Fin 1) (⟨r.val / 128, by omega⟩ : Fin 2) (⟨r.val % 128, by omega⟩ : Fin 128) := by
      intro h
      funext a
      refine Fin.ext ?_
      match a with
      | ⟨0, _⟩ => rfl
      | ⟨1, _⟩ => show 0 + 1 * (r.val / 128) = r.val / 128; omega
      | ⟨2, _⟩ => show 0 + 1 * (r.val % 128) = r.val % 128; omega
    rw [dn128_apply, scales128]
    unfold Dense.out
    have ecol : (⟨512 * ((15 - k.val) / 4) + (128 * ((15 - k.val) % 4) + l.val), by omega⟩ : Fin 2048) = ⟨128 * c.val + l.val, by omega⟩ :=
      Fin.ext (by show 512 * ((15 - k.val) / 4) + (128 * ((15 - k.val) % 4) + l.val) = 128 * c.val + l.val; omega)
    simp only [ecol, act128_apply, xs128_apply, View.ld, eg]
  · obtain ⟨k, hk⟩ := hcov
    exact ⟨_, List.mem_ofFn.mpr ⟨k, rfl⟩, hk _ _⟩

end Cert.KernelIdeal.Hand
-- ==== Proof.Result.lean ====
/-
  The result of one row of one tile: the feed-forward layer of the tile's expert on the row's token, over the six arrays both programs
  are launched with. Nothing here mentions either program.
-/
module

public import proofs.«01_k».proof.Proof.Dense
public import Idealize.ShloMosaic.Lib.ValueIdx

@[expose] public section

noncomputable section

namespace Cert.Dense

open Idealize.ShloMosaic

variable (acts : (⟨2, ![65536, 128]⟩ : Shape).Idx → BitVec 32)
  (wG : (⟨3, ![32, 1024, 2048]⟩ : Shape).Idx → BitVec 8) (sG : (⟨3, ![32, 16, 2048]⟩ : Shape).Idx → Ideal .bf16)
  (wD : (⟨3, ![32, 512, 2048]⟩ : Shape).Idx → BitVec 8) (sD : (⟨3, ![32, 8, 2048]⟩ : Shape).Idx → Ideal .bf16)

/-- Token `tok`'s activation of column `k`: its word lies on line `k / 256` of the token's eight, at place `k % 128`. -/
def xRow (tok : Fin 8192) (k : Fin 2048) : Ideal .bf16 :=
  xv (acts (ix2 (⟨8 * tok.val + k.val / 256, by omega⟩ : Fin 65536) (⟨k.val % 128, by omega⟩ : Fin 128))) k.val

/-- Expert `e`'s gate-and-up weight of row `k` and column `c`: its byte holds rows `k` and `k + 1`, its scale 128 rows. -/
def wRowG (e : Fin 32) (k c : Fin 2048) : Ideal .bf16 :=
  wt (wG (ix3 e (⟨k.val / 2, by omega⟩ : Fin 1024) c)) (sG (ix3 e (⟨k.val / 128, by omega⟩ : Fin 16) c)) k.val

/-- Expert `e`'s down weight of row `k` and column `c`. -/
def wRowD (e : Fin 32) (k : Fin 1024) (c : Fin 2048) : Ideal .bf16 :=
  wt (wD (ix3 e (⟨k.val / 2, by omega⟩ : Fin 512) c)) (sD (ix3 e (⟨k.val / 128, by omega⟩ : Fin 8) c)) k.val

/-- The layer of expert `e` on token `tok`, times the gate scale `g`, at column `c`. -/
def result (e : Fin 32) (tok : Fin 8192) (g : Ideal .f32) (c : Fin 2048) : Ideal .f32 :=
  out (xRow acts tok) (wRowG wG sG e) (wRowD wD sD e) g c

end Cert.Dense
-- ==== Proof.Ideal.Final.lean ====
/-
  What the result array holds when the kernel has run: on every row of every tile in use, the row's result.
-/
module

public import proofs.«01_k».proof.Proof.Ideal.Frame
public import proofs.«01_k».proof.Proof.Ideal.Full
public import proofs.«01_k».proof.Proof.Ideal.Half
public import proofs.«01_k».proof.Proof.Result

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Dense

variable (m : (ℓ : Loc nD τ sig) → Buf (Elt Ideal) ℓ) (hR : Ranges.InRange (tile m) (rows m))

/-- The token of row `r` of tile `k`. -/
def tok (k : Fin 160) (r : Fin 256) : Fin 8192 :=
  ⟨(rows m (ix3 k (⟨r.val / 128, by omega⟩ : Fin 2) (⟨r.val % 128, by omega⟩ : Fin 128))).toNat, hR.row_lt _⟩

/-- The result of row `r` of tile `k` at column `c`. -/
def rowVal (k : Fin 160) (r : Fin 256) (c : Fin 2048) : Ideal .f32 :=
  result (acts m) (wGate m) (sGate m) (wDown m) (sDown m) (ex m hR k) (tok m hR k r)
    (gates m (ix3 k (⟨r.val / 128, by omega⟩ : Fin 2) (⟨r.val % 128, by omega⟩ : Fin 128))) c

/-- Block contents that are tile `k`'s: its rows in use hold their results. -/
def Good (k : Fin 160) (X : Vec Ideal S6144x128 .f32) : Prop :=
  ∀ (r : Fin 256) (c : Fin 16) (l : Fin 128), (256 ≤ (ent m k).toNat → r.val < 128) →
    X (ix2 (⟨24 * r.val + c.val, by omega⟩ : Fin 6144) l) = rowVal m hR k r ⟨128 * c.val + l.val, by omega⟩

/-- A gathered block has token `tok`'s activations on row `r`'s eight lines. -/
theorem slot_row (i : grid0.Coords) (k : Fin 160) (hi : (i 0).val = k.val) (b : Vec Ideal S2x2048x128 .i32)
    (hb : Slot (F := Ideal) (k.val % 2) (tabB m k) (acts m) b) (r : Fin 256) (j : Fin 2048) :
    b (ix3 (slotOf i) (⟨8 * r.val + j.val / 256, by omega⟩ : Fin 2048) (⟨j.val % 128, by omega⟩ : Fin 128))
      = acts m (ix2 (⟨8 * (tok m hR k r).val + j.val / 256, by have := (tok m hR k r).isLt; omega⟩ : Fin 65536) (⟨j.val % 128, by omega⟩ : Fin 128)) := by
  rw [hb (slotOf i) (by show (i 0).val % 2 = _; rw [hi])]
  have h0 := (tok m hR k r).isLt
  have h1 : (8 * r.val + j.val / 256) / 8 = r.val := by omega
  have h2 : (8 * r.val + j.val / 256) % 8 = j.val / 256 := by omega
  refine congrArg (fun q : Fin 65536 => acts m (ix2 q _)) (Fin.ext ?_)
  show ((rows m (ix3 k (⟨(8 * r.val + j.val / 256) / 8 / 128, _⟩ : Fin 2) (⟨(8 * r.val + j.val / 256) / 8 % 128, _⟩ : Fin 128))).toNat * 8
    + (8 * r.val + j.val / 256) % 8) % 65536 = 8 * (tok m hR k r).val + j.val / 256
  have e : (rows m (ix3 k (⟨(8 * r.val + j.val / 256) / 8 / 128, by omega⟩ : Fin 2) (⟨(8 * r.val + j.val / 256) / 8 % 128, by omega⟩ : Fin 128))).toNat
      = (tok m hR k r).val := by
    simp only [h1]; rfl
  rw [e, h2]; omega

/-- What the body leaves at a tile's point is the tile's. -/
theorem good_of_outRel (i : grid0.Coords) (k : Fin 160) (hi : (i 0).val = k.val) (hk : k.val < cnt m) (Y X : Vec Ideal S6144x128 .f32)
    (h : outRel m hR i k Y X) : Good m hR k X := by
  obtain ⟨M, hM, f, b, hb, rfl⟩ := h.1 hk
  intro r c l hr
  unfold tileB tileAt
  by_cases h2 : k0_cond2 i (tile m (ix2 (0 : Fin 1) (255 : Fin 256))) (ent m k) = 1#1
  · rw [if_pos h2, tile256_apply]
    simp only [slot_row m hR i k hi b hb]
    rfl
  · rw [if_neg h2]
    have hr' : r.val < 128 := by
      apply hr
      by_contra hn
      exact h2 ((cond2_iff m hR i k).2 ⟨by rw [hi]; exact hk, hn⟩)
    have := tile128_apply M.view f i b (gsB m k) (wgB m hR k) (sgB m hR k) (wdB m hR k) (sdB m hR k) ⟨r.val, hr'⟩ c l
    refine this.trans ?_
    have e := fun j : Fin 2048 => slot_row m hR i k hi b hb r j
    simp only [e]
    rfl

/-! ## The write-backs -/

theorem index7 (t : Fin (cfgA m hR).N) : ((cfgA m hR).win 7).index t = ![min t.val (cnt m - 1), 0] := by
  have e := tr8 m hR (grid0.coords t)
  rw [show (grid0.coords t 0).val = t.val from coords_val m hR t] at e
  exact e

/-- At every point the body leaves the current tile's block. -/
theorem leavesGood (t : Fin (cfgA m hR).N) (X : Vec Ideal S6144x128 .f32) (h : (rdat m hR 0).Leaves 7 t X) : Good m hR (cur m hR t) X := by
  obtain ⟨n, hn⟩ := t
  have hc := cnt_pos m hR
  induction n generalizing X with
  | zero =>
    obtain ⟨Y, hY, hX⟩ := h
    have e : cur m hR ⟨0, hn⟩ = pt m hR ⟨0, hn⟩ := Fin.ext (by show min 0 (cnt m - 1) = 0; omega)
    rw [e]
    exact good_of_outRel m hR _ _ (coords_val m hR _) (by show 0 < cnt m; omega) Y X hX
  | succ n ih =>
    obtain ⟨Y, hY, hX⟩ := h
    by_cases hl : n + 1 < cnt m
    · have e : cur m hR ⟨n + 1, hn⟩ = pt m hR ⟨n + 1, hn⟩ := Fin.ext (by show min (n + 1) (cnt m - 1) = n + 1; omega)
      rw [e]
      exact good_of_outRel m hR _ _ (coords_val m hR _) hl Y X hX
    · have hXY : X = Y := hX.2 hl
      subst hXY
      have hn' : n < (cfgA m hR).N := Nat.lt_of_succ_lt hn
      have e : cur m hR ⟨n + 1, hn⟩ = cur m hR ⟨n, hn'⟩ := Fin.ext (by show min (n + 1) (cnt m - 1) = min n (cnt m - 1); omega)
      rw [e]
      apply ih X hn'
      have hf : ((cfgA m hR).win 7).flush ⟨n, hn'⟩ = false := by
        have h160 := pt_lt m hR ⟨n + 1, hn⟩
        simp only [Pipeline.Window.flush, Bool.and_eq_false_iff, Bool.or_eq_false_iff, decide_eq_false_iff_not]
        refine Or.inr ⟨?_, ?_⟩
        · show ¬ (n + 1 = 160)
          have : n + 1 < 160 := h160
          omega
        · rintro ⟨h, hne⟩
          apply hne
          rw [index7 m hR, index7 m hR]
          show ![min (n + 1) (cnt m - 1), 0] = ![min n (cnt m - 1), 0]
          rw [show min (n + 1) (cnt m - 1) = min n (cnt m - 1) by omega]
      have := ((rdat m hR 0).finds_of_pos (w := 7) (t := ⟨n + 1, hn⟩) rfl (Nat.succ_ne_zero n) X).1 hY
      rcases this with h | h
      · exact absurd (hf.symm.trans h) Bool.false_ne_true
      · exact h

/-- Where an element of the block written back at point `t` lies in the result. -/
theorem emb7 (t : Fin (cfgA m hR).N) (y : S6144x128.Idx) :
    ((((cfgA m hR).win 7).blk t).view.emb y : S983040x128.Idx)
      = ix2 (⟨(cur m hR t).val * 6144 + (y 0).val, by have := (cur m hR t).isLt; have : (y 0).val < 6144 := (y 0).isLt; omega⟩ : Fin 983040)
          (y 1) := by
  have e0 := congrFun (index7 m hR t) (0 : Fin 2)
  have e1 := congrFun (index7 m hR t) (1 : Fin 2)
  funext a
  apply Fin.ext
  have h := Pipeline.Window.rect_emb_val ((cfgA m hR).win 7) t y a
  refine Eq.trans (show _ = ((((cfgA m hR).win 7).rect t).emb y a : Nat) from rfl) (h.trans ?_)
  match a with
  | ⟨0, _⟩ =>
    refine (congrArg (fun q : ℕ => q * 6144 + (y 0).val) e0).trans ?_
    rfl
  | ⟨1, _⟩ =>
    refine (congrArg (fun q : ℕ => q * 128 + (y 1).val) e1).trans ?_
    show 0 * 128 + (y 1).val = (y 1).val
    omega

/-- Tile `k`'s block of contents of the result. -/
def blockAt (G : S983040x128.Idx → Ideal .f32) (k : Fin 160) : Vec Ideal S6144x128 .f32 :=
  fun y => G (ix2 (⟨k.val * 6144 + (y 0).val, by have : (y 0).val < 6144 := (y 0).isLt; omega⟩ : Fin 983040) (y 1))

theorem blockAt_apply (G : S983040x128.Idx → Ideal .f32) (k : Fin 160) (y : S6144x128.Idx) :
    blockAt G k y = G (ix2 (⟨k.val * 6144 + (y 0).val, by have : (y 0).val < 6144 := (y 0).isLt; omega⟩ : Fin 983040) (y 1)) := rfl

/-- A write-back fills its point's tile's block, -/
theorem write_cur (t : Fin (cfgA m hR).N) (G : S983040x128.Idx → Ideal .f32) (X : Vec Ideal S6144x128 .f32) (y : S6144x128.Idx)
    (q : S983040x128.Idx) (hq : ((((cfgA m hR).win 7).blk t).view.emb y : S983040x128.Idx) = q) :
    ((((cfgA m hR).win 7).blk t).view.write (Elt Ideal) G (((cfgA m hR).win 7).cut ((cfgA m hR).grid.coords t) X) Finset.univ) q = X y := by
  subst hq
  exact View.write_emb_of_mem (v := (((cfgA m hR).win 7).blk t).view) (Val := Elt Ideal) G
    (((cfgA m hR).win 7).cut ((cfgA m hR).grid.coords t) X) (Finset.mem_univ y)

/-- and keeps what is not of it. -/
theorem write_off (t : Fin (cfgA m hR).N) (G : S983040x128.Idx → Ideal .f32) (X : Vec Ideal S6144x128 .f32)
    (q : S983040x128.Idx) (hq : ∀ y, ((((cfgA m hR).win 7).blk t).view.emb y : S983040x128.Idx) ≠ q) :
    ((((cfgA m hR).win 7).blk t).view.write (Elt Ideal) G (((cfgA m hR).win 7).cut ((cfgA m hR).grid.coords t) X) Finset.univ) q = G q := by
  refine View.write_of_not_mem (v := (((cfgA m hR).win 7).blk t).view) (Val := Elt Ideal) G _ _ ?_
  intro hin
  obtain ⟨z, -, hz⟩ := Finset.mem_map.mp hin
  exact hq z hz

/-- So of the tiles' blocks a write-back changes its own. -/
theorem blockAt_write (t : Fin (cfgA m hR).N) (G : S983040x128.Idx → Ideal .f32) (X : Vec Ideal S6144x128 .f32) (k : Fin 160) :
    (k = cur m hR t →
      blockAt ((((cfgA m hR).win 7).blk t).view.write (Elt Ideal) G (((cfgA m hR).win 7).cut ((cfgA m hR).grid.coords t) X) Finset.univ) k = X)
    ∧ (k ≠ cur m hR t →
      blockAt ((((cfgA m hR).win 7).blk t).view.write (Elt Ideal) G (((cfgA m hR).win 7).cut ((cfgA m hR).grid.coords t) X) Finset.univ) k
        = blockAt G k) := by
  constructor
  · rintro rfl
    funext y
    exact (blockAt_apply _ _ y).trans (write_cur m hR t G X y _ (emb7 m hR t y))
  · intro hk
    funext y
    refine (blockAt_apply _ _ y).trans ((write_off m hR t G X _ fun (z : S6144x128.Idx) hz => ?_).trans (blockAt_apply _ _ y).symm)
    have h := (emb7 m hR t z).symm.trans hz
    have h0 : (cur m hR t).val * 6144 + (z 0).val = k.val * 6144 + (y 0).val := congrArg Fin.val (congrFun h (0 : Fin 2))
    have hz0 : (z 0).val < 6144 := (z 0).isLt
    have hy0 : (y 0).val < 6144 := (y 0).isLt
    exact hk (Fin.ext (by omega))

/-- After the points below `n`, every tile written back by then has its block. -/
theorem arrGood (n : ℕ) (hn : n ≤ 160) (G : S983040x128.Idx → Ideal .f32) (h : (rdat m hR 0).ArrAt 7 n G) (k : Fin 160) (hk : k.val < cnt m)
    (hd : (k.val < n ∧ k.val + 1 < cnt m) ∨ n = 160) : Good m hR k (blockAt G k) := by
  have hcp := cnt_pos m hR
  have hcl := cnt_le m hR
  induction n generalizing G with
  | zero => omega
  | succ n ih =>
    have hN : n < (cfgA m hR).N := show n < 160 by omega
    have hs := (rdat m hR 0).ArrAt_succ 7 ⟨n, hN⟩
    have hcur : (cur m hR ⟨n, hN⟩).val = min n (cnt m - 1) := rfl
    rw [show (rdat m hR 0).ArrAt 7 (n + 1) = _ from hs] at h
    by_cases hf : ((cfgA m hR).win 7).flush ⟨n, hN⟩ = true
    · rw [if_pos hf] at h
      obtain ⟨G₀, X, hG₀, hX, rfl⟩ := h
      have hw := blockAt_write m hR ⟨n, hN⟩ G₀ X k
      by_cases hkc : k = cur m hR ⟨n, hN⟩
      · refine Eq.mpr (congrArg (Good m hR k) (hw.1 hkc)) ?_
        rw [hkc]
        exact leavesGood m hR _ X hX
      · refine Eq.mpr (congrArg (Good m hR k) (hw.2 hkc)) ?_
        refine ih (by omega) G₀ hG₀ ?_
        have : k.val ≠ min n (cnt m - 1) := fun e => hkc (Fin.ext (e.trans hcur.symm))
        omega
    · rw [if_neg hf] at h
      refine ih (by omega) G h ?_
      have h160 : n + 1 ≠ 160 := by
        intro e
        apply hf
        simp only [Pipeline.Window.flush, Bool.and_eq_true, Bool.or_eq_true, decide_eq_true_eq]
        exact ⟨rfl, Or.inl e⟩
      left
      refine ⟨?_, by omega⟩
      by_contra hge
      apply hf
      simp only [Pipeline.Window.flush, Bool.and_eq_true, Bool.or_eq_true, decide_eq_true_eq]
      refine ⟨rfl, Or.inr ⟨show n + 1 < 160 by omega, ?_⟩⟩
      rw [index7 m hR, index7 m hR]
      intro e
      have e' : min (n + 1) (cnt m - 1) = min n (cnt m - 1) := congrFun e (0 : Fin 2)
      omega

/-- When the kernel has run, the rows in use of the tiles in use hold their results. -/
theorem final (G : S983040x128.Idx → Ideal .f32) (h : (rdat m hR 0).ArrAt 7 (cfgA m hR).N G) (k : Fin 160) (hk : k.val < cnt m)
    (r : Fin 256) (c : Fin 16) (l : Fin 128) (hr : 256 ≤ (ent m k).toNat → r.val < 128) :
    G (ix2 (⟨k.val * 6144 + (24 * r.val + c.val), by omega⟩ : Fin 983040) l) = rowVal m hR k r ⟨128 * c.val + l.val, by omega⟩ :=
  arrGood m hR 160 le_rfl G h k hk (Or.inr rfl) r c l hr

end Cert.KernelIdeal.Hand
-- ==== Proof.RefRows.lean ====
/-
  The reference's operands, read at an index: a token's activations, and an expert's dequantised weights.
-/
module

public import proofs.«01_k».proof.Proof.Gen.ReferenceIdeal.Read
public import proofs.«01_k».proof.Proof.Result
public import Idealize.ShloMosaic.Lib.KernelVsHost

@[expose] public section

set_option maxRecDepth 16384

noncomputable section

namespace Cert.RefRead

open Cert.ReferenceIdeal Cert.ReferenceIdeal.Gen Cert.ReferenceIdeal.Read
open Idealize.ShloMosaic Idealize.ShloMosaic.TcCoe
open Cert.Dense

/-! ## The activations -/

/-- The word that a token's line and place hold, in either half of the pair. -/
theorem line8 (tok : Fin 8192) (q : Fin 8) (p : Fin 128) :
    idx_main_v8 (ix3 tok q p) = ix2 (⟨8 * tok.val + q.val, by omega⟩ : Fin 65536) p := by
  funext a; apply Fin.ext
  match a with
  | ⟨0, _⟩ => show ((tok.val * 8 + q.val) * 128 + p.val) / 128 = 8 * tok.val + q.val; omega
  | ⟨1, _⟩ => show ((tok.val * 8 + q.val) * 128 + p.val) % 128 = p.val; omega

theorem low_apply (x3 : S65536x128.Idx → BitVec 32) (tok : Fin 8192) (q : Fin 8) (p : Fin 128) :
    val_main_v10 (F := Ideal) x3 (ix4 tok q (0 : Fin 1) p)
      = FloatOps.truncf .bf16 (by decide) (FloatOps.ofBits (F := Ideal) .f32
          (IntOp.shli .vector (x3 (ix2 (⟨8 * tok.val + q.val, by omega⟩ : Fin 65536) p)) 16#32)) := by
  rw [val_main_v10_apply, val_main_v8_apply, val_main_v3_apply, val_main_v2_apply, val_main_v1_apply, val_main_v0_apply, val_main_c_apply,
    shli_unit .host .vector]
  rw [show idx_main_v10 (ix4 tok q (0 : Fin 1) p) = ix3 tok q p from funext fun a => by
    match a with
    | ⟨0, _⟩ => rfl
    | ⟨1, _⟩ => rfl
    | ⟨2, _⟩ => rfl, line8]

theorem high_apply (x3 : S65536x128.Idx → BitVec 32) (tok : Fin 8192) (q : Fin 8) (p : Fin 128) :
    val_main_v11 (F := Ideal) x3 (ix4 tok q (0 : Fin 1) p)
      = FloatOps.truncf .bf16 (by decide) (FloatOps.ofBits (F := Ideal) .f32
          (IntOp.andi (x3 (ix2 (⟨8 * tok.val + q.val, by omega⟩ : Fin 65536) p)) 4294901760#32)) := by
  rw [val_main_v11_apply, val_main_v9_apply, val_main_v7_apply, val_main_v6_apply, val_main_v5_apply, val_main_v4_apply, val_main_c_0_apply]
  rw [show idx_main_v11 (ix4 tok q (0 : Fin 1) p) = ix3 tok q p from funext fun a => by
    match a with
    | ⟨0, _⟩ => rfl
    | ⟨1, _⟩ => rfl
    | ⟨2, _⟩ => rfl]
  rw [show idx_main_v9 (ix3 tok q p) = ix2 (⟨8 * tok.val + q.val, by omega⟩ : Fin 65536) p from line8 tok q p]

/-- The reference's activation matrix holds the tokens' activations. -/
theorem x_apply (x3 : S65536x128.Idx → BitVec 32) (tok : Fin 8192) (k : Fin 2048) :
    val_main_v13 (F := Ideal) x3 (ix2 tok k) = xRow x3 tok k := by
  have hk := k.isLt
  have hJ : idx_main_v13 (ix2 tok k) = ix4 tok (⟨k.val / 256, by omega⟩ : Fin 8) (⟨k.val / 128 % 2, by omega⟩ : Fin 2)
      (⟨k.val % 128, by omega⟩ : Fin 128) := by
    funext a; apply Fin.ext
    match a with
    | ⟨0, _⟩ => show (tok.val * 2048 + k.val) / 2048 = tok.val; omega
    | ⟨1, _⟩ => show (tok.val * 2048 + k.val) / 256 % 8 = k.val / 256; omega
    | ⟨2, _⟩ => show (tok.val * 2048 + k.val) / 128 % 2 = k.val / 128 % 2; omega
    | ⟨3, _⟩ => show (tok.val * 2048 + k.val) % 128 = k.val % 128; omega
  rw [val_main_v13_apply, hJ]
  unfold val_main_v12 xRow xv
  by_cases h : k.val / 128 % 2 = 0
  · rw [if_pos h]
    refine (concatenate_pair_apply_left (s₁ := S8192x8x1x128) (s₂ := S8192x8x1x128) (t := S8192x8x2x128) 2 _ _ _ _ rfl
      (ix4 tok (⟨k.val / 256, by omega⟩ : Fin 8) (0 : Fin 1) (⟨k.val % 128, by omega⟩ : Fin 128)) (by
        intro b
        match b with
        | ⟨0, _⟩ => rfl
        | ⟨1, _⟩ => rfl
        | ⟨2, _⟩ => exact h.symm
        | ⟨3, _⟩ => rfl)).trans ?_
    exact low_apply x3 tok _ _
  · rw [if_neg h]
    refine (concatenate_pair_apply_right (s₁ := S8192x8x1x128) (s₂ := S8192x8x1x128) (t := S8192x8x2x128) 2 _ _ _ _ rfl rfl
      (ix4 tok (⟨k.val / 256, by omega⟩ : Fin 8) (0 : Fin 1) (⟨k.val % 128, by omega⟩ : Fin 128)) (by
        intro b hb
        match b with
        | ⟨0, _⟩ => rfl
        | ⟨1, _⟩ => rfl
        | ⟨2, _⟩ => exact absurd rfl hb
        | ⟨3, _⟩ => rfl) (by show 0 + 1 = k.val / 128 % 2; omega)).trans ?_
    exact high_apply x3 tok _ _

/-! ## The gate-and-up weights -/

theorem nibG_apply (x4 : S32x1024x2048.Idx → BitVec 8) (e : Fin 32) (r : Fin 1024) (b : Fin 2) (c : Fin 2048) (k : ℕ) (hk : k % 2 = b.val) :
    val_main_v35 (F := Ideal) x4 (ix4 e r b c) = half (x4 (ix3 e r c)) k := by
  unfold val_main_v35 half
  by_cases h : k % 2 = 0
  · rw [if_pos h]
    refine (concatenate_pair_apply_left (s₁ := S32x1024x1x2048) (s₂ := S32x1024x1x2048) (t := S32x1024x2x2048) 2 _ _ _ _ rfl
      (ix4 e r (0 : Fin 1) c) (by
        intro b'
        match b' with
        | ⟨0, _⟩ => rfl
        | ⟨1, _⟩ => rfl
        | ⟨2, _⟩ => show 0 = b.val; omega
        | ⟨3, _⟩ => rfl)).trans ?_
    rw [val_main_v33_apply, val_main_v30_apply, val_main_v28_apply, val_main_v26_apply, val_main_v27_apply, val_main_v29_apply, val_main_c_4_apply,
      val_main_c_5_apply, shli_unit .host .vector, shrsi_unit .host .vector]
    rw [show idx_main_v33 (ix4 e r (0 : Fin 1) c) = ix3 e r c from funext fun a => by
      match a with
      | ⟨0, _⟩ => rfl
      | ⟨1, _⟩ => rfl
      | ⟨2, _⟩ => rfl]
  · rw [if_neg h]
    refine (concatenate_pair_apply_right (s₁ := S32x1024x1x2048) (s₂ := S32x1024x1x2048) (t := S32x1024x2x2048) 2 _ _ _ _ rfl rfl
      (ix4 e r (0 : Fin 1) c) (by
        intro b' hb
        match b' with
        | ⟨0, _⟩ => rfl
        | ⟨1, _⟩ => rfl
        | ⟨2, _⟩ => exact absurd rfl hb
        | ⟨3, _⟩ => rfl) (by show 0 + 1 = b.val; omega)).trans ?_
    rw [val_main_v34_apply, val_main_v32_apply, val_main_v26_apply, val_main_v31_apply, val_main_c_6_apply, shrsi_unit .host .vector]
    rw [show idx_main_v34 (ix4 e r (0 : Fin 1) c) = ix3 e r c from funext fun a => by
      match a with
      | ⟨0, _⟩ => rfl
      | ⟨1, _⟩ => rfl
      | ⟨2, _⟩ => rfl]

/-- The reference's gate-and-up weights are the experts'. -/
theorem wG_apply (x4 : S32x1024x2048.Idx → BitVec 8) (x5 : S32x16x2048.Idx → Ideal .bf16) (e : Fin 32) (k c : Fin 2048) :
    val_main_v41 (F := Ideal) x4 x5 (ix3 e k c) = wRowG x4 x5 e k c := by
  have hk := k.isLt
  have hc := c.isLt
  have he := e.isLt
  have h41 : idx_main_v41 (ix3 e k c) = ix4 e (⟨k.val / 128, by omega⟩ : Fin 16) (⟨k.val % 128, by omega⟩ : Fin 128) c := by
    funext a; apply Fin.ext
    match a with
    | ⟨0, _⟩ => show ((e.val * 2048 + k.val) * 2048 + c.val) / 4194304 = e.val; omega
    | ⟨1, _⟩ => show ((e.val * 2048 + k.val) * 2048 + c.val) / 262144 % 16 = k.val / 128; omega
    | ⟨2, _⟩ => show ((e.val * 2048 + k.val) * 2048 + c.val) / 2048 % 128 = k.val % 128; omega
    | ⟨3, _⟩ => show ((e.val * 2048 + k.val) * 2048 + c.val) % 2048 = c.val; omega
  have h37 : idx_main_v37 (ix4 e (⟨k.val / 128, by omega⟩ : Fin 16) (⟨k.val % 128, by omega⟩ : Fin 128) c)
      = ix4 e (⟨k.val / 2, by omega⟩ : Fin 1024) (⟨k.val % 2, by omega⟩ : Fin 2) c := by
    funext a; apply Fin.ext
    match a with
    | ⟨0, _⟩ => show (((e.val * 16 + k.val / 128) * 128 + k.val % 128) * 2048 + c.val) / 4194304 = e.val; omega
    | ⟨1, _⟩ => show (((e.val * 16 + k.val / 128) * 128 + k.val % 128) * 2048 + c.val) / 4096 % 1024 = k.val / 2; omega
    | ⟨2, _⟩ => show (((e.val * 16 + k.val / 128) * 128 + k.val % 128) * 2048 + c.val) / 2048 % 2 = k.val % 2; omega
    | ⟨3, _⟩ => show (((e.val * 16 + k.val / 128) * 128 + k.val % 128) * 2048 + c.val) % 2048 = c.val; omega
  have h38 : idx_main_v38 (idx_main_v39 (ix4 e (⟨k.val / 128, by omega⟩ : Fin 16) (⟨k.val % 128, by omega⟩ : Fin 128) c))
      = ix3 e (⟨k.val / 128, by omega⟩ : Fin 16) c := funext fun a => by
    match a with
    | ⟨0, _⟩ => rfl
    | ⟨1, _⟩ => rfl
    | ⟨2, _⟩ => rfl
  rw [val_main_v41_apply, h41, val_main_v40_apply, val_main_v39_apply, val_main_v38_apply, h38, val_main_v37_apply, h37, val_main_v36_apply,
    nibG_apply x4 e _ _ c k.val rfl]
  rfl

/-! ## The down weights -/

theorem nibD_apply (x6 : S32x512x2048.Idx → BitVec 8) (e : Fin 32) (r : Fin 512) (b : Fin 2) (c : Fin 2048) (k : ℕ) (hk : k % 2 = b.val) :
    val_main_v58 (F := Ideal) x6 (ix4 e r b c) = half (x6 (ix3 e r c)) k := by
  unfold val_main_v58 half
  by_cases h : k % 2 = 0
  · rw [if_pos h]
    refine (concatenate_pair_apply_left (s₁ := S32x512x1x2048) (s₂ := S32x512x1x2048) (t := S32x512x2x2048) 2 _ _ _ _ rfl
      (ix4 e r (0 : Fin 1) c) (by
        intro b'
        match b' with
        | ⟨0, _⟩ => rfl
        | ⟨1, _⟩ => rfl
        | ⟨2, _⟩ => show 0 = b.val; omega
        | ⟨3, _⟩ => rfl)).trans ?_
    rw [val_main_v56_apply, val_main_v53_apply, val_main_v51_apply, val_main_v49_apply, val_main_v50_apply, val_main_v52_apply, val_main_c_9_apply,
      val_main_c_10_apply, shli_unit .host .vector, shrsi_unit .host .vector]
    rw [show idx_main_v56 (ix4 e r (0 : Fin 1) c) = ix3 e r c from funext fun a => by
      match a with
      | ⟨0, _⟩ => rfl
      | ⟨1, _⟩ => rfl
      | ⟨2, _⟩ => rfl]
  · rw [if_neg h]
    refine (concatenate_pair_apply_right (s₁ := S32x512x1x2048) (s₂ := S32x512x1x2048) (t := S32x512x2x2048) 2 _ _ _ _ rfl rfl
      (ix4 e r (0 : Fin 1) c) (by
        intro b' hb
        match b' with
        | ⟨0, _⟩ => rfl
        | ⟨1, _⟩ => rfl
        | ⟨2, _⟩ => exact absurd rfl hb
        | ⟨3, _⟩ => rfl) (by show 0 + 1 = b.val; omega)).trans ?_
    rw [val_main_v57_apply, val_main_v55_apply, val_main_v49_apply, val_main_v54_apply, val_main_c_11_apply, shrsi_unit .host .vector]
    rw [show idx_main_v57 (ix4 e r (0 : Fin 1) c) = ix3 e r c from funext fun a => by
      match a with
      | ⟨0, _⟩ => rfl
      | ⟨1, _⟩ => rfl
      | ⟨2, _⟩ => rfl]

/-- The reference's down weights are the experts'. -/
theorem wD_apply (x6 : S32x512x2048.Idx → BitVec 8) (x7 : S32x8x2048.Idx → Ideal .bf16) (e : Fin 32) (k : Fin 1024) (c : Fin 2048) :
    val_main_v64 (F := Ideal) x6 x7 (ix3 e k c) = wRowD x6 x7 e k c := by
  have hk := k.isLt
  have hc := c.isLt
  have he := e.isLt
  have h64 : idx_main_v64 (ix3 e k c) = ix4 e (⟨k.val / 128, by omega⟩ : Fin 8) (⟨k.val % 128, by omega⟩ : Fin 128) c := by
    funext a; apply Fin.ext
    match a with
    | ⟨0, _⟩ => show ((e.val * 1024 + k.val) * 2048 + c.val) / 2097152 = e.val; omega
    | ⟨1, _⟩ => show ((e.val * 1024 + k.val) * 2048 + c.val) / 262144 % 8 = k.val / 128; omega
    | ⟨2, _⟩ => show ((e.val * 1024 + k.val) * 2048 + c.val) / 2048 % 128 = k.val % 128; omega
    | ⟨3, _⟩ => show ((e.val * 1024 + k.val) * 2048 + c.val) % 2048 = c.val; omega
  have h60 : idx_main_v60 (ix4 e (⟨k.val / 128, by omega⟩ : Fin 8) (⟨k.val % 128, by omega⟩ : Fin 128) c)
      = ix4 e (⟨k.val / 2, by omega⟩ : Fin 512) (⟨k.val % 2, by omega⟩ : Fin 2) c := by
    funext a; apply Fin.ext
    match a with
    | ⟨0, _⟩ => show (((e.val * 8 + k.val / 128) * 128 + k.val % 128) * 2048 + c.val) / 2097152 = e.val; omega
    | ⟨1, _⟩ => show (((e.val * 8 + k.val / 128) * 128 + k.val % 128) * 2048 + c.val) / 4096 % 512 = k.val / 2; omega
    | ⟨2, _⟩ => show (((e.val * 8 + k.val / 128) * 128 + k.val % 128) * 2048 + c.val) / 2048 % 2 = k.val % 2; omega
    | ⟨3, _⟩ => show (((e.val * 8 + k.val / 128) * 128 + k.val % 128) * 2048 + c.val) % 2048 = c.val; omega
  have h61 : idx_main_v61 (idx_main_v62 (ix4 e (⟨k.val / 128, by omega⟩ : Fin 8) (⟨k.val % 128, by omega⟩ : Fin 128) c))
      = ix3 e (⟨k.val / 128, by omega⟩ : Fin 8) c := funext fun a => by
    match a with
    | ⟨0, _⟩ => rfl
    | ⟨1, _⟩ => rfl
    | ⟨2, _⟩ => rfl
  rw [val_main_v64_apply, h64, val_main_v63_apply, val_main_v62_apply, val_main_v61_apply, h61, val_main_v60_apply, h60, val_main_v59_apply,
    nibD_apply x6 e _ _ c k.val rfl]
  rfl

end Cert.RefRead
-- ==== Proof.Take.lean ====
/-
  The gathers of the reference, read at an index: rows of a matrix by a table of row numbers, and planes of a stack by a list of plane
  numbers, each number below the extent it indexes; and a stack of four axes padded along its third.
-/
module

public import Idealize.ShloMosaic.Lib.Pointwise
public import Idealize.ShloMosaic.Lib.ValueIdx

@[expose] public section

namespace Cert.Take

open Idealize.ShloMosaic

variable {α : Type}

/-- A word below `2 ^ 31` clamped into an extent it lies below, read as a signed number, is itself. -/
theorem clamp_eq (w : BitVec 32) (N : ℕ) (hN : N ≤ 2 ^ 31) (h : w.toNat < N) : min w.toInt.toNat (N - 1) = w.toNat := by
  have : w.toInt = w.toNat := BitVec.toInt_eq_toNat_of_lt (by omega)
  rw [this]; simp only [Int.toNat_natCast]; omega

/-- The dimension numbers of `x[idx]`, `x : [N, C]`, `idx : [R, S]`. -/
abbrev rowsDims (N C R S : ℕ) (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

theorem gather_rows {N C R S : ℕ} (hN : N ≤ 2 ^ 31) (wf) (x : (⟨2, ![N, C]⟩ : Shape).Idx → α) (idx : IVec ⟨3, ![R, S, 1]⟩ 32)
    (r : Fin R) (s : Fin S) (c : Fin C) (n : Fin N) (hn : (idx (ix3 r s (0 : Fin 1))).toNat = n.val) :
    Host.gather (rowsDims N C R S wf) x idx (ix3 r s c) = x (ix2 n c) := by
  unfold Host.gather
  refine congrArg x (funext fun a => Fin.ext ?_)
  match a with
  | ⟨0, _⟩ =>
    show (rowsDims N C R S wf).start (ix3 r s c) idx 0 + (rowsDims N C R S wf).batchCoord (ix3 r s c) 0
      + (rowsDims N C R S wf).offCoord (ix3 r s c) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R S wf).startIndexMap from List.mem_singleton.mpr rfl)]
    have hsi : (rowsDims N C R S wf).siIdx (ix3 r s c) ⟨List.idxOf (0 : Fin 2) (rowsDims N C R S wf).startIndexMap,
        List.idxOf_lt_length_iff.2 (List.mem_singleton.mpr rfl)⟩ = ix3 r s (0 : Fin 1) := by
      funext b; refine Fin.ext ?_
      match b with
      | ⟨0, _⟩ => rfl
      | ⟨1, _⟩ => rfl
      | ⟨2, _⟩ => rfl
    rw [hsi]
    exact (clamp_eq _ N hN (by rw [hn]; exact n.isLt)).trans hn
  | ⟨1, _⟩ =>
    show (rowsDims N C R S wf).start (ix3 r s c) idx 1 + (rowsDims N C R S wf).batchCoord (ix3 r s c) 1
      + (rowsDims N C R S wf).offCoord (ix3 r s c) 1 = c.val
    rw [GatherDims.batchCoord_eq_zero _ _ _ List.not_mem_nil]
    have hm : (1 : Fin 2) ∉ (rowsDims N C R S wf).startIndexMap := by simp
    have hk : (1 : Fin 2) ∈ (rowsDims N C R S wf).sKept := (GatherDims.mem_sKept _ _).2 ⟨by simp, List.not_mem_nil⟩
    unfold GatherDims.start GatherDims.offCoord
    rw [dif_neg hm, dif_pos hk]
    simp only [Nat.zero_add, Nat.add_zero]
    rfl

/-- The dimension numbers of `x[idx]`, `x : [E, A, B]`, `idx : [n]`. -/
abbrev planesDims (E A B n : ℕ) (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem gather_planes {E A B n : ℕ} (hE : E ≤ 2 ^ 31) (wf) (x : (⟨3, ![E, A, B]⟩ : Shape).Idx → α) (idx : IVec ⟨2, ![n, 1]⟩ 32)
    (t : Fin n) (a' : Fin A) (b' : Fin B) (e : Fin E) (he : (idx (ix2 t (0 : Fin 1))).toNat = e.val) :
    Host.gather (planesDims E A B n wf) x idx (ix3 t a' b') = x (ix3 e a' b') := by
  unfold Host.gather
  refine congrArg x (funext fun a => Fin.ext ?_)
  match a with
  | ⟨0, _⟩ =>
    show (planesDims E A B n wf).start (ix3 t a' b') idx 0 + (planesDims E A B n wf).batchCoord (ix3 t a' b') 0
      + (planesDims E A B n wf).offCoord (ix3 t a' b') 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (planesDims E A B n wf).startIndexMap from List.mem_singleton.mpr rfl)]
    have hsi : (planesDims E A B n wf).siIdx (ix3 t a' b') ⟨List.idxOf (0 : Fin 3) (planesDims E A B n wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    exact (clamp_eq _ E hE (by rw [he]; exact e.isLt)).trans he
  | ⟨1, _⟩ =>
    show (planesDims E A B n wf).start (ix3 t a' b') idx 1 + (planesDims E A B n wf).batchCoord (ix3 t a' b') 1
      + (planesDims E A B n wf).offCoord (ix3 t a' b') 1 = a'.val
    rw [GatherDims.batchCoord_eq_zero _ _ _ List.not_mem_nil]
    have hm : (1 : Fin 3) ∉ (planesDims E A B n wf).startIndexMap := by simp
    have hk : (1 : Fin 3) ∈ (planesDims E A B n wf).sKept := (GatherDims.mem_sKept _ _).2 ⟨by simp, List.not_mem_nil⟩
    unfold GatherDims.start GatherDims.offCoord
    rw [dif_neg hm, dif_pos hk]
    simp only [Nat.zero_add, Nat.add_zero]
    rfl
  | ⟨2, _⟩ =>
    show (planesDims E A B n wf).start (ix3 t a' b') idx 2 + (planesDims E A B n wf).batchCoord (ix3 t a' b') 2
      + (planesDims E A B n wf).offCoord (ix3 t a' b') 2 = b'.val
    rw [GatherDims.batchCoord_eq_zero _ _ _ List.not_mem_nil]
    have hm : (2 : Fin 3) ∉ (planesDims E A B n wf).startIndexMap := by simp
    have hk : (2 : Fin 3) ∈ (planesDims E A B n wf).sKept := (GatherDims.mem_sKept _ _).2 ⟨by simp, List.not_mem_nil⟩
    unfold GatherDims.start GatherDims.offCoord
    rw [dif_neg hm, dif_pos hk]
    simp only [Nat.zero_add, Nat.add_zero]
    rfl

/-- Padding a stack of four axes high along its third keeps the entries it had. -/
theorem pad_third {A B C D E hi : ℕ} (x : (⟨4, ![A, B, C, E]⟩ : Shape).Idx → α) (v : (⟨0, ![]⟩ : Shape).Idx → α)
    (h : (⟨4, ![A, B, C, E]⟩ : Shape).Pads (![0, 0, 0, 0] : Fin 4 → ℕ) ![0, 0, hi, 0] ![0, 0, 0, 0] ⟨4, ![A, B, D, E]⟩)
    (hu : 0 < (⟨0, ![]⟩ : Shape).numel) (a : Fin A) (b : Fin B) (c : Fin C) (d : Fin D) (e : Fin E) (hd : d.val = c.val) :
    pad ⟨4, ![A, B, D, E]⟩ ![0, 0, 0, 0] ![0, 0, hi, 0] ![0, 0, 0, 0] x v h hu (ix4 a b d e) = x (ix4 a b c e) := by
  unfold pad
  split
  · refine congrArg x (funext fun q => Fin.ext ?_)
    match q with
    | ⟨0, _⟩ => show (a.val - 0) / 1 = a.val; omega
    | ⟨1, _⟩ => show (b.val - 0) / 1 = b.val; omega
    | ⟨2, _⟩ => show (d.val - 0) / 1 = c.val; omega
    | ⟨3, _⟩ => show (e.val - 0) / 1 = e.val; omega
  · next hin =>
    refine (hin fun q => ?_).elim
    match q with
    | ⟨0, _⟩ => show 0 ≤ a.val ∧ (a.val - 0) % 1 = 0 ∧ (a.val - 0) / 1 < A; omega
    | ⟨1, _⟩ => show 0 ≤ b.val ∧ (b.val - 0) % 1 = 0 ∧ (b.val - 0) / 1 < B; omega
    | ⟨2, _⟩ => show 0 ≤ d.val ∧ (d.val - 0) % 1 = 0 ∧ (d.val - 0) / 1 < C; omega
    | ⟨3, _⟩ => show 0 ≤ e.val ∧ (e.val - 0) % 1 = 0 ∧ (e.val - 0) / 1 < E; omega

end Cert.Take
-- ==== Proof.Ref.lean ====
/-
  The reference's result, read at an index: on every row of every tile the feed-forward layer of the tile's expert on the row's token,
  times the row's gate scale.
-/
module

public import proofs.«01_k».proof.Proof.RefRows
public import proofs.«01_k».proof.Proof.Take
public import proofs.«01_k».proof.Proof.Ranges
public import Idealize.ShloMosaic.Lib.Affine
public import Idealize.ShloMosaic.Lib.WordCmp
public import Idealize.ShloMosaic.Lib.IdealHost

@[expose] public section

set_option maxRecDepth 16384

noncomputable section

namespace Cert.RefRead

open Cert.ReferenceIdeal Cert.ReferenceIdeal.Gen Cert.ReferenceIdeal.Read
open Idealize.ShloMosaic Idealize.ShloMosaic.TcCoe
open Cert.Dense

/-- A word below `2 ^ 31` counts from the front: the wrapping of negative numbers leaves it. -/
theorem wrap_of_lt (w v : BitVec 32) (h : w.toNat < 2 ^ 31) : Scalar.select (IntOp.cmpi .slt w 0#32) v w = w := by
  have : IntOp.cmpi .slt w 0#32 = 0#1 := by
    rw [WordCmp.cmpi_slt_zero]
    rw [decide_eq_false (by show ¬ 2 ^ 31 ≤ w.toNat; omega)]; rfl
  rw [this]; rfl

variable (x0 : S1x256.Idx → BitVec 32) (x1 : S160x2x128.Idx → BitVec 32) (hR : Ranges.InRange x0 x1)
  (x2 : S160x2x128.Idx → Ideal .f32) (x3 : S65536x128.Idx → BitVec 32)
  (x4 : S32x1024x2048.Idx → BitVec 8) (x5 : S32x16x2048.Idx → Ideal .bf16)
  (x6 : S32x512x2048.Idx → BitVec 8) (x7 : S32x8x2048.Idx → Ideal .bf16)

/-- Tile `t`'s expert. -/
def expert (t : Fin 160) : Fin 32 := ⟨(x0 (ix2 (0 : Fin 1) (⟨t.val, by omega⟩ : Fin 256))).toNat % 256, hR.expert_lt t⟩
/-- The token of row `r` of tile `t`. -/
def token (t : Fin 160) (r : Fin 256) : Fin 8192 :=
  ⟨(x1 (ix3 t (⟨r.val / 128, by omega⟩ : Fin 2) (⟨r.val % 128, by omega⟩ : Fin 128))).toNat, hR.row_lt _⟩

/-! ## The lists the reference gathers by -/

theorem expert_toNat (t : Fin 160) : (val_main_v17 (F := Ideal) x0 (ix1 t)).toNat = (expert x0 x1 hR t).val := by
  rw [val_main_v17_apply, val_main_v16_apply, val_main_c_1_apply, val_main_v15_apply, val_main_v14_apply]
  have ht := t.isLt
  rw [show idx_main_v14 (idx_main_v15 (ix1 t)) = ix2 (0 : Fin 1) (⟨t.val, by omega⟩ : Fin 256) from funext fun a => Fin.ext (by
    match a with
    | ⟨0, _⟩ => rfl
    | ⟨1, _⟩ => show t.val % 160 = t.val; omega)]
  exact IntOp.toNat_remsi .host (by have := hR.entry_lt t; omega) 256 (by norm_num) (by norm_num)

theorem gateList (t : Fin 160) : (val_main_v47 (F := Ideal) x0 (ix2 t (0 : Fin 1))).toNat = (expert x0 x1 hR t).val := by
  have e := expert_toNat x0 x1 hR t
  have hl := (expert x0 x1 hR t).isLt
  rw [val_main_v47_apply, val_main_v46_apply, val_main_v43_apply, val_main_v42_apply, val_main_c_7_apply]
  rw [show idx_main_v47 (ix2 t (0 : Fin 1)) = ix1 t from funext fun a => by
    match a with
    | ⟨0, _⟩ => rfl]
  rw [wrap_of_lt _ _ (by rw [e]; omega), e]

theorem downList (t : Fin 160) : (val_main_v70 (F := Ideal) x0 (ix2 t (0 : Fin 1))).toNat = (expert x0 x1 hR t).val := by
  have e := expert_toNat x0 x1 hR t
  have hl := (expert x0 x1 hR t).isLt
  rw [val_main_v70_apply, val_main_v69_apply, val_main_v66_apply, val_main_v65_apply, val_main_c_12_apply]
  rw [show idx_main_v70 (ix2 t (0 : Fin 1)) = ix1 t from funext fun a => by
    match a with
    | ⟨0, _⟩ => rfl]
  rw [wrap_of_lt _ _ (by rw [e]; omega), e]

theorem rowList (t : Fin 160) (r : Fin 256) : (val_main_v24 (F := Ideal) x1 (ix3 t r (0 : Fin 1))).toNat = (token x0 x1 hR t r).val := by
  have hl := (token x0 x1 hR t r).isLt
  have e : val_main_v18 (F := Ideal) x1 (ix2 t r) = x1 (ix3 t (⟨r.val / 128, by omega⟩ : Fin 2) (⟨r.val % 128, by omega⟩ : Fin 128)) := by
    rw [val_main_v18_apply]
    refine congrArg x1 (funext fun a => Fin.ext ?_)
    match a with
    | ⟨0, _⟩ => show (t.val * 256 + r.val) / 256 = t.val; omega
    | ⟨1, _⟩ => show (t.val * 256 + r.val) / 128 % 2 = r.val / 128; omega
    | ⟨2, _⟩ => show (t.val * 256 + r.val) % 128 = r.val % 128; omega
  rw [val_main_v24_apply, val_main_v23_apply, val_main_v20_apply, val_main_v19_apply, val_main_c_2_apply]
  rw [show idx_main_v24 (ix3 t r (0 : Fin 1)) = ix2 t r from funext fun a => by
    match a with
    | ⟨0, _⟩ => rfl
    | ⟨1, _⟩ => rfl]
  have h31 : (val_main_v18 (F := Ideal) x1 (ix2 t r)).toNat < 2 ^ 31 := by
    rw [e]; have := hR.row_lt (ix3 t (⟨r.val / 128, by omega⟩ : Fin 2) (⟨r.val % 128, by omega⟩ : Fin 128)); omega
  rw [wrap_of_lt _ _ h31, e]
  rfl

/-! ## What it gathers -/

theorem gatherX (t : Fin 160) (r : Fin 256) (k : Fin 2048) :
    val_main_v25 (F := Ideal) x1 x3 (ix3 t r k) = xRow x3 (token x0 x1 hR t r) k := by
  rw [← x_apply]
  exact Take.gather_rows (by norm_num) _ (val_main_v13 (F := Ideal) x3) (val_main_v24 (F := Ideal) x1) t r k (token x0 x1 hR t r)
    (rowList x0 x1 hR t r)

theorem gatherG (t : Fin 160) (k c : Fin 2048) :
    val_main_v48 (F := Ideal) x0 x4 x5 (ix3 t k c) = wRowG x4 x5 (expert x0 x1 hR t) k c := by
  rw [← wG_apply]
  exact Take.gather_planes (by norm_num) _ (val_main_v41 (F := Ideal) x4 x5) (val_main_v47 (F := Ideal) x0) t k c (expert x0 x1 hR t)
    (gateList x0 x1 hR t)

theorem gatherD (t : Fin 160) (k : Fin 1024) (c : Fin 2048) :
    val_main_v71 (F := Ideal) x0 x6 x7 (ix3 t k c) = wRowD x6 x7 (expert x0 x1 hR t) k c := by
  rw [← wD_apply]
  exact Take.gather_planes (by norm_num) _ (val_main_v64 (F := Ideal) x6 x7) (val_main_v70 (F := Ideal) x0) t k c (expert x0 x1 hR t)
    (downList x0 x1 hR t)

/-! ## The layer -/

theorem gu_apply (t : Fin 160) (r : Fin 256) (c : Fin 2048) :
    val_main_v72 (F := Ideal) x0 x1 x3 x4 x5 (ix3 t r c)
      = gu (xRow x3 (token x0 x1 hR t r)) (wRowG x4 x5 (expert x0 x1 hR t)) c := by
  rw [val_main_v72_apply]
  refine Finset.sum_congr rfl fun k _ => ?_
  rw [show lidx_main_v72 (ix3 t r c) k = ix3 t r k from funext fun a => by
      match a with
      | ⟨0, _⟩ => rfl
      | ⟨1, _⟩ => rfl
      | ⟨2, _⟩ => rfl,
    show ridx_main_v72 (ix3 t r c) k = ix3 t k c from funext fun a => by
      match a with
      | ⟨0, _⟩ => rfl
      | ⟨1, _⟩ => rfl
      | ⟨2, _⟩ => rfl,
    gatherX x0 x1 hR, gatherG x0 x1 hR]

theorem silu_apply (x : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf x)))
      = FloatOps.logistic (F := Ideal) (φ := .f32) x := by
  have h1 : (FloatOps.ofBits (F := Ideal) .f32 0x3F800000#32 : Ideal .f32) = (1 : EReal) := Ideal.ofBits_one_f32
  rw [h1]
  rfl

theorem act_apply (t : Fin 160) (r : Fin 256) (k : Fin 1024) :
    val_main_v77 (F := Ideal) x0 x1 x3 x4 x5 (ix3 t r k)
      = act (xRow x3 (token x0 x1 hR t r)) (wRowG x4 x5 (expert x0 x1 hR t)) k := by
  rw [val_main_v77_apply, val_main_v76_apply, val_main_v74_apply, val_main_v75_apply, val_main_call0_v5_apply, val_main_call0_v4_apply,
    val_main_call0_cst_0_apply, val_main_call0_v3_apply, val_main_call0_v2_apply, val_main_call0_cst_apply, val_main_call0_v1_apply,
    val_main_call0_v0_apply, silu_apply, val_main_v73_apply]
  rw [show idx_main_v73 (ix3 t r k) = ix3 t r (⟨k.val, by omega⟩ : Fin 2048) from funext fun a => by
      match a with
      | ⟨0, _⟩ => rfl
      | ⟨1, _⟩ => rfl
      | ⟨2, _⟩ => rfl,
    show idx_main_v75 (ix3 t r k) = ix3 t r (⟨k.val + 1024, by omega⟩ : Fin 2048) from funext fun a => Fin.ext (by
      match a with
      | ⟨0, _⟩ => rfl
      | ⟨1, _⟩ => rfl
      | ⟨2, _⟩ => show 1024 + k.val = k.val + 1024; omega),
    gu_apply x0 x1 hR, gu_apply x0 x1 hR]
  rfl

theorem out_apply (t : Fin 160) (r : Fin 256) (c : Fin 2048) :
    val_main_v81 (F := Ideal) x0 x1 x2 x3 x4 x5 x6 x7 (ix3 t r c)
      = result x3 x4 x5 x6 x7 (expert x0 x1 hR t) (token x0 x1 hR t r)
          (x2 (ix3 t (⟨r.val / 128, by omega⟩ : Fin 2) (⟨r.val % 128, by omega⟩ : Fin 128))) c := by
  rw [val_main_v81_apply, val_main_v80_apply, val_main_v79_apply]
  rw [show idx_main_v79 (idx_main_v80 (ix3 t r c)) = ix3 t (⟨r.val / 128, by omega⟩ : Fin 2) (⟨r.val % 128, by omega⟩ : Fin 128) from
    funext fun a => Fin.ext (by
      match a with
      | ⟨0, _⟩ => show ((t.val * 256 + r.val) * 1 + 0) / 256 = t.val; omega
      | ⟨1, _⟩ => show ((t.val * 256 + r.val) * 1 + 0) / 128 % 2 = r.val / 128; omega
      | ⟨2, _⟩ => show ((t.val * 256 + r.val) * 1 + 0) % 128 = r.val % 128; omega)]
  unfold result out
  refine congrArg (fun s : Ideal .f32 => FloatOps.mulf (F := Ideal) (φ := .f32) s _) ?_
  rw [val_main_v78_apply]
  refine Finset.sum_congr rfl fun k _ => ?_
  rw [show lidx_main_v78 (ix3 t r c) k = ix3 t r k from funext fun a => by
      match a with
      | ⟨0, _⟩ => rfl
      | ⟨1, _⟩ => rfl
      | ⟨2, _⟩ => rfl,
    show ridx_main_v78 (ix3 t r c) k = ix3 t k c from funext fun a => by
      match a with
      | ⟨0, _⟩ => rfl
      | ⟨1, _⟩ => rfl
      | ⟨2, _⟩ => rfl,
    act_apply x0 x1 hR, gatherD x0 x1 hR]

/-- The reference's result on row `r` of tile `t`: line `c` of the row's 24, place `l`. -/
theorem ref_apply (t : Fin 160) (r : Fin 256) (c : Fin 16) (l : Fin 128) :
    val_main_v84 (F := Ideal) x0 x1 x2 x3 x4 x5 x6 x7 (ix2 (⟨t.val * 6144 + (24 * r.val + c.val), by omega⟩ : Fin 983040) l)
      = result x3 x4 x5 x6 x7 (expert x0 x1 hR t) (token x0 x1 hR t r)
          (x2 (ix3 t (⟨r.val / 128, by omega⟩ : Fin 2) (⟨r.val % 128, by omega⟩ : Fin 128))) ⟨128 * c.val + l.val, by omega⟩ := by
  have ht := t.isLt
  have hr := r.isLt
  have hc := c.isLt
  have hl := l.isLt
  rw [val_main_v84_apply]
  rw [show idx_main_v84 (ix2 (⟨t.val * 6144 + (24 * r.val + c.val), by omega⟩ : Fin 983040) l)
      = ix4 t r (⟨c.val, by omega⟩ : Fin 24) l from funext fun a => Fin.ext (by
    match a with
    | ⟨0, _⟩ => show ((t.val * 6144 + (24 * r.val + c.val)) * 128 + l.val) / 786432 = t.val; omega
    | ⟨1, _⟩ => show ((t.val * 6144 + (24 * r.val + c.val)) * 128 + l.val) / 3072 % 256 = r.val; omega
    | ⟨2, _⟩ => show ((t.val * 6144 + (24 * r.val + c.val)) * 128 + l.val) / 128 % 24 = c.val; omega
    | ⟨3, _⟩ => show ((t.val * 6144 + (24 * r.val + c.val)) * 128 + l.val) % 128 = l.val; omega)]
  unfold val_main_v83
  refine (Take.pad_third _ _ _ _ t r c (⟨c.val, by omega⟩ : Fin 24) l rfl).trans ?_
  rw [val_main_v82_apply]
  rw [show idx_main_v82 (ix4 t r c l) = ix3 t r (⟨128 * c.val + l.val, by omega⟩ : Fin 2048) from funext fun a => Fin.ext (by
    match a with
    | ⟨0, _⟩ => show (((t.val * 256 + r.val) * 16 + c.val) * 128 + l.val) / 524288 = t.val; omega
    | ⟨1, _⟩ => show (((t.val * 256 + r.val) * 16 + c.val) * 128 + l.val) / 2048 % 256 = r.val; omega
    | ⟨2, _⟩ => show (((t.val * 256 + r.val) * 16 + c.val) * 128 + l.val) % 2048 = 128 * c.val + l.val; omega)]
  exact out_apply x0 x1 hR x2 x3 x4 x5 x6 x7 t r _

end Cert.RefRead

end
-- ==== Proof.Mask.lean ====
/-
  The places the claim compares, in whole numbers: the 16 lines that hold data of every row in use of every tile below the count.
  A tile whose entry is at least 256 is half full: its first 128 rows are in use; of any other tile all 256 are.
-/
module

public import Idealize.ShloMosaic.Lib.Pointwise
public import Idealize.ShloMosaic.Lib.StableHlo.Predicate
public import Idealize.ShloMosaic.Lib.Affine
public import proofs.«01_k».proof.On_rows_used
public import proofs.«01_k».proof.Proof.Gen.On_rows_used
public import proofs.«01_k».proof.Proof.Ranges

@[expose] public section

set_option maxRecDepth 16384

noncomputable section

namespace Cert.Mask

open Idealize.ShloMosaic Idealize.ShloMosaic.StableHlo.Predicate Cert.On_rows_used

attribute [local instance] Cert.On_rows_used.Gen.facts

/-- The tile a line is in. -/
def tileOf (i : S983040x128.Idx) : Fin 160 := ⟨(i 0).val / 6144, by have := (i 0).isLt; simp at this; omega⟩
/-- The row of the tile. -/
def rowOf (i : S983040x128.Idx) : Fin 256 := ⟨(i 0).val / 24 % 256, by omega⟩
/-- The line of the row. -/
def lineOf (i : S983040x128.Idx) : Fin 24 := ⟨(i 0).val % 24, by omega⟩
/-- The place in the line. -/
def placeOf (i : S983040x128.Idx) : Fin 128 := i 1

theorem line_eq (i : S983040x128.Idx) : (i 0).val = (tileOf i).val * 6144 + (24 * (rowOf i).val + (lineOf i).val) := by
  show (i 0).val = (i 0).val / 6144 * 6144 + (24 * ((i 0).val / 24 % 256) + (i 0).val % 24)
  omega

/-- A line's tile, row and number, from the flat array to the one of four dimensions. -/
theorem reshape_apply {α : Type} (x : S160x256x24x128.Idx → α) (h : S160x256x24x128.ShapeCasts S983040x128) (i : S983040x128.Idx) :
    shapeCast S983040x128 x h i = x (ix4 (tileOf i) (rowOf i) (lineOf i) (placeOf i)) := by
  refine shapeCast_apply x h _ _ ?_
  rw [Shape.rowMajor_val_four, Shape.rowMajor_val_two]
  have := line_eq i
  show (((tileOf i).val * 256 + (rowOf i).val) * 24 + (lineOf i).val) * 128 + (i 1).val = (i 0).val * 128 + (i 1).val
  omega

variable (x0 : IVec S1x256 32)

/-- The tile entries, one for every place. -/
theorem entries_apply (t : Fin 160) (r : Fin 256) (c : Fin 24) (l : Fin 128) :
    broadcastInDim S160x256x24x128 ![0, 1, 2, 3] Facts.bcast_S160x1x1x1_S160x256x24x128_0_1_2_3
      (shapeCast S160x1x1x1 (shapeCast S160 (extractStridedSlice S1x160 ![0, 0] x0 Facts.slices_S1x256_S1x160_0_0)
        Facts.shapeCasts_S1x160_S160) Facts.shapeCasts_S160_S160x1x1x1) (ix4 t r c l)
      = x0 (ix2 (0 : Fin 1) (⟨t.val, by omega⟩ : Fin 256)) := by
  pointwise

/-- The count, one for every place. -/
theorem count_apply (i : S160x256x24x128.Idx) :
    broadcastInDim S160x256x24x128 ![] Facts.bcast_S_S160x256x24x128
      (shapeCast S_ (extractStridedSlice S1x1 ![0, 255] x0 Facts.slices_S1x256_S1x1_0_255) Facts.shapeCasts_S1x1_S_) i
      = x0 (ix2 (0 : Fin 1) (255 : Fin 256)) := by
  pointwise

/-- A place the claim compares: its tile is below the count, its line holds data, and if the tile is half full its row is below 128. -/
theorem used (x1 : IVec S160x2x128 32) (x2 x3 x4 x5 x6 x7) (hR : Ranges.InRange x0 x1) (i : S983040x128.Idx)
    (h : Cert.On_rows_used.fn (F := Ideal) x0 x1 x2 x3 x4 x5 x6 x7 i = 1#1) :
    (tileOf i).val < (x0 (ix2 (0 : Fin 1) (255 : Fin 256))).toNat ∧ (lineOf i).val < 16
      ∧ (256 ≤ (x0 (ix2 (0 : Fin 1) (⟨(tileOf i).val, by omega⟩ : Fin 256))).toNat → (rowOf i).val < 128) := by
  simp only [Cert.On_rows_used.fn, Cert.On_rows_used.fn_part1] at h
  rw [reshape_apply] at h
  simp only [andi, ori, cmpi, noti] at h
  rw [entries_apply, count_apply] at h
  simp only [IntOp.andi_eq_one, IntOp.ori_eq_one] at h
  obtain ⟨⟨h1, h2⟩, h3⟩ := h
  have ht := (tileOf i).isLt
  have hr := (rowOf i).isLt
  have hl := (lineOf i).isLt
  have hc := hR.count_le
  have small : ∀ n : ℕ, n < 256 → (BitVec.ofNat 32 n).toNat = n := fun n hn => by
    rw [BitVec.toNat_ofNat]; omega
  have e1 := (slt_iff_toNat (a := BitVec.ofNat 32 (tileOf i).val) (by rw [small _ (by omega)]; omega) (by omega)).1 h1
  have e2 := (slt_iff_toNat (a := BitVec.ofNat 32 (lineOf i).val) (b := 16#32) (by rw [small _ (by omega)]; omega) (by decide)).1 h2
  rw [small _ (by omega)] at e1 e2
  refine ⟨e1, e2, fun hg => ?_⟩
  rcases h3 with h3 | h3
  · have e3 := (slt_iff_toNat (a := BitVec.ofNat 32 (rowOf i).val) (b := 128#32) (by rw [small _ (by omega)]; omega) (by decide)).1 h3
    rwa [small _ (by omega)] at e3
  · have := (sge_iff_toNat (b := 256#32) (hR.entry_lt (tileOf i)) (by decide)).2 hg
    exact absurd h3 (by
      show ¬ ~~~(IntOp.cmpi .sge _ 256#32) = 1#1
      rw [this]; decide)

end Cert.Mask

end
-- ==== Proof.lean ====
/-
  The certificate: the frames of the kernel, of its reading over the reals and of the reference, that the first two are one program,
  and that the kernel's rows in use are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_lists_in_range
public import proofs.«01_k».proof.Proof.Gen.On_rows_used
public import proofs.«01_k».proof.Proof.Gen.ReferenceIdeal.Run
public import proofs.«01_k».proof.Proof.Gen.ReferenceIdeal.Read
public import proofs.«01_k».proof.Proof.Ranges
public import proofs.«01_k».proof.Proof.Frame
public import proofs.«01_k».proof.Proof.Ideal.Frame
public import proofs.«01_k».proof.Proof.Ideal.Final
public import proofs.«01_k».proof.Proof.Ref
public import proofs.«01_k».proof.Proof.Mask

@[expose] public section

noncomputable section

namespace Cert.Proof

open Idealize.ShloMosaic Idealize.SL.Sem

/-- The kernel's frame. -/
theorem frame_k : Cert.quiescent_Kernel (hKernel := Cert.Kernel.Gen.facts) (hPre_lists_in_range := Cert.Pre_lists_in_range.Gen.facts) :=
  fun m g hp => Cert.Kernel.Hand.frame m g (Cert.Ranges.inRange _ _ _ _ _ _ _ _ (hp 0))

/-- The frame of its reading over the reals. -/
theorem frame_ki : Cert.quiescent_KernelIdeal (hKernelIdeal := Cert.KernelIdeal.Gen.facts) (hPre_lists_in_range := Cert.Pre_lists_in_range.Gen.facts) :=
  fun m g hp => Cert.KernelIdeal.Hand.frame m g (Cert.Ranges.inRange _ _ _ _ _ _ _ _ (hp 0))

/-- The reference's frame: it is a straight line of host operations and has no semaphore. -/
theorem frame_ri : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same from the memories the precondition admits. -/
theorem frame_ri_pre : Cert.quiescent_ReferenceIdeal_pre_lists_in_range (hReferenceIdeal := Cert.ReferenceIdeal.Gen.facts)
    (hPre_lists_in_range := Cert.Pre_lists_in_range.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

section Value

attribute [local instance] Cert.KernelIdeal.Gen.facts Cert.ReferenceIdeal.Gen.facts Cert.Pre_lists_in_range.Gen.facts Cert.On_rows_used.Gen.facts

open Cert.KernelIdeal.Hand in
/-- Where the mask is set, what the kernel leaves in its result is what the reference computes from the same arguments. -/
theorem value_eq (m : (ℓ : Loc Cert.KernelIdeal.nD Cert.KernelIdeal.τ Cert.KernelIdeal.sig) → Buf (Elt Ideal) ℓ)
    (hR : Cert.Ranges.InRange (tile m) (rows m)) (G : Cert.KernelIdeal.S983040x128.Idx → Ideal .f32)
    (h : (rdat m hR 0).ArrAt 7 (cfgA m hR).N G) (i : Cert.KernelIdeal.S983040x128.Idx)
    (hi : Cert.On_rows_used.fn (F := Ideal) (tile m) (rows m) (gates m) (acts m) (wGate m) (sGate m) (wDown m) (sDown m) i = 1#1) :
    G i = Cert.ReferenceIdeal.Read.val_main_v84 (F := Ideal) (tile m) (rows m) (gates m) (acts m) (wGate m) (sGate m) (wDown m) (sDown m) i := by
  obtain ⟨h1, h2, h3⟩ := Cert.Mask.used (tile m) (rows m) _ _ _ _ _ _ hR i hi
  have hl := Cert.Mask.line_eq i
  have hlt := (Cert.Mask.lineOf i).isLt
  have ht := (Cert.Mask.tileOf i).isLt
  have hr := (Cert.Mask.rowOf i).isLt
  have e : i = ix2 (⟨(Cert.Mask.tileOf i).val * 6144 + (24 * (Cert.Mask.rowOf i).val + (Cert.Mask.lineOf i).val), by omega⟩ : Fin 983040)
      (i 1 : Fin 128) := funext fun a => by
    match a with
    | ⟨0, _⟩ => exact Fin.ext hl
    | ⟨1, _⟩ => rfl
  have k := final m hR G h (Cert.Mask.tileOf i) h1 (Cert.Mask.rowOf i) ⟨(Cert.Mask.lineOf i).val, h2⟩ (i 1) h3
  have q := Cert.RefRead.ref_apply (tile m) (rows m) hR (gates m) (acts m) (wGate m) (sGate m) (wDown m) (sDown m) (Cert.Mask.tileOf i)
    (Cert.Mask.rowOf i) ⟨(Cert.Mask.lineOf i).val, h2⟩ (i 1)
  exact (congrArg G e).trans (k.trans (q.symm.trans (congrArg _ e.symm)))

open Cert.KernelIdeal.Hand in
/-- Over the reals the kernel and the reference leave the same on the rows in use. -/
theorem value : Cert.algebraic_KernelIdeal_ReferenceIdeal_on_rows_used (hKernelIdeal := Cert.KernelIdeal.Gen.facts)
    (hReferenceIdeal := Cert.ReferenceIdeal.Gen.facts) (hPre_lists_in_range := Cert.Pre_lists_in_range.Gen.facts)
    (hOn_rows_used := Cert.On_rows_used.Gen.facts) := by
  intro m g m' g' hp ha
  have hR : Cert.Ranges.InRange (tile m) (rows m) := Cert.Ranges.inRange _ _ _ _ _ _ _ _ (hp 0)
  refine ⟨fun c => Cert.ReferenceIdeal.Read.val_main_v84 (F := Ideal) (tile m) (rows m) (gates m) (acts m) (wGate m) (sGate m) (wDown m) (sDown m),
    (θ_run Cert.KernelIdeal.defs _ _).mono (fun r h c => ⟨fun i hi => ?_, args_kept m hR h.1 c⟩) (run_main m g hR),
    (θ_run Cert.ReferenceIdeal.defs _ _).mono (fun r h c => ⟨fun i hi => ?_, (h c).2⟩) (Cert.ReferenceIdeal.Value.run (F := Ideal) m' g')⟩
  · obtain rfl : c = 0 := Subsingleton.elim _ _
    exact value_eq m hR _ ((h.1 0).1 7) i hi
  · obtain rfl : c = 0 := Subsingleton.elim _ _
    obtain ⟨a0, a1, a2, a3, a4, a5, a6, a7⟩ := ha 0
    have e := (h 0).1.trans (Cert.ReferenceIdeal.Read.val_main_v84_eq m' 0)
    rw [a0, a1, a2, a3, a4, a5, a6, a7] at e
    exact congrFun e i

end Value

/-- All the claims. -/
theorem claim : Cert.Claim :=
  ⟨Cert.Kernel.Gen.facts, Cert.KernelIdeal.Gen.facts, Cert.ReferenceIdeal.Gen.facts, Cert.Pre_lists_in_range.Gen.facts,
    Cert.On_rows_used.Gen.facts, frame_k, frame_ki, frame_ri, frame_ri_pre, trivial, value⟩

end Cert.Proof

end
